-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_SsdDec (m : (ℓ : Loc Cert.SsdDec.nD Cert.SsdDec.τ Cert.SsdDec.sig) → Buf (Elt Bits) ℓ) : Prop :=
  True

def Pre_SsdDecIdeal (m : (ℓ : Loc Cert.SsdDecIdeal.nD Cert.SsdDecIdeal.τ Cert.SsdDecIdeal.sig) → Buf (Elt Ideal) ℓ) : Prop :=
  True

def Pre_SsdDecRefIdeal (m : (ℓ : Loc Cert.SsdDecRefIdeal.nD Cert.SsdDecRefIdeal.τ Cert.SsdDecRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInRefIdeal (m : (ℓ : Loc Cert.SsdInRefIdeal.nD Cert.SsdInRefIdeal.τ Cert.SsdInRefIdeal.sig) → Buf (Elt Ideal) ℓ) : Prop :=
  True

def Pre_NsaIn (m : (ℓ : Loc Cert.NsaIn.nD Cert.NsaIn.τ Cert.NsaIn.sig) → Buf (Elt Bits) ℓ) : Prop :=
  True

def Pre_NsaInIdeal (m : (ℓ : Loc Cert.NsaInIdeal.nD Cert.NsaInIdeal.τ Cert.NsaInIdeal.sig) → Buf (Elt Ideal) ℓ) : Prop :=
  True

def Pre_NsaInRefIdeal (m : (ℓ : Loc Cert.NsaInRefIdeal.nD Cert.NsaInRefIdeal.τ Cert.NsaInRefIdeal.sig) → Buf (Elt Ideal) ℓ) : Prop :=
  True

def Pre_MobaIn (m : (ℓ : Loc Cert.MobaIn.nD Cert.MobaIn.τ Cert.MobaIn.sig) → Buf (Elt Bits) ℓ) : Prop :=
  True

def Pre_MobaInIdeal (m : (ℓ : Loc Cert.MobaInIdeal.nD Cert.MobaInIdeal.τ Cert.MobaInIdeal.sig) → Buf (Elt Ideal) ℓ) : Prop :=
  True

def Pre_MobaInRefIdeal (m : (ℓ : Loc Cert.MobaInRefIdeal.nD Cert.MobaInRefIdeal.τ Cert.MobaInRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_SsdDec [hSsdDec : Cert.SsdDec.Facts] : Prop :=
  ∀ (m : (ℓ : Loc Cert.SsdDec.nD Cert.SsdDec.τ Cert.SsdDec.sig) → Buf (Elt Bits) ℓ) (g : Dev Cert.SsdDec.nD → PrngReg), Pre_SsdDec m →
    θ_run (Cert.SsdDec.defs (F := Bits)) (onTc (τ := Cert.SsdDec.τ) (Cert.SsdDec.main (F := Bits))) ⟨m, fun _ => 0, g⟩ (fun r => (∀ c : Dev Cert.SsdDec.nD,
      r.2.mem ((c.tc : Thread Cert.SsdDec.nD Cert.SsdDec.τ).loc Cert.SsdDec.main_arg0) = m ((c.tc : Thread Cert.SsdDec.nD Cert.SsdDec.τ).loc Cert.SsdDec.main_arg0)
      ∧ r.2.mem ((c.tc : Thread Cert.SsdDec.nD Cert.SsdDec.τ).loc Cert.SsdDec.main_arg1) = m ((c.tc : Thread Cert.SsdDec.nD Cert.SsdDec.τ).loc Cert.SsdDec.main_arg1)
      ∧ r.2.mem ((c.tc : Thread Cert.SsdDec.nD Cert.SsdDec.τ).loc Cert.SsdDec.main_arg2) = m ((c.tc : Thread Cert.SsdDec.nD Cert.SsdDec.τ).loc Cert.SsdDec.main_arg2)
      ∧ r.2.mem ((c.tc : Thread Cert.SsdDec.nD Cert.SsdDec.τ).loc Cert.SsdDec.main_arg3) = m ((c.tc : Thread Cert.SsdDec.nD Cert.SsdDec.τ).loc Cert.SsdDec.main_arg3)
      ∧ r.2.mem ((c.tc : Thread Cert.SsdDec.nD Cert.SsdDec.τ).loc Cert.SsdDec.main_arg4) = m ((c.tc : Thread Cert.SsdDec.nD Cert.SsdDec.τ).loc Cert.SsdDec.main_arg4)
      ∧ r.2.mem ((c.tc : Thread Cert.SsdDec.nD Cert.SsdDec.τ).loc Cert.SsdDec.main_arg5) = m ((c.tc : Thread Cert.SsdDec.nD Cert.SsdDec.τ).loc Cert.SsdDec.main_arg5)
      ∧ r.2.mem ((c.tc : Thread Cert.SsdDec.nD Cert.SsdDec.τ).loc Cert.SsdDec.main_arg6) = m ((c.tc : Thread Cert.SsdDec.nD Cert.SsdDec.τ).loc Cert.SsdDec.main_arg6)
      ∧ r.2.mem ((c.tc : Thread Cert.SsdDec.nD Cert.SsdDec.τ).loc Cert.SsdDec.main_arg7) = m ((c.tc : Thread Cert.SsdDec.nD Cert.SsdDec.τ).loc Cert.SsdDec.main_arg7)
      ∧ r.2.mem ((c.tc : Thread Cert.SsdDec.nD Cert.SsdDec.τ).loc Cert.SsdDec.main_arg8) = m ((c.tc : Thread Cert.SsdDec.nD Cert.SsdDec.τ).loc Cert.SsdDec.main_arg8))
      ∧ r.2.sem = fun _ => 0)

def quiescent_SsdDecIdeal [hSsdDecIdeal : Cert.SsdDecIdeal.Facts] : Prop :=
  ∀ (m : (ℓ : Loc Cert.SsdDecIdeal.nD Cert.SsdDecIdeal.τ Cert.SsdDecIdeal.sig) → Buf (Elt Ideal) ℓ) (g : Dev Cert.SsdDecIdeal.nD → PrngReg), Pre_SsdDecIdeal m →
    θ_run (Cert.SsdDecIdeal.defs (F := Ideal)) (onTc (τ := Cert.SsdDecIdeal.τ) (Cert.SsdDecIdeal.main (F := Ideal))) ⟨m, fun _ => 0, g⟩ (fun r => (∀ c : Dev Cert.SsdDecIdeal.nD,
      r.2.mem ((c.tc : Thread Cert.SsdDecIdeal.nD Cert.SsdDecIdeal.τ).loc Cert.SsdDecIdeal.main_arg0) = m ((c.tc : Thread Cert.SsdDecIdeal.nD Cert.SsdDecIdeal.τ).loc Cert.SsdDecIdeal.main_arg0)
      ∧ r.2.mem ((c.tc : Thread Cert.SsdDecIdeal.nD Cert.SsdDecIdeal.τ).loc Cert.SsdDecIdeal.main_arg1) = m ((c.tc : Thread Cert.SsdDecIdeal.nD Cert.SsdDecIdeal.τ).loc Cert.SsdDecIdeal.main_arg1)
      ∧ r.2.mem ((c.tc : Thread Cert.SsdDecIdeal.nD Cert.SsdDecIdeal.τ).loc Cert.SsdDecIdeal.main_arg2) = m ((c.tc : Thread Cert.SsdDecIdeal.nD Cert.SsdDecIdeal.τ).loc Cert.SsdDecIdeal.main_arg2)
      ∧ r.2.mem ((c.tc : Thread Cert.SsdDecIdeal.nD Cert.SsdDecIdeal.τ).loc Cert.SsdDecIdeal.main_arg3) = m ((c.tc : Thread Cert.SsdDecIdeal.nD Cert.SsdDecIdeal.τ).loc Cert.SsdDecIdeal.main_arg3)
      ∧ r.2.mem ((c.tc : Thread Cert.SsdDecIdeal.nD Cert.SsdDecIdeal.τ).loc Cert.SsdDecIdeal.main_arg4) = m ((c.tc : Thread Cert.SsdDecIdeal.nD Cert.SsdDecIdeal.τ).loc Cert.SsdDecIdeal.main_arg4)
      ∧ r.2.mem ((c.tc : Thread Cert.SsdDecIdeal.nD Cert.SsdDecIdeal.τ).loc Cert.SsdDecIdeal.main_arg5) = m ((c.tc : Thread Cert.SsdDecIdeal.nD Cert.SsdDecIdeal.τ).loc Cert.SsdDecIdeal.main_arg5)
      ∧ r.2.mem ((c.tc : Thread Cert.SsdDecIdeal.nD Cert.SsdDecIdeal.τ).loc Cert.SsdDecIdeal.main_arg6) = m ((c.tc : Thread Cert.SsdDecIdeal.nD Cert.SsdDecIdeal.τ).loc Cert.SsdDecIdeal.main_arg6)
      ∧ r.2.mem ((c.tc : Thread Cert.SsdDecIdeal.nD Cert.SsdDecIdeal.τ).loc Cert.SsdDecIdeal.main_arg7) = m ((c.tc : Thread Cert.SsdDecIdeal.nD Cert.SsdDecIdeal.τ).loc Cert.SsdDecIdeal.main_arg7)
      ∧ r.2.mem ((c.tc : Thread Cert.SsdDecIdeal.nD Cert.SsdDecIdeal.τ).loc Cert.SsdDecIdeal.main_arg8) = m ((c.tc : Thread Cert.SsdDecIdeal.nD Cert.SsdDecIdeal.τ).loc Cert.SsdDecIdeal.main_arg8))
      ∧ r.2.sem = fun _ => 0)

def quiescent_SsdDecRefIdeal [hSsdDecRefIdeal : Cert.SsdDecRefIdeal.Facts] : Prop :=
  ∀ (m : (ℓ : Loc Cert.SsdDecRefIdeal.nD Cert.SsdDecRefIdeal.τ Cert.SsdDecRefIdeal.sig) → Buf (Elt Ideal) ℓ) (g : Dev Cert.SsdDecRefIdeal.nD → PrngReg), Pre_SsdDecRefIdeal m →
    θ_run (Cert.SsdDecRefIdeal.defs (F := Ideal)) (onTc (τ := Cert.SsdDecRefIdeal.τ) (Cert.SsdDecRefIdeal.main (F := Ideal))) ⟨m, fun _ => 0, g⟩ (fun r => (∀ c : Dev Cert.SsdDecRefIdeal.nD,
      r.2.mem ((c.tc : Thread Cert.SsdDecRefIdeal.nD Cert.SsdDecRefIdeal.τ).loc Cert.SsdDecRefIdeal.main_arg0) = m ((c.tc : Thread Cert.SsdDecRefIdeal.nD Cert.SsdDecRefIdeal.τ).loc Cert.SsdDecRefIdeal.main_arg0)
      ∧ r.2.mem ((c.tc : Thread Cert.SsdDecRefIdeal.nD Cert.SsdDecRefIdeal.τ).loc Cert.SsdDecRefIdeal.main_arg1) = m ((c.tc : Thread Cert.SsdDecRefIdeal.nD Cert.SsdDecRefIdeal.τ).loc Cert.SsdDecRefIdeal.main_arg1)
      ∧ r.2.mem ((c.tc : Thread Cert.SsdDecRefIdeal.nD Cert.SsdDecRefIdeal.τ).loc Cert.SsdDecRefIdeal.main_arg2) = m ((c.tc : Thread Cert.SsdDecRefIdeal.nD Cert.SsdDecRefIdeal.τ).loc Cert.SsdDecRefIdeal.main_arg2)
      ∧ r.2.mem ((c.tc : Thread Cert.SsdDecRefIdeal.nD Cert.SsdDecRefIdeal.τ).loc Cert.SsdDecRefIdeal.main_arg3) = m ((c.tc : Thread Cert.SsdDecRefIdeal.nD Cert.SsdDecRefIdeal.τ).loc Cert.SsdDecRefIdeal.main_arg3)
      ∧ r.2.mem ((c.tc : Thread Cert.SsdDecRefIdeal.nD Cert.SsdDecRefIdeal.τ).loc Cert.SsdDecRefIdeal.main_arg4) = m ((c.tc : Thread Cert.SsdDecRefIdeal.nD Cert.SsdDecRefIdeal.τ).loc Cert.SsdDecRefIdeal.main_arg4)
      ∧ r.2.mem ((c.tc : Thread Cert.SsdDecRefIdeal.nD Cert.SsdDecRefIdeal.τ).loc Cert.SsdDecRefIdeal.main_arg5) = m ((c.tc : Thread Cert.SsdDecRefIdeal.nD Cert.SsdDecRefIdeal.τ).loc Cert.SsdDecRefIdeal.main_arg5)
      ∧ r.2.mem ((c.tc : Thread Cert.SsdDecRefIdeal.nD Cert.SsdDecRefIdeal.τ).loc Cert.SsdDecRefIdeal.main_arg6) = m ((c.tc : Thread Cert.SsdDecRefIdeal.nD Cert.SsdDecRefIdeal.τ).loc Cert.SsdDecRefIdeal.main_arg6)
      ∧ r.2.mem ((c.tc : Thread Cert.SsdDecRefIdeal.nD Cert.SsdDecRefIdeal.τ).loc Cert.SsdDecRefIdeal.main_arg7) = m ((c.tc : Thread Cert.SsdDecRefIdeal.nD Cert.SsdDecRefIdeal.τ).loc Cert.SsdDecRefIdeal.main_arg7)
      ∧ r.2.mem ((c.tc : Thread Cert.SsdDecRefIdeal.nD Cert.SsdDecRefIdeal.τ).loc Cert.SsdDecRefIdeal.main_arg8) = m ((c.tc : Thread Cert.SsdDecRefIdeal.nD Cert.SsdDecRefIdeal.τ).loc Cert.SsdDecRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1)
      ∧ r.2.mem ((c.tc : Thread Cert.SsdIn.nD Cert.SsdIn.τ).loc Cert.SsdIn.main_arg2) = m ((c.tc : Thread Cert.SsdIn.nD Cert.SsdIn.τ).loc Cert.SsdIn.main_arg2))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2))
      ∧ r.2.sem = fun _ => 0)

def quiescent_SsdInRefIdeal [hSsdInRefIdeal : Cert.SsdInRefIdeal.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1)
      ∧ r.2.mem ((c.tc : Thread Cert.SsdInRefIdeal.nD Cert.SsdInRefIdeal.τ).loc Cert.SsdInRefIdeal.main_arg2) = m ((c.tc : Thread Cert.SsdInRefIdeal.nD Cert.SsdInRefIdeal.τ).loc Cert.SsdInRefIdeal.main_arg2))
      ∧ r.2.sem = fun _ => 0)

def quiescent_NsaIn [hNsaIn : Cert.NsaIn.Facts] : Prop :=
  ∀ (m : (ℓ : Loc Cert.NsaIn.nD Cert.NsaIn.τ Cert.NsaIn.sig) → Buf (Elt Bits) ℓ) (g : Dev Cert.NsaIn.nD → PrngReg), Pre_NsaIn m →
    θ_run (Cert.NsaIn.defs (F := Bits)) (onTc (τ := Cert.NsaIn.τ) (Cert.NsaIn.main (F := Bits))) ⟨m, fun _ => 0, g⟩ (fun r => (∀ c : Dev Cert.NsaIn.nD,
      r.2.mem ((c.tc : Thread Cert.NsaIn.nD Cert.NsaIn.τ).loc Cert.NsaIn.main_arg0) = m ((c.tc : Thread Cert.NsaIn.nD Cert.NsaIn.τ).loc Cert.NsaIn.main_arg0)
      ∧ r.2.mem ((c.tc : Thread Cert.NsaIn.nD Cert.NsaIn.τ).loc Cert.NsaIn.main_arg1) = m ((c.tc : Thread Cert.NsaIn.nD Cert.NsaIn.τ).loc Cert.NsaIn.main_arg1)
      ∧ r.2.mem ((c.tc : Thread Cert.NsaIn.nD Cert.NsaIn.τ).loc Cert.NsaIn.main_arg2) = m ((c.tc : Thread Cert.NsaIn.nD Cert.NsaIn.τ).loc Cert.NsaIn.main_arg2))
      ∧ r.2.sem = fun _ => 0)

def quiescent_NsaInIdeal [hNsaInIdeal : Cert.NsaInIdeal.Facts] : Prop :=
  ∀ (m : (ℓ : Loc Cert.NsaInIdeal.nD Cert.NsaInIdeal.τ Cert.NsaInIdeal.sig) → Buf (Elt Ideal) ℓ) (g : Dev Cert.NsaInIdeal.nD → PrngReg), Pre_NsaInIdeal m →
    θ_run (Cert.NsaInIdeal.defs (F := Ideal)) (onTc (τ := Cert.NsaInIdeal.τ) (Cert.NsaInIdeal.main (F := Ideal))) ⟨m, fun _ => 0, g⟩ (fun r => (∀ c : Dev Cert.NsaInIdeal.nD,
      r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
      ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1)
      ∧ r.2.mem ((c.tc : Thread Cert.NsaInIdeal.nD Cert.NsaInIdeal.τ).loc Cert.NsaInIdeal.main_arg2) = m ((c.tc : Thread Cert.NsaInIdeal.nD Cert.NsaInIdeal.τ).loc Cert.NsaInIdeal.main_arg2))
      ∧ r.2.sem = fun _ => 0)

def quiescent_NsaInRefIdeal [hNsaInRefIdeal : Cert.NsaInRefIdeal.Facts] : Prop :=
  ∀ (m : (ℓ : Loc Cert.NsaInRefIdeal.nD Cert.NsaInRefIdeal.τ Cert.NsaInRefIdeal.sig) → Buf (Elt Ideal) ℓ) (g : Dev Cert.NsaInRefIdeal.nD → PrngReg), Pre_NsaInRefIdeal m →
    θ_run (Cert.NsaInRefIdeal.defs (F := Ideal)) (onTc (τ := Cert.NsaInRefIdeal.τ) (Cert.NsaInRefIdeal.main (F := Ideal))) ⟨m, fun _ => 0, g⟩ (fun r => (∀ c : Dev Cert.NsaInRefIdeal.nD,
      r.2.mem ((c.tc : Thread Cert.NsaInRefIdeal.nD Cert.NsaInRefIdeal.τ).loc Cert.NsaInRefIdeal.main_arg0) = m ((c.tc : Thread Cert.NsaInRefIdeal.nD Cert.NsaInRefIdeal.τ).loc Cert.NsaInRefIdeal.main_arg0)
      ∧ r.2.mem ((c.tc : Thread Cert.NsaInRefIdeal.nD Cert.NsaInRefIdeal.τ).loc Cert.NsaInRefIdeal.main_arg1) = m ((c.tc : Thread Cert.NsaInRefIdeal.nD Cert.NsaInRefIdeal.τ).loc Cert.NsaInRefIdeal.main_arg1)
      ∧ r.2.mem ((c.tc : Thread Cert.NsaInRefIdeal.nD Cert.NsaInRefIdeal.τ).loc Cert.NsaInRefIdeal.main_arg2) = m ((c.tc : Thread Cert.NsaInRefIdeal.nD Cert.NsaInRefIdeal.τ).loc Cert.NsaInRefIdeal.main_arg2))
      ∧ r.2.sem = fun _ => 0)

def quiescent_MobaIn [hMobaIn : Cert.MobaIn.Facts] : Prop :=
  ∀ (m : (ℓ : Loc Cert.MobaIn.nD Cert.MobaIn.τ Cert.MobaIn.sig) → Buf (Elt Bits) ℓ) (g : Dev Cert.MobaIn.nD → PrngReg), Pre_MobaIn m →
    θ_run (Cert.MobaIn.defs (F := Bits)) (onTc (τ := Cert.MobaIn.τ) (Cert.MobaIn.main (F := Bits))) ⟨m, fun _ => 0, g⟩ (fun r => (∀ c : Dev Cert.MobaIn.nD,
      r.2.mem ((c.tc : Thread Cert.MobaIn.nD Cert.MobaIn.τ).loc Cert.MobaIn.main_arg0) = m ((c.tc : Thread Cert.MobaIn.nD Cert.MobaIn.τ).loc Cert.MobaIn.main_arg0)
      ∧ r.2.mem ((c.tc : Thread Cert.MobaIn.nD Cert.MobaIn.τ).loc Cert.MobaIn.main_arg1) = m ((c.tc : Thread Cert.MobaIn.nD Cert.MobaIn.τ).loc Cert.MobaIn.main_arg1)
      ∧ r.2.mem ((c.tc : Thread Cert.MobaIn.nD Cert.MobaIn.τ).loc Cert.MobaIn.main_arg2) = m ((c.tc : Thread Cert.MobaIn.nD Cert.MobaIn.τ).loc Cert.MobaIn.main_arg2))
      ∧ r.2.sem = fun _ => 0)

def quiescent_MobaInIdeal [hMobaInIdeal : Cert.MobaInIdeal.Facts] : Prop :=
  ∀ (m : (ℓ : Loc Cert.MobaInIdeal.nD Cert.MobaInIdeal.τ Cert.MobaInIdeal.sig) → Buf (Elt Ideal) ℓ) (g : Dev Cert.MobaInIdeal.nD → PrngReg), Pre_MobaInIdeal m →
    θ_run (Cert.MobaInIdeal.defs (F := Ideal)) (onTc (τ := Cert.MobaInIdeal.τ) (Cert.MobaInIdeal.main (F := Ideal))) ⟨m, fun _ => 0, g⟩ (fun r => (∀ c : Dev Cert.MobaInIdeal.nD,
      r.2.mem ((c.tc : Thread Cert.MobaInIdeal.nD Cert.MobaInIdeal.τ).loc Cert.MobaInIdeal.main_arg0) = m ((c.tc : Thread Cert.MobaInIdeal.nD Cert.MobaInIdeal.τ).loc Cert.MobaInIdeal.main_arg0)
      ∧ r.2.mem ((c.tc : Thread Cert.MobaInIdeal.nD Cert.MobaInIdeal.τ).loc Cert.MobaInIdeal.main_arg1) = m ((c.tc : Thread Cert.MobaInIdeal.nD Cert.MobaInIdeal.τ).loc Cert.MobaInIdeal.main_arg1)
      ∧ r.2.mem ((c.tc : Thread Cert.MobaInIdeal.nD Cert.MobaInIdeal.τ).loc Cert.MobaInIdeal.main_arg2) = m ((c.tc : Thread Cert.MobaInIdeal.nD Cert.MobaInIdeal.τ).loc Cert.MobaInIdeal.main_arg2))
      ∧ r.2.sem = fun _ => 0)

def quiescent_MobaInRefIdeal [hMobaInRefIdeal : Cert.MobaInRefIdeal.Facts] : Prop :=
  ∀ (m : (ℓ : Loc Cert.MobaInRefIdeal.nD Cert.MobaInRefIdeal.τ Cert.MobaInRefIdeal.sig) → Buf (Elt Ideal) ℓ) (g : Dev Cert.MobaInRefIdeal.nD → PrngReg), Pre_MobaInRefIdeal m →
    θ_run (Cert.MobaInRefIdeal.defs (F := Ideal)) (onTc (τ := Cert.MobaInRefIdeal.τ) (Cert.MobaInRefIdeal.main (F := Ideal))) ⟨m, fun _ => 0, g⟩ (fun r => (∀ c : Dev Cert.MobaInRefIdeal.nD,
      r.2.mem ((c.tc : Thread Cert.MobaInRefIdeal.nD Cert.MobaInRefIdeal.τ).loc Cert.MobaInRefIdeal.main_arg0) = m ((c.tc : Thread Cert.MobaInRefIdeal.nD Cert.MobaInRefIdeal.τ).loc Cert.MobaInRefIdeal.main_arg0)
      ∧ r.2.mem ((c.tc : Thread Cert.MobaInRefIdeal.nD Cert.MobaInRefIdeal.τ).loc Cert.MobaInRefIdeal.main_arg1) = m ((c.tc : Thread Cert.MobaInRefIdeal.nD Cert.MobaInRefIdeal.τ).loc Cert.MobaInRefIdeal.main_arg1)
      ∧ r.2.mem ((c.tc : Thread Cert.MobaInRefIdeal.nD Cert.MobaInRefIdeal.τ).loc Cert.MobaInRefIdeal.main_arg2) = m ((c.tc : Thread Cert.MobaInRefIdeal.nD Cert.MobaInRefIdeal.τ).loc Cert.MobaInRefIdeal.main_arg2))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1)
      ∧ r.2.mem ((c.tc : Thread Cert.AttOutRefIdeal.nD Cert.AttOutRefIdeal.τ).loc Cert.AttOutRefIdeal.main_arg2) = m ((c.tc : Thread Cert.AttOutRefIdeal.nD Cert.AttOutRefIdeal.τ).loc Cert.AttOutRefIdeal.main_arg2))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)) →
    ∃ (v0 : (c : Dev Cert.SsdIdeal.nD) → Buf (Elt Ideal) ((c.tc : Thread Cert.SsdIdeal.nD Cert.SsdIdeal.τ).loc Cert.SsdIdeal.main_v11_0)) (v1 : (c : Dev Cert.SsdIdeal.nD) → Buf (Elt Ideal) ((c.tc : Thread Cert.SsdIdeal.nD Cert.SsdIdeal.τ).loc Cert.SsdIdeal.main_v11_1)) (v2 : (c : Dev Cert.SsdIdeal.nD) → Buf (Elt Ideal) ((c.tc : Thread Cert.SsdIdeal.nD Cert.SsdIdeal.τ).loc Cert.SsdIdeal.main_v11_2)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v11_0) = v0 c
          ∧ r.2.mem ((c.tc : Thread Cert.SsdIdeal.nD Cert.SsdIdeal.τ).loc Cert.SsdIdeal.main_v11_1) = v1 c
          ∧ r.2.mem ((c.tc : Thread Cert.SsdIdeal.nD Cert.SsdIdeal.τ).loc Cert.SsdIdeal.main_v11_2) = v2 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v72) = v0 c
          ∧ r.2.mem ((c.tc : Thread Cert.SsdRefIdeal.nD Cert.SsdRefIdeal.τ).loc Cert.SsdRefIdeal.main_v70) = v1 c
          ∧ r.2.mem ((c.tc : Thread Cert.SsdRefIdeal.nD Cert.SsdRefIdeal.τ).loc Cert.SsdRefIdeal.main_v73) = v2 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6))

def preserves_SsdDec_SsdDecIdeal : Prop :=
  True

def algebraic_SsdDecIdeal_SsdDecRefIdeal [hSsdDecIdeal : Cert.SsdDecIdeal.Facts] [hSsdDecRefIdeal : Cert.SsdDecRefIdeal.Facts] : Prop :=
  ∀ (m : (ℓ : Loc Cert.SsdDecIdeal.nD Cert.SsdDecIdeal.τ Cert.SsdDecIdeal.sig) → Buf (Elt Ideal) ℓ) (g : Dev Cert.SsdDecIdeal.nD → PrngReg)
    (m' : (ℓ : Loc Cert.SsdDecRefIdeal.nD Cert.SsdDecRefIdeal.τ Cert.SsdDecRefIdeal.sig) → Buf (Elt Ideal) ℓ) (g' : Dev Cert.SsdDecRefIdeal.nD → PrngReg), Pre_SsdDecIdeal m →
    (∀ c : Dev Cert.SsdDecIdeal.nD,
      m' ((c.tc : Thread Cert.SsdDecRefIdeal.nD Cert.SsdDecRefIdeal.τ).loc Cert.SsdDecRefIdeal.main_arg0) = m ((c.tc : Thread Cert.SsdDecIdeal.nD Cert.SsdDecIdeal.τ).loc Cert.SsdDecIdeal.main_arg0)
      ∧ m' ((c.tc : Thread Cert.SsdDecRefIdeal.nD Cert.SsdDecRefIdeal.τ).loc Cert.SsdDecRefIdeal.main_arg1) = m ((c.tc : Thread Cert.SsdDecIdeal.nD Cert.SsdDecIdeal.τ).loc Cert.SsdDecIdeal.main_arg1)
      ∧ m' ((c.tc : Thread Cert.SsdDecRefIdeal.nD Cert.SsdDecRefIdeal.τ).loc Cert.SsdDecRefIdeal.main_arg2) = m ((c.tc : Thread Cert.SsdDecIdeal.nD Cert.SsdDecIdeal.τ).loc Cert.SsdDecIdeal.main_arg2)
      ∧ m' ((c.tc : Thread Cert.SsdDecRefIdeal.nD Cert.SsdDecRefIdeal.τ).loc Cert.SsdDecRefIdeal.main_arg3) = m ((c.tc : Thread Cert.SsdDecIdeal.nD Cert.SsdDecIdeal.τ).loc Cert.SsdDecIdeal.main_arg3)
      ∧ m' ((c.tc : Thread Cert.SsdDecRefIdeal.nD Cert.SsdDecRefIdeal.τ).loc Cert.SsdDecRefIdeal.main_arg4) = m ((c.tc : Thread Cert.SsdDecIdeal.nD Cert.SsdDecIdeal.τ).loc Cert.SsdDecIdeal.main_arg4)
      ∧ m' ((c.tc : Thread Cert.SsdDecRefIdeal.nD Cert.SsdDecRefIdeal.τ).loc Cert.SsdDecRefIdeal.main_arg5) = m ((c.tc : Thread Cert.SsdDecIdeal.nD Cert.SsdDecIdeal.τ).loc Cert.SsdDecIdeal.main_arg5)
      ∧ m' ((c.tc : Thread Cert.SsdDecRefIdeal.nD Cert.SsdDecRefIdeal.τ).loc Cert.SsdDecRefIdeal.main_arg6) = m ((c.tc : Thread Cert.SsdDecIdeal.nD Cert.SsdDecIdeal.τ).loc Cert.SsdDecIdeal.main_arg6)
      ∧ m' ((c.tc : Thread Cert.SsdDecRefIdeal.nD Cert.SsdDecRefIdeal.τ).loc Cert.SsdDecRefIdeal.main_arg7) = m ((c.tc : Thread Cert.SsdDecIdeal.nD Cert.SsdDecIdeal.τ).loc Cert.SsdDecIdeal.main_arg7)
      ∧ m' ((c.tc : Thread Cert.SsdDecRefIdeal.nD Cert.SsdDecRefIdeal.τ).loc Cert.SsdDecRefIdeal.main_arg8) = m ((c.tc : Thread Cert.SsdDecIdeal.nD Cert.SsdDecIdeal.τ).loc Cert.SsdDecIdeal.main_arg8)) →
    ∃ (v0 : (c : Dev Cert.SsdDecIdeal.nD) → Buf (Elt Ideal) ((c.tc : Thread Cert.SsdDecIdeal.nD Cert.SsdDecIdeal.τ).loc Cert.SsdDecIdeal.main_v11_1)) (v1 : (c : Dev Cert.SsdDecIdeal.nD) → Buf (Elt Ideal) ((c.tc : Thread Cert.SsdDecIdeal.nD Cert.SsdDecIdeal.τ).loc Cert.SsdDecIdeal.main_v11_2)),
      θ_run (Cert.SsdDecIdeal.defs (F := Ideal)) (onTc (τ := Cert.SsdDecIdeal.τ) (Cert.SsdDecIdeal.main (F := Ideal))) ⟨m, fun _ => 0, g⟩ (fun r => ∀ c : Dev Cert.SsdDecIdeal.nD,
          r.2.mem ((c.tc : Thread Cert.SsdDecIdeal.nD Cert.SsdDecIdeal.τ).loc Cert.SsdDecIdeal.main_v11_1) = v0 c
          ∧ r.2.mem ((c.tc : Thread Cert.SsdDecIdeal.nD Cert.SsdDecIdeal.τ).loc Cert.SsdDecIdeal.main_v11_2) = v1 c
          ∧ r.2.mem ((c.tc : Thread Cert.SsdDecIdeal.nD Cert.SsdDecIdeal.τ).loc Cert.SsdDecIdeal.main_arg0) = m ((c.tc : Thread Cert.SsdDecIdeal.nD Cert.SsdDecIdeal.τ).loc Cert.SsdDecIdeal.main_arg0)
          ∧ r.2.mem ((c.tc : Thread Cert.SsdDecIdeal.nD Cert.SsdDecIdeal.τ).loc Cert.SsdDecIdeal.main_arg1) = m ((c.tc : Thread Cert.SsdDecIdeal.nD Cert.SsdDecIdeal.τ).loc Cert.SsdDecIdeal.main_arg1)
          ∧ r.2.mem ((c.tc : Thread Cert.SsdDecIdeal.nD Cert.SsdDecIdeal.τ).loc Cert.SsdDecIdeal.main_arg2) = m ((c.tc : Thread Cert.SsdDecIdeal.nD Cert.SsdDecIdeal.τ).loc Cert.SsdDecIdeal.main_arg2)
          ∧ r.2.mem ((c.tc : Thread Cert.SsdDecIdeal.nD Cert.SsdDecIdeal.τ).loc Cert.SsdDecIdeal.main_arg3) = m ((c.tc : Thread Cert.SsdDecIdeal.nD Cert.SsdDecIdeal.τ).loc Cert.SsdDecIdeal.main_arg3)
          ∧ r.2.mem ((c.tc : Thread Cert.SsdDecIdeal.nD Cert.SsdDecIdeal.τ).loc Cert.SsdDecIdeal.main_arg4) = m ((c.tc : Thread Cert.SsdDecIdeal.nD Cert.SsdDecIdeal.τ).loc Cert.SsdDecIdeal.main_arg4)
          ∧ r.2.mem ((c.tc : Thread Cert.SsdDecIdeal.nD Cert.SsdDecIdeal.τ).loc Cert.SsdDecIdeal.main_arg5) = m ((c.tc : Thread Cert.SsdDecIdeal.nD Cert.SsdDecIdeal.τ).loc Cert.SsdDecIdeal.main_arg5)
          ∧ r.2.mem ((c.tc : Thread Cert.SsdDecIdeal.nD Cert.SsdDecIdeal.τ).loc Cert.SsdDecIdeal.main_arg6) = m ((c.tc : Thread Cert.SsdDecIdeal.nD Cert.SsdDecIdeal.τ).loc Cert.SsdDecIdeal.main_arg6)
          ∧ r.2.mem ((c.tc : Thread Cert.SsdDecIdeal.nD Cert.SsdDecIdeal.τ).loc Cert.SsdDecIdeal.main_arg7) = m ((c.tc : Thread Cert.SsdDecIdeal.nD Cert.SsdDecIdeal.τ).loc Cert.SsdDecIdeal.main_arg7)
          ∧ r.2.mem ((c.tc : Thread Cert.SsdDecIdeal.nD Cert.SsdDecIdeal.τ).loc Cert.SsdDecIdeal.main_arg8) = m ((c.tc : Thread Cert.SsdDecIdeal.nD Cert.SsdDecIdeal.τ).loc Cert.SsdDecIdeal.main_arg8))
      ∧ θ_run (Cert.SsdDecRefIdeal.defs (F := Ideal)) (onTc (τ := Cert.SsdDecRefIdeal.τ) (Cert.SsdDecRefIdeal.main (F := Ideal))) ⟨m', fun _ => 0, g'⟩ (fun r => ∀ c : Dev Cert.SsdDecRefIdeal.nD,
          r.2.mem ((c.tc : Thread Cert.SsdDecRefIdeal.nD Cert.SsdDecRefIdeal.τ).loc Cert.SsdDecRefIdeal.main_v73) = v0 c
          ∧ r.2.mem ((c.tc : Thread Cert.SsdDecRefIdeal.nD Cert.SsdDecRefIdeal.τ).loc Cert.SsdDecRefIdeal.main_v74) = v1 c
          ∧ r.2.mem ((c.tc : Thread Cert.SsdDecRefIdeal.nD Cert.SsdDecRefIdeal.τ).loc Cert.SsdDecRefIdeal.main_arg0) = m' ((c.tc : Thread Cert.SsdDecRefIdeal.nD Cert.SsdDecRefIdeal.τ).loc Cert.SsdDecRefIdeal.main_arg0)
          ∧ r.2.mem ((c.tc : Thread Cert.SsdDecRefIdeal.nD Cert.SsdDecRefIdeal.τ).loc Cert.SsdDecRefIdeal.main_arg1) = m' ((c.tc : Thread Cert.SsdDecRefIdeal.nD Cert.SsdDecRefIdeal.τ).loc Cert.SsdDecRefIdeal.main_arg1)
          ∧ r.2.mem ((c.tc : Thread Cert.SsdDecRefIdeal.nD Cert.SsdDecRefIdeal.τ).loc Cert.SsdDecRefIdeal.main_arg2) = m' ((c.tc : Thread Cert.SsdDecRefIdeal.nD Cert.SsdDecRefIdeal.τ).loc Cert.SsdDecRefIdeal.main_arg2)
          ∧ r.2.mem ((c.tc : Thread Cert.SsdDecRefIdeal.nD Cert.SsdDecRefIdeal.τ).loc Cert.SsdDecRefIdeal.main_arg3) = m' ((c.tc : Thread Cert.SsdDecRefIdeal.nD Cert.SsdDecRefIdeal.τ).loc Cert.SsdDecRefIdeal.main_arg3)
          ∧ r.2.mem ((c.tc : Thread Cert.SsdDecRefIdeal.nD Cert.SsdDecRefIdeal.τ).loc Cert.SsdDecRefIdeal.main_arg4) = m' ((c.tc : Thread Cert.SsdDecRefIdeal.nD Cert.SsdDecRefIdeal.τ).loc Cert.SsdDecRefIdeal.main_arg4)
          ∧ r.2.mem ((c.tc : Thread Cert.SsdDecRefIdeal.nD Cert.SsdDecRefIdeal.τ).loc Cert.SsdDecRefIdeal.main_arg5) = m' ((c.tc : Thread Cert.SsdDecRefIdeal.nD Cert.SsdDecRefIdeal.τ).loc Cert.SsdDecRefIdeal.main_arg5)
          ∧ r.2.mem ((c.tc : Thread Cert.SsdDecRefIdeal.nD Cert.SsdDecRefIdeal.τ).loc Cert.SsdDecRefIdeal.main_arg6) = m' ((c.tc : Thread Cert.SsdDecRefIdeal.nD Cert.SsdDecRefIdeal.τ).loc Cert.SsdDecRefIdeal.main_arg6)
          ∧ r.2.mem ((c.tc : Thread Cert.SsdDecRefIdeal.nD Cert.SsdDecRefIdeal.τ).loc Cert.SsdDecRefIdeal.main_arg7) = m' ((c.tc : Thread Cert.SsdDecRefIdeal.nD Cert.SsdDecRefIdeal.τ).loc Cert.SsdDecRefIdeal.main_arg7)
          ∧ r.2.mem ((c.tc : Thread Cert.SsdDecRefIdeal.nD Cert.SsdDecRefIdeal.τ).loc Cert.SsdDecRefIdeal.main_arg8) = m' ((c.tc : Thread Cert.SsdDecRefIdeal.nD Cert.SsdDecRefIdeal.τ).loc Cert.SsdDecRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_SsdIn_SsdInIdeal : Prop :=
  True

def algebraic_SsdInIdeal_SsdInRefIdeal [hSsdInIdeal : Cert.SsdInIdeal.Facts] [hSsdInRefIdeal : Cert.SsdInRefIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInRefIdeal.nD Cert.SsdInRefIdeal.τ Cert.SsdInRefIdeal.sig) → Buf (Elt Ideal) ℓ) (g' : Dev Cert.SsdInRefIdeal.nD → PrngReg), Pre_SsdInIdeal m →
    (∀ c : Dev Cert.SsdInIdeal.nD,
      m' ((c.tc : Thread Cert.SsdInRefIdeal.nD Cert.SsdInRefIdeal.τ).loc Cert.SsdInRefIdeal.main_arg0) = m ((c.tc : Thread Cert.SsdInIdeal.nD Cert.SsdInIdeal.τ).loc Cert.SsdInIdeal.main_arg0)
      ∧ m' ((c.tc : Thread Cert.SsdInRefIdeal.nD Cert.SsdInRefIdeal.τ).loc Cert.SsdInRefIdeal.main_arg1) = m ((c.tc : Thread Cert.SsdInIdeal.nD Cert.SsdInIdeal.τ).loc Cert.SsdInIdeal.main_arg1)
      ∧ m' ((c.tc : Thread Cert.SsdInRefIdeal.nD Cert.SsdInRefIdeal.τ).loc Cert.SsdInRefIdeal.main_arg2) = m ((c.tc : Thread Cert.SsdInIdeal.nD Cert.SsdInIdeal.τ).loc Cert.SsdInIdeal.main_arg2)) →
    ∃ (v0 : (c : Dev Cert.SsdInIdeal.nD) → Buf (Elt Ideal) ((c.tc : Thread Cert.SsdInIdeal.nD Cert.SsdInIdeal.τ).loc Cert.SsdInIdeal.main_v3)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v3) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
          ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2))
      ∧ θ_run (Cert.SsdInRefIdeal.defs (F := Ideal)) (onTc (τ := Cert.SsdInRefIdeal.τ) (Cert.SsdInRefIdeal.main (F := Ideal))) ⟨m', fun _ => 0, g'⟩ (fun r => ∀ c : Dev Cert.SsdInRefIdeal.nD,
          r.2.mem ((c.tc : Thread Cert.SsdInRefIdeal.nD Cert.SsdInRefIdeal.τ).loc Cert.SsdInRefIdeal.main_v14) = v0 c
          ∧ r.2.mem ((c.tc : Thread Cert.SsdInRefIdeal.nD Cert.SsdInRefIdeal.τ).loc Cert.SsdInRefIdeal.main_arg0) = m' ((c.tc : Thread Cert.SsdInRefIdeal.nD Cert.SsdInRefIdeal.τ).loc Cert.SsdInRefIdeal.main_arg0)
          ∧ r.2.mem ((c.tc : Thread Cert.SsdInRefIdeal.nD Cert.SsdInRefIdeal.τ).loc Cert.SsdInRefIdeal.main_arg1) = m' ((c.tc : Thread Cert.SsdInRefIdeal.nD Cert.SsdInRefIdeal.τ).loc Cert.SsdInRefIdeal.main_arg1)
          ∧ r.2.mem ((c.tc : Thread Cert.SsdInRefIdeal.nD Cert.SsdInRefIdeal.τ).loc Cert.SsdInRefIdeal.main_arg2) = m' ((c.tc : Thread Cert.SsdInRefIdeal.nD Cert.SsdInRefIdeal.τ).loc Cert.SsdInRefIdeal.main_arg2))

def preserves_NsaIn_NsaInIdeal : Prop :=
  True

def algebraic_NsaInIdeal_NsaInRefIdeal [hNsaInIdeal : Cert.NsaInIdeal.Facts] [hNsaInRefIdeal : Cert.NsaInRefIdeal.Facts] : Prop :=
  ∀ (m : (ℓ : Loc Cert.NsaInIdeal.nD Cert.NsaInIdeal.τ Cert.NsaInIdeal.sig) → Buf (Elt Ideal) ℓ) (g : Dev Cert.NsaInIdeal.nD → PrngReg)
    (m' : (ℓ : Loc Cert.NsaInRefIdeal.nD Cert.NsaInRefIdeal.τ Cert.NsaInRefIdeal.sig) → Buf (Elt Ideal) ℓ) (g' : Dev Cert.NsaInRefIdeal.nD → PrngReg), Pre_NsaInIdeal m →
    (∀ c : Dev Cert.NsaInIdeal.nD,
      m' ((c.tc : Thread Cert.NsaInRefIdeal.nD Cert.NsaInRefIdeal.τ).loc Cert.NsaInRefIdeal.main_arg0) = m ((c.tc : Thread Cert.NsaInIdeal.nD Cert.NsaInIdeal.τ).loc Cert.NsaInIdeal.main_arg0)
      ∧ m' ((c.tc : Thread Cert.NsaInRefIdeal.nD Cert.NsaInRefIdeal.τ).loc Cert.NsaInRefIdeal.main_arg1) = m ((c.tc : Thread Cert.NsaInIdeal.nD Cert.NsaInIdeal.τ).loc Cert.NsaInIdeal.main_arg1)
      ∧ m' ((c.tc : Thread Cert.NsaInRefIdeal.nD Cert.NsaInRefIdeal.τ).loc Cert.NsaInRefIdeal.main_arg2) = m ((c.tc : Thread Cert.NsaInIdeal.nD Cert.NsaInIdeal.τ).loc Cert.NsaInIdeal.main_arg2)) →
    ∃ (v0 : (c : Dev Cert.NsaInIdeal.nD) → Buf (Elt Ideal) ((c.tc : Thread Cert.NsaInIdeal.nD Cert.NsaInIdeal.τ).loc Cert.NsaInIdeal.main_v3)),
      θ_run (Cert.NsaInIdeal.defs (F := Ideal)) (onTc (τ := Cert.NsaInIdeal.τ) (Cert.NsaInIdeal.main (F := Ideal))) ⟨m, fun _ => 0, g⟩ (fun r => ∀ c : Dev Cert.NsaInIdeal.nD,
          r.2.mem ((c.tc : Thread Cert.NsaInIdeal.nD Cert.NsaInIdeal.τ).loc Cert.NsaInIdeal.main_v3) = v0 c
          ∧ r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
          ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1)
          ∧ r.2.mem ((c.tc : Thread Cert.NsaInIdeal.nD Cert.NsaInIdeal.τ).loc Cert.NsaInIdeal.main_arg2) = m ((c.tc : Thread Cert.NsaInIdeal.nD Cert.NsaInIdeal.τ).loc Cert.NsaInIdeal.main_arg2))
      ∧ θ_run (Cert.NsaInRefIdeal.defs (F := Ideal)) (onTc (τ := Cert.NsaInRefIdeal.τ) (Cert.NsaInRefIdeal.main (F := Ideal))) ⟨m', fun _ => 0, g'⟩ (fun r => ∀ c : Dev Cert.NsaInRefIdeal.nD,
          r.2.mem ((c.tc : Thread Cert.NsaInRefIdeal.nD Cert.NsaInRefIdeal.τ).loc Cert.NsaInRefIdeal.main_v14) = v0 c
          ∧ r.2.mem ((c.tc : Thread Cert.NsaInRefIdeal.nD Cert.NsaInRefIdeal.τ).loc Cert.NsaInRefIdeal.main_arg0) = m' ((c.tc : Thread Cert.NsaInRefIdeal.nD Cert.NsaInRefIdeal.τ).loc Cert.NsaInRefIdeal.main_arg0)
          ∧ r.2.mem ((c.tc : Thread Cert.NsaInRefIdeal.nD Cert.NsaInRefIdeal.τ).loc Cert.NsaInRefIdeal.main_arg1) = m' ((c.tc : Thread Cert.NsaInRefIdeal.nD Cert.NsaInRefIdeal.τ).loc Cert.NsaInRefIdeal.main_arg1)
          ∧ r.2.mem ((c.tc : Thread Cert.NsaInRefIdeal.nD Cert.NsaInRefIdeal.τ).loc Cert.NsaInRefIdeal.main_arg2) = m' ((c.tc : Thread Cert.NsaInRefIdeal.nD Cert.NsaInRefIdeal.τ).loc Cert.NsaInRefIdeal.main_arg2))

def preserves_MobaIn_MobaInIdeal : Prop :=
  True

def algebraic_MobaInIdeal_MobaInRefIdeal [hMobaInIdeal : Cert.MobaInIdeal.Facts] [hMobaInRefIdeal : Cert.MobaInRefIdeal.Facts] : Prop :=
  ∀ (m : (ℓ : Loc Cert.MobaInIdeal.nD Cert.MobaInIdeal.τ Cert.MobaInIdeal.sig) → Buf (Elt Ideal) ℓ) (g : Dev Cert.MobaInIdeal.nD → PrngReg)
    (m' : (ℓ : Loc Cert.MobaInRefIdeal.nD Cert.MobaInRefIdeal.τ Cert.MobaInRefIdeal.sig) → Buf (Elt Ideal) ℓ) (g' : Dev Cert.MobaInRefIdeal.nD → PrngReg), Pre_MobaInIdeal m →
    (∀ c : Dev Cert.MobaInIdeal.nD,
      m' ((c.tc : Thread Cert.MobaInRefIdeal.nD Cert.MobaInRefIdeal.τ).loc Cert.MobaInRefIdeal.main_arg0) = m ((c.tc : Thread Cert.MobaInIdeal.nD Cert.MobaInIdeal.τ).loc Cert.MobaInIdeal.main_arg0)
      ∧ m' ((c.tc : Thread Cert.MobaInRefIdeal.nD Cert.MobaInRefIdeal.τ).loc Cert.MobaInRefIdeal.main_arg1) = m ((c.tc : Thread Cert.MobaInIdeal.nD Cert.MobaInIdeal.τ).loc Cert.MobaInIdeal.main_arg1)
      ∧ m' ((c.tc : Thread Cert.MobaInRefIdeal.nD Cert.MobaInRefIdeal.τ).loc Cert.MobaInRefIdeal.main_arg2) = m ((c.tc : Thread Cert.MobaInIdeal.nD Cert.MobaInIdeal.τ).loc Cert.MobaInIdeal.main_arg2)) →
    ∃ (v0 : (c : Dev Cert.MobaInIdeal.nD) → Buf (Elt Ideal) ((c.tc : Thread Cert.MobaInIdeal.nD Cert.MobaInIdeal.τ).loc Cert.MobaInIdeal.main_v2)),
      θ_run (Cert.MobaInIdeal.defs (F := Ideal)) (onTc (τ := Cert.MobaInIdeal.τ) (Cert.MobaInIdeal.main (F := Ideal))) ⟨m, fun _ => 0, g⟩ (fun r => ∀ c : Dev Cert.MobaInIdeal.nD,
          r.2.mem ((c.tc : Thread Cert.MobaInIdeal.nD Cert.MobaInIdeal.τ).loc Cert.MobaInIdeal.main_v2) = v0 c
          ∧ r.2.mem ((c.tc : Thread Cert.MobaInIdeal.nD Cert.MobaInIdeal.τ).loc Cert.MobaInIdeal.main_arg0) = m ((c.tc : Thread Cert.MobaInIdeal.nD Cert.MobaInIdeal.τ).loc Cert.MobaInIdeal.main_arg0)
          ∧ r.2.mem ((c.tc : Thread Cert.MobaInIdeal.nD Cert.MobaInIdeal.τ).loc Cert.MobaInIdeal.main_arg1) = m ((c.tc : Thread Cert.MobaInIdeal.nD Cert.MobaInIdeal.τ).loc Cert.MobaInIdeal.main_arg1)
          ∧ r.2.mem ((c.tc : Thread Cert.MobaInIdeal.nD Cert.MobaInIdeal.τ).loc Cert.MobaInIdeal.main_arg2) = m ((c.tc : Thread Cert.MobaInIdeal.nD Cert.MobaInIdeal.τ).loc Cert.MobaInIdeal.main_arg2))
      ∧ θ_run (Cert.MobaInRefIdeal.defs (F := Ideal)) (onTc (τ := Cert.MobaInRefIdeal.τ) (Cert.MobaInRefIdeal.main (F := Ideal))) ⟨m', fun _ => 0, g'⟩ (fun r => ∀ c : Dev Cert.MobaInRefIdeal.nD,
          r.2.mem ((c.tc : Thread Cert.MobaInRefIdeal.nD Cert.MobaInRefIdeal.τ).loc Cert.MobaInRefIdeal.main_v13) = v0 c
          ∧ r.2.mem ((c.tc : Thread Cert.MobaInRefIdeal.nD Cert.MobaInRefIdeal.τ).loc Cert.MobaInRefIdeal.main_arg0) = m' ((c.tc : Thread Cert.MobaInRefIdeal.nD Cert.MobaInRefIdeal.τ).loc Cert.MobaInRefIdeal.main_arg0)
          ∧ r.2.mem ((c.tc : Thread Cert.MobaInRefIdeal.nD Cert.MobaInRefIdeal.τ).loc Cert.MobaInRefIdeal.main_arg1) = m' ((c.tc : Thread Cert.MobaInRefIdeal.nD Cert.MobaInRefIdeal.τ).loc Cert.MobaInRefIdeal.main_arg1)
          ∧ r.2.mem ((c.tc : Thread Cert.MobaInRefIdeal.nD Cert.MobaInRefIdeal.τ).loc Cert.MobaInRefIdeal.main_arg2) = m' ((c.tc : Thread Cert.MobaInRefIdeal.nD Cert.MobaInRefIdeal.τ).loc Cert.MobaInRefIdeal.main_arg2))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)) →
    ∃ (v0 : (c : Dev Cert.SsdOutIdeal.nD) → Buf (Elt Ideal) ((c.tc : Thread Cert.SsdOutIdeal.nD Cert.SsdOutIdeal.τ).loc Cert.SsdOutIdeal.main_v1)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v1) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v1) = v0 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)
      ∧ m' ((c.tc : Thread Cert.AttOutRefIdeal.nD Cert.AttOutRefIdeal.τ).loc Cert.AttOutRefIdeal.main_arg2) = m ((c.tc : Thread Cert.AttOutIdeal.nD Cert.AttOutIdeal.τ).loc Cert.AttOutIdeal.main_arg2)) →
    ∃ (v0 : (c : Dev Cert.AttOutIdeal.nD) → Buf (Elt Ideal) ((c.tc : Thread Cert.AttOutIdeal.nD Cert.AttOutIdeal.τ).loc Cert.AttOutIdeal.main_v1)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v1) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v1) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1)
          ∧ r.2.mem ((c.tc : Thread Cert.AttOutRefIdeal.nD Cert.AttOutRefIdeal.τ).loc Cert.AttOutRefIdeal.main_arg2) = m' ((c.tc : Thread Cert.AttOutRefIdeal.nD Cert.AttOutRefIdeal.τ).loc Cert.AttOutRefIdeal.main_arg2))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def Claim : Prop :=
  ∃ (hSsd : Cert.Ssd.Facts) (hSsdIdeal : Cert.SsdIdeal.Facts) (hSsdRefIdeal : Cert.SsdRefIdeal.Facts) (hSsdDec : Cert.SsdDec.Facts) (hSsdDecIdeal : Cert.SsdDecIdeal.Facts) (hSsdDecRefIdeal : Cert.SsdDecRefIdeal.Facts) (hFfn : Cert.Ffn.Facts) (hFfnIdeal : Cert.FfnIdeal.Facts) (hFfnRefIdeal : Cert.FfnRefIdeal.Facts) (hSsdIn : Cert.SsdIn.Facts) (hSsdInIdeal : Cert.SsdInIdeal.Facts) (hSsdInRefIdeal : Cert.SsdInRefIdeal.Facts) (hNsaIn : Cert.NsaIn.Facts) (hNsaInIdeal : Cert.NsaInIdeal.Facts) (hNsaInRefIdeal : Cert.NsaInRefIdeal.Facts) (hMobaIn : Cert.MobaIn.Facts) (hMobaInIdeal : Cert.MobaInIdeal.Facts) (hMobaInRefIdeal : Cert.MobaInRefIdeal.Facts) (hSsdOut : Cert.SsdOut.Facts) (hSsdOutIdeal : Cert.SsdOutIdeal.Facts) (hSsdOutRefIdeal : Cert.SsdOutRefIdeal.Facts) (hAttOut : Cert.AttOut.Facts) (hAttOutIdeal : Cert.AttOutIdeal.Facts) (hAttOutRefIdeal : Cert.AttOutRefIdeal.Facts) (hFinalNorm : Cert.FinalNorm.Facts) (hFinalNormIdeal : Cert.FinalNormIdeal.Facts) (hFinalNormRefIdeal : Cert.FinalNormRefIdeal.Facts),
    quiescent_Ssd (hSsd := hSsd)
    ∧ quiescent_SsdIdeal (hSsdIdeal := hSsdIdeal)
    ∧ quiescent_SsdRefIdeal (hSsdRefIdeal := hSsdRefIdeal)
    ∧ quiescent_SsdDec (hSsdDec := hSsdDec)
    ∧ quiescent_SsdDecIdeal (hSsdDecIdeal := hSsdDecIdeal)
    ∧ quiescent_SsdDecRefIdeal (hSsdDecRefIdeal := hSsdDecRefIdeal)
    ∧ quiescent_Ffn (hFfn := hFfn)
    ∧ quiescent_FfnIdeal (hFfnIdeal := hFfnIdeal)
    ∧ quiescent_FfnRefIdeal (hFfnRefIdeal := hFfnRefIdeal)
    ∧ quiescent_SsdIn (hSsdIn := hSsdIn)
    ∧ quiescent_SsdInIdeal (hSsdInIdeal := hSsdInIdeal)
    ∧ quiescent_SsdInRefIdeal (hSsdInRefIdeal := hSsdInRefIdeal)
    ∧ quiescent_NsaIn (hNsaIn := hNsaIn)
    ∧ quiescent_NsaInIdeal (hNsaInIdeal := hNsaInIdeal)
    ∧ quiescent_NsaInRefIdeal (hNsaInRefIdeal := hNsaInRefIdeal)
    ∧ quiescent_MobaIn (hMobaIn := hMobaIn)
    ∧ quiescent_MobaInIdeal (hMobaInIdeal := hMobaInIdeal)
    ∧ quiescent_MobaInRefIdeal (hMobaInRefIdeal := hMobaInRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ preserves_Ssd_SsdIdeal
    ∧ algebraic_SsdIdeal_SsdRefIdeal (hSsdIdeal := hSsdIdeal) (hSsdRefIdeal := hSsdRefIdeal)
    ∧ preserves_SsdDec_SsdDecIdeal
    ∧ algebraic_SsdDecIdeal_SsdDecRefIdeal (hSsdDecIdeal := hSsdDecIdeal) (hSsdDecRefIdeal := hSsdDecRefIdeal)
    ∧ preserves_Ffn_FfnIdeal
    ∧ algebraic_FfnIdeal_FfnRefIdeal (hFfnIdeal := hFfnIdeal) (hFfnRefIdeal := hFfnRefIdeal)
    ∧ preserves_SsdIn_SsdInIdeal
    ∧ algebraic_SsdInIdeal_SsdInRefIdeal (hSsdInIdeal := hSsdInIdeal) (hSsdInRefIdeal := hSsdInRefIdeal)
    ∧ preserves_NsaIn_NsaInIdeal
    ∧ algebraic_NsaInIdeal_NsaInRefIdeal (hNsaInIdeal := hNsaInIdeal) (hNsaInRefIdeal := hNsaInRefIdeal)
    ∧ preserves_MobaIn_MobaInIdeal
    ∧ algebraic_MobaInIdeal_MobaInRefIdeal (hMobaInIdeal := hMobaInIdeal) (hMobaInRefIdeal := hMobaInRefIdeal)
    ∧ preserves_SsdOut_SsdOutIdeal
    ∧ algebraic_SsdOutIdeal_SsdOutRefIdeal (hSsdOutIdeal := hSsdOutIdeal) (hSsdOutRefIdeal := hSsdOutRefIdeal)
    ∧ preserves_AttOut_AttOutIdeal
    ∧ algebraic_AttOutIdeal_AttOutRefIdeal (hAttOutIdeal := hAttOutIdeal) (hAttOutRefIdeal := hAttOutRefIdeal)
    ∧ preserves_FinalNorm_FinalNormIdeal
    ∧ algebraic_FinalNormIdeal_FinalNormRefIdeal (hFinalNormIdeal := hFinalNormIdeal) (hFinalNormRefIdeal := hFinalNormRefIdeal)
-- ==== Ssd.lean ====
abbrev S8256x10752 : Shape := ⟨2, ![8256, 10752]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S_ : Shape := ⟨0, ![]⟩
abbrev S2x8x6144 : Shape := ⟨3, ![2, 8, 6144]⟩
abbrev S2x4096x128 : Shape := ⟨3, ![2, 4096, 128]⟩
abbrev S1x6144 : Shape := ⟨2, ![1, 6144]⟩
abbrev S128 : Shape := ⟨1, ![128]⟩
abbrev S1x128 : Shape := ⟨2, ![1, 128]⟩
abbrev S64x64 : Shape := ⟨2, ![64, 64]⟩
abbrev S1x4096 : Shape := ⟨2, ![1, 4096]⟩
abbrev S8192x4096 : Shape := ⟨2, ![8192, 4096]⟩
abbrev S2x3x6144 : Shape := ⟨3, ![2, 3, 6144]⟩
abbrev S128x4096 : Shape := ⟨2, ![128, 4096]⟩
abbrev S128x1024 : Shape := ⟨2, ![128, 1024]⟩
abbrev S128x128 : Shape := ⟨2, ![128, 128]⟩
abbrev S1x8x6144 : Shape := ⟨3, ![1, 8, 6144]⟩
abbrev S1x4096x128 : Shape := ⟨3, ![1, 4096, 128]⟩
abbrev S1x3x6144 : Shape := ⟨3, ![1, 3, 6144]⟩
abbrev S8x6144 : Shape := ⟨2, ![8, 6144]⟩
abbrev S4096x128 : Shape := ⟨2, ![4096, 128]⟩
abbrev S128x6144 : Shape := ⟨2, ![128, 6144]⟩
abbrev S8x1 : Shape := ⟨2, ![8, 1]⟩
abbrev S8x4096 : Shape := ⟨2, ![8, 4096]⟩
abbrev S120x4096 : Shape := ⟨2, ![120, 4096]⟩
abbrev S3x4096 : Shape := ⟨2, ![3, 4096]⟩
abbrev S1x3x4096 : Shape := ⟨3, ![1, 3, 4096]⟩
abbrev S8x1024 : Shape := ⟨2, ![8, 1024]⟩
abbrev S1x1024 : Shape := ⟨2, ![1, 1024]⟩
abbrev S120x1024 : Shape := ⟨2, ![120, 1024]⟩
abbrev S3x1024 : Shape := ⟨2, ![3, 1024]⟩
abbrev S1x3x1024 : Shape := ⟨3, ![1, 3, 1024]⟩
abbrev S512x128 : Shape := ⟨2, ![512, 128]⟩
abbrev S128x512 : Shape := ⟨2, ![128, 512]⟩
abbrev S128x1 : Shape := ⟨2, ![128, 1]⟩
abbrev S64x128 : Shape := ⟨2, ![64, 128]⟩
abbrev S1x1 : Shape := ⟨2, ![1, 1]⟩
abbrev S1x512 : Shape := ⟨2, ![1, 512]⟩

abbrev nBuf : Space → Nat
  | .hbm => 27
  | .vmem => 29
  | .smem => 0
  | _ => 0

abbrev bufTy : (tb : Table) → Fin (tcTables nBuf tb) → BufTy
  | .hbm, ⟨0, _⟩ => ⟨S8256x10752, .f32⟩
  | .hbm, ⟨1, _⟩ => ⟨S4x6144, .f32⟩
  | .hbm, ⟨2, _⟩ => ⟨S6144, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S4096, .f32⟩
  | .hbm, ⟨7, _⟩ => ⟨S_, .f32⟩
  | .hbm, ⟨8, _⟩ => ⟨S2x8x6144, .f32⟩
  | .hbm, ⟨9, _⟩ => ⟨S_, .f32⟩
  | .hbm, ⟨10, _⟩ => ⟨S2x4096x128, .f32⟩
  | .hbm, ⟨11, _⟩ => ⟨S1x6144, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S64x64, .f32⟩
  | .hbm, ⟨21, _⟩ => ⟨S4096, .f32⟩
  | .hbm, ⟨22, _⟩ => ⟨S1x4096, .f32⟩
  | .hbm, ⟨23, _⟩ => ⟨S1x4096, .f32⟩
  | .hbm, ⟨24, _⟩ => ⟨S8192x4096, .f32⟩
  | .hbm, ⟨25, _⟩ => ⟨S2x3x6144, .f32⟩
  | .hbm, ⟨26, _⟩ => ⟨S2x4096x128, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S1x8x6144, .f32⟩
  | .local _ .vmem, ⟨11, _⟩ => ⟨S1x8x6144, .f32⟩
  | .local _ .vmem, ⟨12, _⟩ => ⟨S1x4096x128, .f32⟩
  | .local _ .vmem, ⟨13, _⟩ => ⟨S1x4096x128, .f32⟩
  | .local _ .vmem, ⟨14, _⟩ => ⟨S4x6144, .f32⟩
  | .local _ .vmem, ⟨15, _⟩ => ⟨S1x6144, .f32⟩
  | .local _ .vmem, ⟨16, _⟩ => ⟨S1x128, .f32⟩
  | .local _ .vmem, ⟨17, _⟩ => ⟨S1x128, .f32⟩
  | .local _ .vmem, ⟨18, _⟩ => ⟨S1x4096, .f32⟩
  | .local _ .vmem, ⟨19, _⟩ => ⟨S1x4096, .f32⟩
  | .local _ .vmem, ⟨20, _⟩ => ⟨S128x4096, .f32⟩
  | .local _ .vmem, ⟨21, _⟩ => ⟨S128x4096, .f32⟩
  | .local _ .vmem, ⟨22, _⟩ => ⟨S1x3x6144, .f32⟩
  | .local _ .vmem, ⟨23, _⟩ => ⟨S1x3x6144, .f32⟩
  | .local _ .vmem, ⟨24, _⟩ => ⟨S1x4096x128, .f32⟩
  | .local _ .vmem, ⟨25, _⟩ => ⟨S1x4096x128, .f32⟩
  | .local _ .vmem, ⟨26, _⟩ => ⟨S8x6144, .f32⟩
  | .local _ .vmem, ⟨27, _⟩ => ⟨S4096x128, .f32⟩
  | .local _ .vmem, ⟨28, _⟩ => ⟨S128x6144, .f32⟩
  | _, _ => ⟨S8256x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v64 : BitVec 1 := Scalar.cmpi .eq arg1 c31_i32
  let v65 : BitVec 32 := Scalar.extui v64
  let c0_i32_21 : BitVec 32 := 0#32
  let v66 : BitVec 1 := Scalar.cmpi .ne v65 c0_i32_21
  v66

def k0_cond3 (i : grid0.Coords) : BitVec 1 :=
  let arg1 : BitVec 32 := BitVec.ofNat 32 (i 1).val
  let c31_i32_48 : BitVec 32 := 31#32
  let v127 : BitVec 1 := Scalar.cmpi .eq arg1 c31_i32_48
  let v128 : BitVec 32 := Scalar.extui v127
  let c0_i32_49 : BitVec 32 := 0#32
  let v129 : BitVec 1 := Scalar.cmpi .ne v128 c0_i32_49
  v129

def k0_cond4 (i : grid0.Coords) : BitVec 1 :=
  let arg1 : BitVec 32 := BitVec.ofNat 32 (i 1).val
  let c31_i32_76 : BitVec 32 := 31#32
  let v190 : BitVec 1 := Scalar.cmpi .eq arg1 c31_i32_76
  let v191 : BitVec 32 := Scalar.extui v190
  let c0_i32_77 : BitVec 32 := 0#32
  let v192 : BitVec 1 := Scalar.cmpi .ne v191 c0_i32_77
  v192

def k0_cond5 (i : grid0.Coords) : BitVec 1 :=
  let arg1 : BitVec 32 := BitVec.ofNat 32 (i 1).val
  let c31_i32_907 : BitVec 32 := 31#32
  let v3288 : BitVec 1 := Scalar.cmpi .eq arg1 c31_i32_907
  let v3289 : BitVec 32 := Scalar.extui v3288
  let c0_i32_908 : BitVec 32 := 0#32
  let v3290 : BitVec 1 := Scalar.cmpi .ne v3289 c0_i32_908
  v3290

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c8_i32 : BitVec 32 := 8#32
  let c0_i32_0 : BitVec 32 := 0#32
  ![v2.toNat, c8_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c9_i32 : BitVec 32 := 9#32
  let c0_i32_0 : BitVec 32 := 0#32
  ![v2.toNat, c9_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c80_i32 : BitVec 32 := 80#32
  let c0_i32_0 : BitVec 32 := 0#32
  ![v2.toNat, c80_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x3x6144 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x4096x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== SsdRefIdeal.lean ====
abbrev S8256x10752 : Shape := ⟨2, ![8256, 10752]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S8192x4096 : Shape := ⟨2, ![8192, 4096]⟩
abbrev S2x4096x4096 : Shape := ⟨3, ![2, 4096, 4096]⟩
abbrev S8192x64 : Shape := ⟨2, ![8192, 64]⟩
abbrev S2x4096x64 : Shape := ⟨3, ![2, 4096, 64]⟩
abbrev S8192x6144 : Shape := ⟨2, ![8192, 6144]⟩
abbrev S2x4096x6144 : Shape := ⟨3, ![2, 4096, 6144]⟩
abbrev S_ : Shape := ⟨0, ![]⟩
abbrev S2x3x6144 : Shape := ⟨3, ![2, 3, 6144]⟩
abbrev S2x4099x6144 : Shape := ⟨3, ![2, 4099, 6144]⟩
abbrev S1x6144 : Shape := ⟨2, ![1, 6144]⟩
abbrev S1x1x6144 : Shape := ⟨3, ![1, 1, 6144]⟩
abbrev S2x4096x64x64 : Shape := ⟨4, ![2, 4096, 64, 64]⟩
abbrev S2x4096x1024 : Shape := ⟨3, ![2, 4096, 1024]⟩
abbrev S2x4096x8x128 : Shape := ⟨4, ![2, 4096, 8, 128]⟩
abbrev S1x1x64 : Shape := ⟨3, ![1, 1, 64]⟩
abbrev S2x8x8x64x128 : Shape := ⟨5, ![2, 8, 8, 64, 128]⟩
abbrev S2x32x128x4096 : Shape := ⟨4, ![2, 32, 128, 4096]⟩
abbrev S32x2x128x4096 : Shape := ⟨4, ![32, 2, 128, 4096]⟩
abbrev S2x32x128x64x64 : Shape := ⟨5, ![2, 32, 128, 64, 64]⟩
abbrev S32x2x128x64x64 : Shape := ⟨5, ![32, 2, 128, 64, 64]⟩
abbrev S2x32x128x64 : Shape := ⟨4, ![2, 32, 128, 64]⟩
abbrev S32x2x128x64 : Shape := ⟨4, ![32, 2, 128, 64]⟩
abbrev S2x32x128x8x128 : Shape := ⟨5, ![2, 32, 128, 8, 128]⟩
abbrev S32x2x128x8x128 : Shape := ⟨5, ![32, 2, 128, 8, 128]⟩
abbrev S1x2x128x4096 : Shape := ⟨4, ![1, 2, 128, 4096]⟩
abbrev S2x128x4096 : Shape := ⟨3, ![2, 128, 4096]⟩
abbrev S1x2x128x64x64 : Shape := ⟨5, ![1, 2, 128, 64, 64]⟩
abbrev S2x128x64x64 : Shape := ⟨4, ![2, 128, 64, 64]⟩
abbrev S1x2x128x64 : Shape := ⟨4, ![1, 2, 128, 64]⟩
abbrev S2x128x64 : Shape := ⟨3, ![2, 128, 64]⟩
abbrev S1x2x128x8x128 : Shape := ⟨5, ![1, 2, 128, 8, 128]⟩
abbrev S2x128x8x128 : Shape := ⟨4, ![2, 128, 8, 128]⟩
abbrev S2x128x8x8x64 : Shape := ⟨5, ![2, 128, 8, 8, 64]⟩
abbrev S2x128x8x8 : Shape := ⟨4, ![2, 128, 8, 8]⟩
abbrev S8x8 : Shape := ⟨2, ![8, 8]⟩
abbrev S1x1x8x8 : Shape := ⟨4, ![1, 1, 8, 8]⟩
abbrev S2x128x8x8x1 : Shape := ⟨5, ![2, 128, 8, 8, 1]⟩
abbrev S128x128 : Shape := ⟨2, ![128, 128]⟩
abbrev S1x128x128x1x1 : Shape := ⟨5, ![1, 128, 128, 1, 1]⟩
abbrev S2x128x1x8x8 : Shape := ⟨5, ![2, 128, 1, 8, 8]⟩
abbrev S2x1x128x8x8 : Shape := ⟨5, ![2, 1, 128, 8, 8]⟩
abbrev S2x128x128x8x8 : Shape := ⟨5, ![2, 128, 128, 8, 8]⟩
abbrev S2x8x128x128 : Shape := ⟨4, ![2, 8, 128, 128]⟩
abbrev S2x128x128x8 : Shape := ⟨4, ![2, 128, 128, 8]⟩
abbrev S2x128x128x8x1 : Shape := ⟨5, ![2, 128, 128, 8, 1]⟩
abbrev S2x1x8x8 : Shape := ⟨4, ![2, 1, 8, 8]⟩
abbrev S64x1 : Shape := ⟨2, ![64, 1]⟩
abbrev S1x1x64x1 : Shape := ⟨4, ![1, 1, 64, 1]⟩
abbrev S2x128x8x512 : Shape := ⟨4, ![2, 128, 8, 512]⟩
abbrev S2x128x8 : Shape := ⟨3, ![2, 128, 8]⟩
abbrev S2x128x8x1 : Shape := ⟨4, ![2, 128, 8, 1]⟩
abbrev S1x1x4096 : Shape := ⟨3, ![1, 1, 4096]⟩
abbrev S2x8x8 : Shape := ⟨3, ![2, 8, 8]⟩
abbrev S2x8x8x1x1 : Shape := ⟨5, ![2, 8, 8, 1, 1]⟩
abbrev S2x4096x128 : Shape := ⟨3, ![2, 4096, 128]⟩

abbrev nBuf : Space → Nat
  | .hbm => 254
  | .vmem => 0
  | .smem => 0
  | _ => 0

abbrev hbmTy0_0 (i : Nat) : BufTy := match i % 128 with
  | 0 => ⟨S8256x10752, .f32⟩
  | 1 => ⟨S4x6144, .f32⟩
  | 2 => ⟨S6144, .f32⟩
  | 3 => ⟨S64, .f32⟩
  | 4 => ⟨S64, .f32⟩
  | 5 => ⟨S64, .f32⟩
  | 6 => ⟨S4096, .f32⟩
  | 7 => ⟨S8192x4096, .f32⟩
  | 8 => ⟨S2x4096x4096, .f32⟩
  | 9 => ⟨S8192x64, .f32⟩
  | 10 => ⟨S2x4096x64, .f32⟩
  | 11 => ⟨S8192x6144, .f32⟩
  | 12 => ⟨S2x4096x6144, .f32⟩
  | 13 => ⟨S_, .f32⟩
  | 14 => ⟨S2x3x6144, .f32⟩
  | 15 => ⟨S2x4099x6144, .f32⟩
  | 16 => ⟨S2x4096x6144, .f32⟩
  | 17 => ⟨S1x6144, .f32⟩
  | 18 => ⟨S6144, .f32⟩
  | 19 => ⟨S1x1x6144, .f32⟩
  | 20 => ⟨S2x4096x6144, .f32⟩
  | 21 => ⟨S2x4096x6144, .f32⟩
  | 22 => ⟨S_, .f32⟩
  | 23 => ⟨S2x4096x6144, .f32⟩
  | 24 => ⟨S2x4096x6144, .f32⟩
  | 25 => ⟨S2x4096x6144, .f32⟩
  | 26 => ⟨S1x6144, .f32⟩
  | 27 => ⟨S6144, .f32⟩
  | 28 => ⟨S1x1x6144, .f32⟩
  | 29 => ⟨S2x4096x6144, .f32⟩
  | 30 => ⟨S2x4096x6144, .f32⟩
  | 31 => ⟨S2x4096x6144, .f32⟩
  | 32 => ⟨S2x4096x6144, .f32⟩
  | 33 => ⟨S1x6144, .f32⟩
  | 34 => ⟨S6144, .f32⟩
  | 35 => ⟨S1x1x6144, .f32⟩
  | 36 => ⟨S2x4096x6144, .f32⟩
  | 37 => ⟨S2x4096x6144, .f32⟩
  | 38 => ⟨S2x4096x6144, .f32⟩
  | 39 => ⟨S2x4096x6144, .f32⟩
  | 40 => ⟨S1x6144, .f32⟩
  | 41 => ⟨S6144, .f32⟩
  | 42 => ⟨S1x1x6144, .f32⟩
  | 43 => ⟨S2x4096x6144, .f32⟩
  | 44 => ⟨S2x4096x6144, .f32⟩
  | 45 => ⟨S2x4096x6144, .f32⟩
  | 46 => ⟨S1x1x6144, .f32⟩
  | 47 => ⟨S2x4096x6144, .f32⟩
  | 48 => ⟨S2x4096x6144, .f32⟩
  | 49 => ⟨S2x4096x6144, .f32⟩
  | 50 => ⟨S2x4096x6144, .f32⟩
  | 51 => ⟨S_, .f32⟩
  | 52 => ⟨S2x4096x6144, .f32⟩
  | 53 => ⟨S2x4096x6144, .f32⟩
  | 54 => ⟨S_, .f32⟩
  | 55 => ⟨S2x4096x6144, .f32⟩
  | 56 => ⟨S2x4096x6144, .f32⟩
  | 57 => ⟨S2x4096x6144, .f32⟩
  | 58 => ⟨S2x4096x4096, .f32⟩
  | 59 => ⟨S2x4096x64x64, .f32⟩
  | 60 => ⟨S2x4096x1024, .f32⟩
  | 61 => ⟨S2x4096x8x128, .f32⟩
  | 62 => ⟨S2x4096x1024, .f32⟩
  | 63 => ⟨S2x4096x8x128, .f32⟩
  | 64 => ⟨S1x1x64, .f32⟩
  | 65 => ⟨S2x4096x64, .f32⟩
  | 66 => ⟨S2x4096x64, .f32⟩
  | 67 => ⟨S_, .f32⟩
  | 68 => ⟨S2x4096x64, .f32⟩
  | 69 => ⟨S2x4096x64, .f32⟩
  | 70 => ⟨S2x4096x64, .f32⟩
  | 71 => ⟨S2x4096x64, .f32⟩
  | 72 => ⟨S2x4096x64, .i1⟩
  | 73 => ⟨S2x4096x64, .f32⟩
  | 74 => ⟨S2x4096x64, .f32⟩
  | 75 => ⟨S2x4096x64, .f32⟩
  | 76 => ⟨S2x4096x64, .f32⟩
  | 77 => ⟨S2x4096x64, .f32⟩
  | 78 => ⟨S2x4096x64, .f32⟩
  | 79 => ⟨S2x4096x64, .f32⟩
  | 80 => ⟨S2x4096x64, .f32⟩
  | 81 => ⟨S64, .f32⟩
  | 82 => ⟨S64, .f32⟩
  | 83 => ⟨S_, .f32⟩
  | 84 => ⟨S2x8x8x64x128, .f32⟩
  | 85 => ⟨S2x32x128x4096, .f32⟩
  | 86 => ⟨S32x2x128x4096, .f32⟩
  | 87 => ⟨S2x32x128x64x64, .f32⟩
  | 88 => ⟨S32x2x128x64x64, .f32⟩
  | 89 => ⟨S2x32x128x64, .f32⟩
  | 90 => ⟨S32x2x128x64, .f32⟩
  | 91 => ⟨S2x32x128x8x128, .f32⟩
  | 92 => ⟨S32x2x128x8x128, .f32⟩
  | 93 => ⟨S2x32x128x8x128, .f32⟩
  | 94 => ⟨S32x2x128x8x128, .f32⟩
  | 95 => ⟨S_, .f32⟩
  | 96 => ⟨S32x2x128x4096, .f32⟩
  | 97 => ⟨S_, .i32⟩
  | 98 => ⟨S32x2x128x4096, .f32⟩
  | 99 => ⟨S32x2x128x64x64, .f32⟩
  | 100 => ⟨S32x2x128x64, .f32⟩
  | 101 => ⟨S32x2x128x8x128, .f32⟩
  | 102 => ⟨S32x2x128x8x128, .f32⟩
  | 103 => ⟨S64, .f32⟩
  | 104 => ⟨S64, .f32⟩
  | 105 => ⟨S4096, .f32⟩
  | 106 => ⟨S_, .i32⟩
  | 107 => ⟨S2x8x8x64x128, .f32⟩
  | 108 => ⟨S32x2x128x4096, .f32⟩
  | 109 => ⟨S_, .i32⟩
  | 110 => ⟨S_, .i1⟩
  | 111 => ⟨S_, .i32⟩
  | 112 => ⟨S_, .i32⟩
  | 113 => ⟨S_, .i32⟩
  | 114 => ⟨S1x2x128x4096, .f32⟩
  | 115 => ⟨S2x128x4096, .f32⟩
  | 116 => ⟨S_, .i32⟩
  | 117 => ⟨S_, .i32⟩
  | 118 => ⟨S_, .i32⟩
  | 119 => ⟨S_, .i32⟩
  | 120 => ⟨S1x2x128x64x64, .f32⟩
  | 121 => ⟨S2x128x64x64, .f32⟩
  | 122 => ⟨S_, .i32⟩
  | 123 => ⟨S_, .i32⟩
  | 124 => ⟨S_, .i32⟩
  | 125 => ⟨S1x2x128x64, .f32⟩
  | 126 => ⟨S2x128x64, .f32⟩
  | 127 => ⟨S_, .i32⟩
  | _ => ⟨S8256x10752, .f32⟩

abbrev hbmTy0_1 (i : Nat) : BufTy := match i % 128 with
  | 0 => ⟨S_, .i32⟩
  | 1 => ⟨S_, .i32⟩
  | 2 => ⟨S_, .i32⟩
  | 3 => ⟨S1x2x128x8x128, .f32⟩
  | 4 => ⟨S2x128x8x128, .f32⟩
  | 5 => ⟨S_, .i32⟩
  | 6 => ⟨S_, .i32⟩
  | 7 => ⟨S_, .i32⟩
  | 8 => ⟨S_, .i32⟩
  | 9 => ⟨S1x2x128x8x128, .f32⟩
  | 10 => ⟨S2x128x8x128, .f32⟩
  | 11 => ⟨S2x128x8x8x64, .f32⟩
  | 12 => ⟨S2x128x8x8, .f32⟩
  | 13 => ⟨S8x8, .f32⟩
  | 14 => ⟨S1x1x8x8, .f32⟩
  | 15 => ⟨S2x128x8x8, .f32⟩
  | 16 => ⟨S2x128x8x8, .f32⟩
  | 17 => ⟨S_, .f32⟩
  | 18 => ⟨S_, .f32⟩
  | 19 => ⟨S2x128x8x8, .f32⟩
  | 20 => ⟨S2x128x8x8x1, .f32⟩
  | 21 => ⟨S2x128x8x8x64, .f32⟩
  | 22 => ⟨S2x128x8x8x64, .f32⟩
  | 23 => ⟨S_, .i1⟩
  | 24 => ⟨S128x128, .i1⟩
  | 25 => ⟨S128x128, .i32⟩
  | 26 => ⟨S_, .i32⟩
  | 27 => ⟨S128x128, .i32⟩
  | 28 => ⟨S128x128, .i32⟩
  | 29 => ⟨S128x128, .i32⟩
  | 30 => ⟨S128x128, .i1⟩
  | 31 => ⟨S_, .i1⟩
  | 32 => ⟨S128x128, .i1⟩
  | 33 => ⟨S128x128, .i1⟩
  | 34 => ⟨S1x128x128x1x1, .i1⟩
  | 35 => ⟨S2x128x1x8x8, .f32⟩
  | 36 => ⟨S2x1x128x8x8, .f32⟩
  | 37 => ⟨S2x128x128x8x8, .f32⟩
  | 38 => ⟨S2x128x128x8x8, .f32⟩
  | 39 => ⟨S2x128x128x8x8, .f32⟩
  | 40 => ⟨S_, .f32⟩
  | 41 => ⟨S_, .f32⟩
  | 42 => ⟨S2x128x128x8x8, .i1⟩
  | 43 => ⟨S2x128x128x8x8, .f32⟩
  | 44 => ⟨S2x128x128x8x8, .f32⟩
  | 45 => ⟨S2x128x128x8x8, .f32⟩
  | 46 => ⟨S2x8x128x128, .f32⟩
  | 47 => ⟨S2x128x128x8, .f32⟩
  | 48 => ⟨S2x128x128x8x1, .f32⟩
  | 49 => ⟨S2x128x128x8x8, .f32⟩
  | 50 => ⟨S2x128x128x8x8, .f32⟩
  | 51 => ⟨S2x8x8x64x128, .f32⟩
  | 52 => ⟨S2x128x8x8x64, .f32⟩
  | 53 => ⟨S2x8x8x64x128, .f32⟩
  | 54 => ⟨S2x128x8x8x64, .f32⟩
  | 55 => ⟨S2x128x8x8, .f32⟩
  | 56 => ⟨S2x128x8x8x1, .f32⟩
  | 57 => ⟨S2x128x8x8x64, .f32⟩
  | 58 => ⟨S2x128x8x8x64, .f32⟩
  | 59 => ⟨S2x1x8x8, .f32⟩
  | 60 => ⟨S2x128x8x8, .f32⟩
  | 61 => ⟨S2x128x8x8, .f32⟩
  | 62 => ⟨S2x128x8x8, .f32⟩
  | 63 => ⟨S2x128x8x8x1, .f32⟩
  | 64 => ⟨S2x128x8x8x64, .f32⟩
  | 65 => ⟨S2x128x8x8x64, .f32⟩
  | 66 => ⟨S2x8x8x64x128, .f32⟩
  | 67 => ⟨S2x128x8x8x64, .f32⟩
  | 68 => ⟨S2x128x64x64, .f32⟩
  | 69 => ⟨S64x1, .f32⟩
  | 70 => ⟨S1x1x64x1, .f32⟩
  | 71 => ⟨S2x128x64x64, .f32⟩
  | 72 => ⟨S2x128x64x64, .f32⟩
  | 73 => ⟨S2x128x64x64, .f32⟩
  | 74 => ⟨S2x128x4096, .f32⟩
  | 75 => ⟨S2x128x4096, .f32⟩
  | 76 => ⟨S2x128x4096, .f32⟩
  | 77 => ⟨S_, .f32⟩
  | 78 => ⟨S2x128x4096, .f32⟩
  | 79 => ⟨S2x128x4096, .f32⟩
  | 80 => ⟨S_, .f32⟩
  | 81 => ⟨S2x128x4096, .f32⟩
  | 82 => ⟨S2x128x4096, .f32⟩
  | 83 => ⟨S2x128x4096, .f32⟩
  | 84 => ⟨S2x128x4096, .f32⟩
  | 85 => ⟨S2x128x8x512, .f32⟩
  | 86 => ⟨S2x128x8x512, .f32⟩
  | 87 => ⟨S_, .f32⟩
  | 88 => ⟨S2x128x8, .f32⟩
  | 89 => ⟨S2x128x8x1, .f32⟩
  | 90 => ⟨S_, .f32⟩
  | 91 => ⟨S2x128x8x1, .f32⟩
  | 92 => ⟨S2x128x8x1, .f32⟩
  | 93 => ⟨S_, .f32⟩
  | 94 => ⟨S2x128x8x1, .f32⟩
  | 95 => ⟨S2x128x8x1, .f32⟩
  | 96 => ⟨S2x128x8x1, .f32⟩
  | 97 => ⟨S2x128x8x512, .f32⟩
  | 98 => ⟨S2x128x8x512, .f32⟩
  | 99 => ⟨S2x128x4096, .f32⟩
  | 100 => ⟨S1x1x4096, .f32⟩
  | 101 => ⟨S2x128x4096, .f32⟩
  | 102 => ⟨S2x128x4096, .f32⟩
  | 103 => ⟨S2x1x8x8, .f32⟩
  | 104 => ⟨S2x8x8, .f32⟩
  | 105 => ⟨S2x8x8, .f32⟩
  | 106 => ⟨S2x8x8x1x1, .f32⟩
  | 107 => ⟨S2x8x8x64x128, .f32⟩
  | 108 => ⟨S2x8x8x64x128, .f32⟩
  | 109 => ⟨S2x8x8x64x128, .f32⟩
  | 110 => ⟨S1x2x128x4096, .f32⟩
  | 111 => ⟨S_, .i32⟩
  | 112 => ⟨S_, .i32⟩
  | 113 => ⟨S_, .i32⟩
  | 114 => ⟨S32x2x128x4096, .f32⟩
  | 115 => ⟨S_, .i32⟩
  | 116 => ⟨S_, .i32⟩
  | 117 => ⟨S8192x6144, .f32⟩
  | 118 => ⟨S2x4096x6144, .f32⟩
  | 119 => ⟨S_, .f32⟩
  | 120 => ⟨S2x3x6144, .f32⟩
  | 121 => ⟨S2x4099x6144, .f32⟩
  | 122 => ⟨S2x3x6144, .f32⟩
  | 123 => ⟨S2x32x128x4096, .f32⟩
  | 124 => ⟨S8192x4096, .f32⟩
  | 125 => ⟨S2x4096x128, .f32⟩
  | _ => ⟨S8256x10752, .f32⟩

abbrev hbmTy (i : Nat) : BufTy := match i / 128 with
  | 0 => hbmTy0_0 i
  | 1 => hbmTy0_1 i
  | _ => ⟨S8256x10752, .f32⟩

abbrev bufTy : (tb : Table) → Fin (tcTables nBuf tb) → BufTy
  | .hbm, ⟨i, _⟩ => hbmTy i
  | _, _ => ⟨S8256x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_1 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_2 : Ref sig .tc := ⟨.hbm, 95, rfl⟩
abbrev main_v64 : Ref sig .tc := ⟨.hbm, 96, rfl⟩
abbrev main_c : Ref sig .tc := ⟨.hbm, 97, rfl⟩
abbrev main_v65_0 : Ref sig .tc := ⟨.hbm, 98, rfl⟩
abbrev main_v65_1 : Ref sig .tc := ⟨.hbm, 99, rfl⟩
abbrev main_v65_2 : Ref sig .tc := ⟨.hbm, 100, rfl⟩
abbrev main_v65_3 : Ref sig .tc := ⟨.hbm, 101, rfl⟩
abbrev main_v65_4 : Ref sig .tc := ⟨.hbm, 102, rfl⟩
abbrev main_v65_5 : Ref sig .tc := ⟨.hbm, 103, rfl⟩
abbrev main_v65_6 : Ref sig .tc := ⟨.hbm, 104, rfl⟩
abbrev main_v65_7 : Ref sig .tc := ⟨.hbm, 105, rfl⟩
abbrev main_v65_8 : Ref sig .tc := ⟨.hbm, 106, rfl⟩
abbrev main_v65_9 : Ref sig .tc := ⟨.hbm, 107, rfl⟩
abbrev main_v65_10 : Ref sig .tc := ⟨.hbm, 108, rfl⟩
abbrev main_while0c_c_14 : Ref sig .tc := ⟨.hbm, 109, rfl⟩
abbrev main_while0c_v74 : Ref sig .tc := ⟨.hbm, 110, rfl⟩
abbrev main_while0b_call2_c : Ref sig .tc := ⟨.hbm, 111, rfl⟩
abbrev main_while0b_call2_c_0 : Ref sig .tc := ⟨.hbm, 112, rfl⟩
abbrev main_while0b_call2_c_1 : Ref sig .tc := ⟨.hbm, 113, rfl⟩
abbrev main_while0b_call2_v0 : Ref sig .tc := ⟨.hbm, 114, rfl⟩
abbrev main_while0b_v74 : Ref sig .tc := ⟨.hbm, 115, rfl⟩
abbrev main_while0b_call3_c : Ref sig .tc := ⟨.hbm, 116, rfl⟩
abbrev main_while0b_call3_c_0 : Ref sig .tc := ⟨.hbm, 117, rfl⟩
abbrev main_while0b_call3_c_1 : Ref sig .tc := ⟨.hbm, 118, rfl⟩
abbrev main_while0b_call3_c_2 : Ref sig .tc := ⟨.hbm, 119, rfl⟩
abbrev main_while0b_call3_v0 : Ref sig .tc := ⟨.hbm, 120, rfl⟩
abbrev main_while0b_v75 : Ref sig .tc := ⟨.hbm, 121, rfl⟩
abbrev main_while0b_call4_c : Ref sig .tc := ⟨.hbm, 122, rfl⟩
abbrev main_while0b_call4_c_0 : Ref sig .tc := ⟨.hbm, 123, rfl⟩
abbrev main_while0b_call4_c_1 : Ref sig .tc := ⟨.hbm, 124, rfl⟩
abbrev main_while0b_call4_v0 : Ref sig .tc := ⟨.hbm, 125, rfl⟩
abbrev main_while0b_v76 : Ref sig .tc := ⟨.hbm, 126, rfl⟩
abbrev main_while0b_call5_c : Ref sig .tc := ⟨.hbm, 127, rfl⟩
abbrev main_while0b_call5_c_0 : Ref sig .tc := ⟨.hbm, 128, rfl⟩
abbrev main_while0b_call5_c_1 : Ref sig .tc := ⟨.hbm, 129, rfl⟩
abbrev main_while0b_call5_c_2 : Ref sig .tc := ⟨.hbm, 130, rfl⟩
abbrev main_while0b_call5_v0 : Ref sig .tc := ⟨.hbm, 131, rfl⟩
abbrev main_while0b_v77 : Ref sig .tc := ⟨.hbm, 132, rfl⟩
abbrev main_while0b_call6_c : Ref sig .tc := ⟨.hbm, 133, rfl⟩
abbrev main_while0b_call6_c_0 : Ref sig .tc := ⟨.hbm, 134, rfl⟩
abbrev main_while0b_call6_c_1 : Ref sig .tc := ⟨.hbm, 135, rfl⟩
abbrev main_while0b_call6_c_2 : Ref sig .tc := ⟨.hbm, 136, rfl⟩
abbrev main_while0b_call6_v0 : Ref sig .tc := ⟨.hbm, 137, rfl⟩
abbrev main_while0b_v78 : Ref sig .tc := ⟨.hbm, 138, rfl⟩
abbrev main_while0b_v79 : Ref sig .tc := ⟨.hbm, 139, rfl⟩
abbrev main_while0b_v80 : Ref sig .tc := ⟨.hbm, 140, rfl⟩
abbrev main_while0b_v81 : Ref sig .tc := ⟨.hbm, 141, rfl⟩
abbrev main_while0b_v82 : Ref sig .tc := ⟨.hbm, 142, rfl⟩
abbrev main_while0b_v83 : Ref sig .tc := ⟨.hbm, 143, rfl⟩
abbrev main_while0b_v84 : Ref sig .tc := ⟨.hbm, 144, rfl⟩
abbrev main_while0b_call7_call0_cst : Ref sig .tc := ⟨.hbm, 145, rfl⟩
abbrev main_while0b_call7_call0_v0 : Ref sig .tc := ⟨.hbm, 146, rfl⟩
abbrev main_while0b_v85 : Ref sig .tc := ⟨.hbm, 147, rfl⟩
abbrev main_while0b_v86 : Ref sig .tc := ⟨.hbm, 148, rfl⟩
abbrev main_while0b_v87 : Ref sig .tc := ⟨.hbm, 149, rfl⟩
abbrev main_while0b_v88 : Ref sig .tc := ⟨.hbm, 150, rfl⟩
abbrev main_while0b_c_14 : Ref sig .tc := ⟨.hbm, 151, rfl⟩
abbrev main_while0b_v89 : Ref sig .tc := ⟨.hbm, 152, rfl⟩
abbrev main_while0b_call8_v0 : Ref sig .tc := ⟨.hbm, 153, rfl⟩
abbrev main_while0b_call8_c : Ref sig .tc := ⟨.hbm, 154, rfl⟩
abbrev main_while0b_call8_v1 : Ref sig .tc := ⟨.hbm, 155, rfl⟩
abbrev main_while0b_call8_v2 : Ref sig .tc := ⟨.hbm, 156, rfl⟩
abbrev main_while0b_call8_v3 : Ref sig .tc := ⟨.hbm, 157, rfl⟩
abbrev main_while0b_call8_v4 : Ref sig .tc := ⟨.hbm, 158, rfl⟩
abbrev main_while0b_call8_c_0 : Ref sig .tc := ⟨.hbm, 159, rfl⟩
abbrev main_while0b_call8_v5 : Ref sig .tc := ⟨.hbm, 160, rfl⟩
abbrev main_while0b_v90 : Ref sig .tc := ⟨.hbm, 161, rfl⟩
abbrev main_while0b_v91 : Ref sig .tc := ⟨.hbm, 162, rfl⟩
abbrev main_while0b_v92 : Ref sig .tc := ⟨.hbm, 163, rfl⟩
abbrev main_while0b_v93 : Ref sig .tc := ⟨.hbm, 164, rfl⟩
abbrev main_while0b_v94 : Ref sig .tc := ⟨.hbm, 165, rfl⟩
abbrev main_while0b_v95 : Ref sig .tc := ⟨.hbm, 166, rfl⟩
abbrev main_while0b_v96 : Ref sig .tc := ⟨.hbm, 167, rfl⟩
abbrev main_while0b_cst_15 : Ref sig .tc := ⟨.hbm, 168, rfl⟩
abbrev main_while0b_call9_v0 : Ref sig .tc := ⟨.hbm, 169, rfl⟩
abbrev main_while0b_call9_v1 : Ref sig .tc := ⟨.hbm, 170, rfl⟩
abbrev main_while0b_call9_v2 : Ref sig .tc := ⟨.hbm, 171, rfl⟩
abbrev main_while0b_v97 : Ref sig .tc := ⟨.hbm, 172, rfl⟩
abbrev main_while0b_v98 : Ref sig .tc := ⟨.hbm, 173, rfl⟩
abbrev main_while0b_v99 : Ref sig .tc := ⟨.hbm, 174, rfl⟩
abbrev main_while0b_v100 : Ref sig .tc := ⟨.hbm, 175, rfl⟩
abbrev main_while0b_v101 : Ref sig .tc := ⟨.hbm, 176, rfl⟩
abbrev main_while0b_v102 : Ref sig .tc := ⟨.hbm, 177, rfl⟩
abbrev main_while0b_v103 : Ref sig .tc := ⟨.hbm, 178, rfl⟩
abbrev main_while0b_v104 : Ref sig .tc := ⟨.hbm, 179, rfl⟩
abbrev main_while0b_v105 : Ref sig .tc := ⟨.hbm, 180, rfl⟩
abbrev main_while0b_v106 : Ref sig .tc := ⟨.hbm, 181, rfl⟩
abbrev main_while0b_v107 : Ref sig .tc := ⟨.hbm, 182, rfl⟩
abbrev main_while0b_v108 : Ref sig .tc := ⟨.hbm, 183, rfl⟩
abbrev main_while0b_v109 : Ref sig .tc := ⟨.hbm, 184, rfl⟩
abbrev main_while0b_v110 : Ref sig .tc := ⟨.hbm, 185, rfl⟩
abbrev main_while0b_v111 : Ref sig .tc := ⟨.hbm, 186, rfl⟩
abbrev main_while0b_v112 : Ref sig .tc := ⟨.hbm, 187, rfl⟩
abbrev main_while0b_v113 : Ref sig .tc := ⟨.hbm, 188, rfl⟩
abbrev main_while0b_v114 : Ref sig .tc := ⟨.hbm, 189, rfl⟩
abbrev main_while0b_v115 : Ref sig .tc := ⟨.hbm, 190, rfl⟩
abbrev main_while0b_v116 : Ref sig .tc := ⟨.hbm, 191, rfl⟩
abbrev main_while0b_v117 : Ref sig .tc := ⟨.hbm, 192, rfl⟩
abbrev main_while0b_v118 : Ref sig .tc := ⟨.hbm, 193, rfl⟩
abbrev main_while0b_v119 : Ref sig .tc := ⟨.hbm, 194, rfl⟩
abbrev main_while0b_v120 : Ref sig .tc := ⟨.hbm, 195, rfl⟩
abbrev main_while0b_v121 : Ref sig .tc := ⟨.hbm, 196, rfl⟩
abbrev main_while0b_v122 : Ref sig .tc := ⟨.hbm, 197, rfl⟩
abbrev main_while0b_v123 : Ref sig .tc := ⟨.hbm, 198, rfl⟩
abbrev main_while0b_v124 : Ref sig .tc := ⟨.hbm, 199, rfl⟩
abbrev main_while0b_v125 : Ref sig .tc := ⟨.hbm, 200, rfl⟩
abbrev main_while0b_v126 : Ref sig .tc := ⟨.hbm, 201, rfl⟩
abbrev main_while0b_v127 : Ref sig .tc := ⟨.hbm, 202, rfl⟩
abbrev main_while0b_call10_v0 : Ref sig .tc := ⟨.hbm, 203, rfl⟩
abbrev main_while0b_call10_v1 : Ref sig .tc := ⟨.hbm, 204, rfl⟩
abbrev main_while0b_call10_cst : Ref sig .tc := ⟨.hbm, 205, rfl⟩
abbrev main_while0b_call10_v2 : Ref sig .tc := ⟨.hbm, 206, rfl⟩
abbrev main_while0b_call10_v3 : Ref sig .tc := ⟨.hbm, 207, rfl⟩
abbrev main_while0b_call10_cst_0 : Ref sig .tc := ⟨.hbm, 208, rfl⟩
abbrev main_while0b_call10_v4 : Ref sig .tc := ⟨.hbm, 209, rfl⟩
abbrev main_while0b_call10_v5 : Ref sig .tc := ⟨.hbm, 210, rfl⟩
abbrev main_while0b_v128 : Ref sig .tc := ⟨.hbm, 211, rfl⟩
abbrev main_while0b_v129 : Ref sig .tc := ⟨.hbm, 212, rfl⟩
abbrev main_while0b_v130 : Ref sig .tc := ⟨.hbm, 213, rfl⟩
abbrev main_while0b_v131 : Ref sig .tc := ⟨.hbm, 214, rfl⟩
abbrev main_while0b_cst_16 : Ref sig .tc := ⟨.hbm, 215, rfl⟩
abbrev main_while0b_v132 : Ref sig .tc := ⟨.hbm, 216, rfl⟩
abbrev main_while0b_v133 : Ref sig .tc := ⟨.hbm, 217, rfl⟩
abbrev main_while0b_cst_17 : Ref sig .tc := ⟨.hbm, 218, rfl⟩
abbrev main_while0b_v134 : Ref sig .tc := ⟨.hbm, 219, rfl⟩
abbrev main_while0b_v135 : Ref sig .tc := ⟨.hbm, 220, rfl⟩
abbrev main_while0b_cst_18 : Ref sig .tc := ⟨.hbm, 221, rfl⟩
abbrev main_while0b_v136 : Ref sig .tc := ⟨.hbm, 222, rfl⟩
abbrev main_while0b_v137 : Ref sig .tc := ⟨.hbm, 223, rfl⟩
abbrev main_while0b_v138 : Ref sig .tc := ⟨.hbm, 224, rfl⟩
abbrev main_while0b_v139 : Ref sig .tc := ⟨.hbm, 225, rfl⟩
abbrev main_while0b_v140 : Ref sig .tc := ⟨.hbm, 226, rfl⟩
abbrev main_while0b_v141 : Ref sig .tc := ⟨.hbm, 227, rfl⟩
abbrev main_while0b_v142 : Ref sig .tc := ⟨.hbm, 228, rfl⟩
abbrev main_while0b_v143 : Ref sig .tc := ⟨.hbm, 229, rfl⟩
abbrev main_while0b_v144 : Ref sig .tc := ⟨.hbm, 230, rfl⟩
abbrev main_while0b_v145 : Ref sig .tc := ⟨.hbm, 231, rfl⟩
abbrev main_while0b_v146 : Ref sig .tc := ⟨.hbm, 232, rfl⟩
abbrev main_while0b_v147 : Ref sig .tc := ⟨.hbm, 233, rfl⟩
abbrev main_while0b_v148 : Ref sig .tc := ⟨.hbm, 234, rfl⟩
abbrev main_while0b_v149 : Ref sig .tc := ⟨.hbm, 235, rfl⟩
abbrev main_while0b_v150 : Ref sig .tc := ⟨.hbm, 236, rfl⟩
abbrev main_while0b_v151 : Ref sig .tc := ⟨.hbm, 237, rfl⟩
abbrev main_while0b_call11_v0 : Ref sig .tc := ⟨.hbm, 238, rfl⟩
abbrev main_while0b_call11_c : Ref sig .tc := ⟨.hbm, 239, rfl⟩
abbrev main_while0b_call11_c_0 : Ref sig .tc := ⟨.hbm, 240, rfl⟩
abbrev main_while0b_call11_c_1 : Ref sig .tc := ⟨.hbm, 241, rfl⟩
abbrev main_while0b_v152 : Ref sig .tc := ⟨.hbm, 242, rfl⟩
abbrev main_while0b_c_19 : Ref sig .tc := ⟨.hbm, 243, rfl⟩
abbrev main_while0b_v153 : Ref sig .tc := ⟨.hbm, 244, rfl⟩
abbrev main_v66 : Ref sig .tc := ⟨.hbm, 245, rfl⟩
abbrev main_v67 : Ref sig .tc := ⟨.hbm, 246, rfl⟩
abbrev main_cst_3 : Ref sig .tc := ⟨.hbm, 247, rfl⟩
abbrev main_v68 : Ref sig .tc := ⟨.hbm, 248, rfl⟩
abbrev main_v69 : Ref sig .tc := ⟨.hbm, 249, rfl⟩
abbrev main_v70 : Ref sig .tc := ⟨.hbm, 250, rfl⟩
abbrev main_v71 : Ref sig .tc := ⟨.hbm, 251, rfl⟩
abbrev main_v72 : Ref sig .tc := ⟨.hbm, 252, rfl⟩
abbrev main_v73 : Ref sig .tc := ⟨.hbm, 253, rfl⟩

abbrev nD : Nat := 1
abbrev τ : Topo := Topo.v7x

variable {F : FTy → Type} [FloatOps F]

abbrev main_while0_count : Scf.Loop 32 := ⟨0#32, 32#32, 1#32⟩
-- ==== SsdDec.lean ====
abbrev S8256x10752 : Shape := ⟨2, ![8256, 10752]⟩
abbrev S8x3x6144 : Shape := ⟨3, ![8, 3, 6144]⟩
abbrev S8x64x64x128 : Shape := ⟨4, ![8, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S_ : Shape := ⟨0, ![]⟩
abbrev S8x8x6144 : Shape := ⟨3, ![8, 8, 6144]⟩
abbrev S8x4096x128 : Shape := ⟨3, ![8, 4096, 128]⟩
abbrev S1x6144 : Shape := ⟨2, ![1, 6144]⟩
abbrev S128 : Shape := ⟨1, ![128]⟩
abbrev S1x128 : Shape := ⟨2, ![1, 128]⟩
abbrev S64x64 : Shape := ⟨2, ![64, 64]⟩
abbrev S1x4096 : Shape := ⟨2, ![1, 4096]⟩
abbrev S64x4096 : Shape := ⟨2, ![64, 4096]⟩
abbrev S8x4096 : Shape := ⟨2, ![8, 4096]⟩
abbrev S8x1024 : Shape := ⟨2, ![8, 1024]⟩
abbrev S8x128 : Shape := ⟨2, ![8, 128]⟩
abbrev S1x8x6144 : Shape := ⟨3, ![1, 8, 6144]⟩
abbrev S1x4096x128 : Shape := ⟨3, ![1, 4096, 128]⟩
abbrev S1x3x6144 : Shape := ⟨3, ![1, 3, 6144]⟩
abbrev S8x6144 : Shape := ⟨2, ![8, 6144]⟩
abbrev S4096x128 : Shape := ⟨2, ![4096, 128]⟩
abbrev S128x6144 : Shape := ⟨2, ![128, 6144]⟩
abbrev S8x1 : Shape := ⟨2, ![8, 1]⟩
abbrev S120x4096 : Shape := ⟨2, ![120, 4096]⟩
abbrev S128x4096 : Shape := ⟨2, ![128, 4096]⟩
abbrev S3x4096 : Shape := ⟨2, ![3, 4096]⟩
abbrev S1x3x4096 : Shape := ⟨3, ![1, 3, 4096]⟩
abbrev S120x1024 : Shape := ⟨2, ![120, 1024]⟩
abbrev S128x1024 : Shape := ⟨2, ![128, 1024]⟩
abbrev S1x1024 : Shape := ⟨2, ![1, 1024]⟩
abbrev S3x1024 : Shape := ⟨2, ![3, 1024]⟩
abbrev S1x3x1024 : Shape := ⟨3, ![1, 3, 1024]⟩
abbrev S128x128 : Shape := ⟨2, ![128, 128]⟩
abbrev S120x128 : Shape := ⟨2, ![120, 128]⟩
abbrev S512x128 : Shape := ⟨2, ![512, 128]⟩
abbrev S128x512 : Shape := ⟨2, ![128, 512]⟩
abbrev S128x1 : Shape := ⟨2, ![128, 1]⟩
abbrev S64x128 : Shape := ⟨2, ![64, 128]⟩
abbrev S1x1 : Shape := ⟨2, ![1, 1]⟩
abbrev S8x512 : Shape := ⟨2, ![8, 512]⟩
abbrev S8 : Shape := ⟨1, ![8]⟩
abbrev S1x512 : Shape := ⟨2, ![1, 512]⟩

abbrev nBuf : Space → Nat
  | .hbm => 29
  | .vmem => 29
  | .smem => 0
  | _ => 0

abbrev bufTy : (tb : Table) → Fin (tcTables nBuf tb) → BufTy
  | .hbm, ⟨0, _⟩ => ⟨S8256x10752, .f32⟩
  | .hbm, ⟨1, _⟩ => ⟨S8x3x6144, .f32⟩
  | .hbm, ⟨2, _⟩ => ⟨S8x64x64x128, .f32⟩
  | .hbm, ⟨3, _⟩ => ⟨S4x6144, .f32⟩
  | .hbm, ⟨4, _⟩ => ⟨S6144, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4096, .f32⟩
  | .hbm, ⟨9, _⟩ => ⟨S_, .i32⟩
  | .hbm, ⟨10, _⟩ => ⟨S_, .f32⟩
  | .hbm, ⟨11, _⟩ => ⟨S8x8x6144, .f32⟩
  | .hbm, ⟨12, _⟩ => ⟨S8x4096x128, .f32⟩
  | .hbm, ⟨13, _⟩ => ⟨S1x6144, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S64x64, .f32⟩
  | .hbm, ⟨23, _⟩ => ⟨S4096, .f32⟩
  | .hbm, ⟨24, _⟩ => ⟨S1x4096, .f32⟩
  | .hbm, ⟨25, _⟩ => ⟨S1x4096, .f32⟩
  | .hbm, ⟨26, _⟩ => ⟨S64x4096, .f32⟩
  | .hbm, ⟨27, _⟩ => ⟨S8x3x6144, .f32⟩
  | .hbm, ⟨28, _⟩ => ⟨S8x4096x128, .f32⟩
  | .local _ .vmem, ⟨0, _⟩ => ⟨S8x4096, .f32⟩
  | .local _ .vmem, ⟨1, _⟩ => ⟨S8x4096, .f32⟩
  | .local _ .vmem, ⟨2, _⟩ => ⟨S8x4096, .f32⟩
  | .local _ .vmem, ⟨3, _⟩ => ⟨S8x4096, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x128, .f32⟩
  | .local _ .vmem, ⟨9, _⟩ => ⟨S8x128, .f32⟩
  | .local _ .vmem, ⟨10, _⟩ => ⟨S1x8x6144, .f32⟩
  | .local _ .vmem, ⟨11, _⟩ => ⟨S1x8x6144, .f32⟩
  | .local _ .vmem, ⟨12, _⟩ => ⟨S1x4096x128, .f32⟩
  | .local _ .vmem, ⟨13, _⟩ => ⟨S1x4096x128, .f32⟩
  | .local _ .vmem, ⟨14, _⟩ => ⟨S4x6144, .f32⟩
  | .local _ .vmem, ⟨15, _⟩ => ⟨S1x6144, .f32⟩
  | .local _ .vmem, ⟨16, _⟩ => ⟨S1x128, .f32⟩
  | .local _ .vmem, ⟨17, _⟩ => ⟨S1x128, .f32⟩
  | .local _ .vmem, ⟨18, _⟩ => ⟨S1x4096, .f32⟩
  | .local _ .vmem, ⟨19, _⟩ => ⟨S1x4096, .f32⟩
  | .local _ .vmem, ⟨20, _⟩ => ⟨S8x4096, .f32⟩
  | .local _ .vmem, ⟨21, _⟩ => ⟨S8x4096, .f32⟩
  | .local _ .vmem, ⟨22, _⟩ => ⟨S1x3x6144, .f32⟩
  | .local _ .vmem, ⟨23, _⟩ => ⟨S1x3x6144, .f32⟩
  | .local _ .vmem, ⟨24, _⟩ => ⟨S1x4096x128, .f32⟩
  | .local _ .vmem, ⟨25, _⟩ => ⟨S1x4096x128, .f32⟩
  | .local _ .vmem, ⟨26, _⟩ => ⟨S8x6144, .f32⟩
  | .local _ .vmem, ⟨27, _⟩ => ⟨S4096x128, .f32⟩
  | .local _ .vmem, ⟨28, _⟩ => ⟨S128x6144, .f32⟩
  | _, _ => ⟨S8256x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_call2_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_21 : BitVec 32 := 0#32
  let v65 : BitVec 1 := Scalar.cmpi .eq arg1 c0_i32_21
  let v66 : BitVec 32 := Scalar.extui v65
  let c0_i32_22 : BitVec 32 := 0#32
  let v67 : BitVec 1 := Scalar.cmpi .ne v66 c0_i32_22
  v67

def k0_cond3 (i : grid0.Coords) : BitVec 1 :=
  let arg1 : BitVec 32 := BitVec.ofNat 32 (i 1).val
  let c0_i32_50 : BitVec 32 := 0#32
  let v129 : BitVec 1 := Scalar.cmpi .eq arg1 c0_i32_50
  let v130 : BitVec 32 := Scalar.extui v129
  let c0_i32_51 : BitVec 32 := 0#32
  let v131 : BitVec 1 := Scalar.cmpi .ne v130 c0_i32_51
  v131

def k0_cond4 (i : grid0.Coords) : BitVec 1 :=
  let arg1 : BitVec 32 := BitVec.ofNat 32 (i 1).val
  let c0_i32_79 : BitVec 32 := 0#32
  let v193 : BitVec 1 := Scalar.cmpi .eq arg1 c0_i32_79
  let v194 : BitVec 32 := Scalar.extui v193
  let c0_i32_80 : BitVec 32 := 0#32
  let v195 : BitVec 1 := Scalar.cmpi .ne v194 c0_i32_80
  v195

def k0_cond5 (i : grid0.Coords) : BitVec 1 :=
  let arg1 : BitVec 32 := BitVec.ofNat 32 (i 1).val
  let c0_i32_913 : BitVec 32 := 0#32
  let v3357 : BitVec 1 := Scalar.cmpi .eq arg1 c0_i32_913
  let v3358 : BitVec 32 := Scalar.extui v3357
  let c0_i32_914 : BitVec 32 := 0#32
  let v3359 : BitVec 1 := Scalar.cmpi .ne v3358 c0_i32_914
  v3359

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c8_i32 : BitVec 32 := 8#32
  let c0_i32 : BitVec 32 := 0#32
  ![v2.toNat, c8_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c9_i32 : BitVec 32 := 9#32
  let c0_i32 : BitVec 32 := 0#32
  ![v2.toNat, c9_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c80_i32 : BitVec 32 := 80#32
  let c0_i32 : BitVec 32 := 0#32
  ![v2.toNat, c80_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S8x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x3x6144 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x4096x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== SsdDecRefIdeal.lean ====
abbrev S8256x10752 : Shape := ⟨2, ![8256, 10752]⟩
abbrev S8x3x6144 : Shape := ⟨3, ![8, 3, 6144]⟩
abbrev S8x64x64x128 : Shape := ⟨4, ![8, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S64x64 : Shape := ⟨2, ![64, 64]⟩
abbrev S8x8x64 : Shape := ⟨3, ![8, 8, 64]⟩
abbrev S64x6144 : Shape := ⟨2, ![64, 6144]⟩
abbrev S8x8x6144 : Shape := ⟨3, ![8, 8, 6144]⟩
abbrev S8x11x6144 : Shape := ⟨3, ![8, 11, 6144]⟩
abbrev S1x6144 : Shape := ⟨2, ![1, 6144]⟩
abbrev S1x1x6144 : Shape := ⟨3, ![1, 1, 6144]⟩
abbrev S_ : Shape := ⟨0, ![]⟩
abbrev S8x8x4096 : Shape := ⟨3, ![8, 8, 4096]⟩
abbrev S8x8x8x8x64 : Shape := ⟨5, ![8, 8, 8, 8, 64]⟩
abbrev S8x8x1024 : Shape := ⟨3, ![8, 8, 1024]⟩
abbrev S8x8x8x128 : Shape := ⟨4, ![8, 8, 8, 128]⟩
abbrev S1x1x64 : Shape := ⟨3, ![1, 1, 64]⟩
abbrev S8x8x8x8 : Shape := ⟨4, ![8, 8, 8, 8]⟩
abbrev S8x8x8x64x128 : Shape := ⟨5, ![8, 8, 8, 64, 128]⟩
abbrev S8x8 : Shape := ⟨2, ![8, 8]⟩
abbrev S1x1x8x8 : Shape := ⟨4, ![1, 1, 8, 8]⟩
abbrev S8x8x8x8x1 : Shape := ⟨5, ![8, 8, 8, 8, 1]⟩
abbrev S8x1x8x8 : Shape := ⟨4, ![8, 1, 8, 8]⟩
abbrev S8x8x8 : Shape := ⟨3, ![8, 8, 8]⟩
abbrev S8x8x8x1x1 : Shape := ⟨5, ![8, 8, 8, 1, 1]⟩
abbrev S8x4096x128 : Shape := ⟨3, ![8, 4096, 128]⟩

abbrev nBuf : Space → Nat
  | .hbm => 108
  | .vmem => 0
  | .smem => 0
  | _ => 0

abbrev bufTy : (tb : Table) → Fin (tcTables nBuf tb) → BufTy
  | .hbm, ⟨0, _⟩ => ⟨S8256x10752, .f32⟩
  | .hbm, ⟨1, _⟩ => ⟨S8x3x6144, .f32⟩
  | .hbm, ⟨2, _⟩ => ⟨S8x64x64x128, .f32⟩
  | .hbm, ⟨3, _⟩ => ⟨S4x6144, .f32⟩
  | .hbm, ⟨4, _⟩ => ⟨S6144, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4096, .f32⟩
  | .hbm, ⟨9, _⟩ => ⟨S64x64, .f32⟩
  | .hbm, ⟨10, _⟩ => ⟨S8x8x64, .f32⟩
  | .hbm, ⟨11, _⟩ => ⟨S64x6144, .f32⟩
  | .hbm, ⟨12, _⟩ => ⟨S8x8x6144, .f32⟩
  | .hbm, ⟨13, _⟩ => ⟨S8x11x6144, .f32⟩
  | .hbm, ⟨14, _⟩ => ⟨S8x8x6144, .f32⟩
  | .hbm, ⟨15, _⟩ => ⟨S1x6144, .f32⟩
  | .hbm, ⟨16, _⟩ => ⟨S6144, .f32⟩
  | .hbm, ⟨17, _⟩ => ⟨S1x1x6144, .f32⟩
  | .hbm, ⟨18, _⟩ => ⟨S8x8x6144, .f32⟩
  | .hbm, ⟨19, _⟩ => ⟨S8x8x6144, .f32⟩
  | .hbm, ⟨20, _⟩ => ⟨S_, .f32⟩
  | .hbm, ⟨21, _⟩ => ⟨S8x8x6144, .f32⟩
  | .hbm, ⟨22, _⟩ => ⟨S8x8x6144, .f32⟩
  | .hbm, ⟨23, _⟩ => ⟨S8x8x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S8x8x6144, .f32⟩
  | .hbm, ⟨28, _⟩ => ⟨S8x8x6144, .f32⟩
  | .hbm, ⟨29, _⟩ => ⟨S8x8x6144, .f32⟩
  | .hbm, ⟨30, _⟩ => ⟨S8x8x6144, .f32⟩
  | .hbm, ⟨31, _⟩ => ⟨S1x6144, .f32⟩
  | .hbm, ⟨32, _⟩ => ⟨S6144, .f32⟩
  | .hbm, ⟨33, _⟩ => ⟨S1x1x6144, .f32⟩
  | .hbm, ⟨34, _⟩ => ⟨S8x8x6144, .f32⟩
  | .hbm, ⟨35, _⟩ => ⟨S8x8x6144, .f32⟩
  | .hbm, ⟨36, _⟩ => ⟨S8x8x6144, .f32⟩
  | .hbm, ⟨37, _⟩ => ⟨S8x8x6144, .f32⟩
  | .hbm, ⟨38, _⟩ => ⟨S1x6144, .f32⟩
  | .hbm, ⟨39, _⟩ => ⟨S6144, .f32⟩
  | .hbm, ⟨40, _⟩ => ⟨S1x1x6144, .f32⟩
  | .hbm, ⟨41, _⟩ => ⟨S8x8x6144, .f32⟩
  | .hbm, ⟨42, _⟩ => ⟨S8x8x6144, .f32⟩
  | .hbm, ⟨43, _⟩ => ⟨S8x8x6144, .f32⟩
  | .hbm, ⟨44, _⟩ => ⟨S1x1x6144, .f32⟩
  | .hbm, ⟨45, _⟩ => ⟨S8x8x6144, .f32⟩
  | .hbm, ⟨46, _⟩ => ⟨S8x8x6144, .f32⟩
  | .hbm, ⟨47, _⟩ => ⟨S8x8x6144, .f32⟩
  | .hbm, ⟨48, _⟩ => ⟨S8x8x6144, .f32⟩
  | .hbm, ⟨49, _⟩ => ⟨S_, .f32⟩
  | .hbm, ⟨50, _⟩ => ⟨S8x8x6144, .f32⟩
  | .hbm, ⟨51, _⟩ => ⟨S8x8x6144, .f32⟩
  | .hbm, ⟨52, _⟩ => ⟨S_, .f32⟩
  | .hbm, ⟨53, _⟩ => ⟨S8x8x6144, .f32⟩
  | .hbm, ⟨54, _⟩ => ⟨S8x8x6144, .f32⟩
  | .hbm, ⟨55, _⟩ => ⟨S8x8x6144, .f32⟩
  | .hbm, ⟨56, _⟩ => ⟨S8x8x4096, .f32⟩
  | .hbm, ⟨57, _⟩ => ⟨S8x8x8x8x64, .f32⟩
  | .hbm, ⟨58, _⟩ => ⟨S8x8x1024, .f32⟩
  | .hbm, ⟨59, _⟩ => ⟨S8x8x8x128, .f32⟩
  | .hbm, ⟨60, _⟩ => ⟨S1x1x64, .f32⟩
  | .hbm, ⟨61, _⟩ => ⟨S8x8x64, .f32⟩
  | .hbm, ⟨62, _⟩ => ⟨S8x8x64, .f32⟩
  | .hbm, ⟨63, _⟩ => ⟨S_, .f32⟩
  | .hbm, ⟨64, _⟩ => ⟨S8x8x64, .f32⟩
  | .hbm, ⟨65, _⟩ => ⟨S8x8x64, .f32⟩
  | .hbm, ⟨66, _⟩ => ⟨S8x8x64, .f32⟩
  | .hbm, ⟨67, _⟩ => ⟨S8x8x64, .f32⟩
  | .hbm, ⟨68, _⟩ => ⟨S8x8x64, .i1⟩
  | .hbm, ⟨69, _⟩ => ⟨S8x8x64, .f32⟩
  | .hbm, ⟨70, _⟩ => ⟨S8x8x64, .f32⟩
  | .hbm, ⟨71, _⟩ => ⟨S8x8x64, .f32⟩
  | .hbm, ⟨72, _⟩ => ⟨S8x8x64, .f32⟩
  | .hbm, ⟨73, _⟩ => ⟨S8x8x64, .f32⟩
  | .hbm, ⟨74, _⟩ => ⟨S8x8x64, .f32⟩
  | .hbm, ⟨75, _⟩ => ⟨S8x8x64, .f32⟩
  | .hbm, ⟨76, _⟩ => ⟨S8x8x64, .f32⟩
  | .hbm, ⟨77, _⟩ => ⟨S8x8x8x8, .f32⟩
  | .hbm, ⟨78, _⟩ => ⟨S64, .f32⟩
  | .hbm, ⟨79, _⟩ => ⟨S64, .f32⟩
  | .hbm, ⟨80, _⟩ => ⟨S8x8x8x64x128, .f32⟩
  | .hbm, ⟨81, _⟩ => ⟨S8x8, .f32⟩
  | .hbm, ⟨82, _⟩ => ⟨S1x1x8x8, .f32⟩
  | .hbm, ⟨83, _⟩ => ⟨S8x8x8x8, .f32⟩
  | .hbm, ⟨84, _⟩ => ⟨S8x8x8x8, .f32⟩
  | .hbm, ⟨85, _⟩ => ⟨S_, .f32⟩
  | .hbm, ⟨86, _⟩ => ⟨S_, .f32⟩
  | .hbm, ⟨87, _⟩ => ⟨S8x8x8x8, .f32⟩
  | .hbm, ⟨88, _⟩ => ⟨S8x8x8x8x1, .f32⟩
  | .hbm, ⟨89, _⟩ => ⟨S8x8x8x8x64, .f32⟩
  | .hbm, ⟨90, _⟩ => ⟨S8x8x8x8x64, .f32⟩
  | .hbm, ⟨91, _⟩ => ⟨S8x1x8x8, .f32⟩
  | .hbm, ⟨92, _⟩ => ⟨S8x8x8x8, .f32⟩
  | .hbm, ⟨93, _⟩ => ⟨S8x8x8x8, .f32⟩
  | .hbm, ⟨94, _⟩ => ⟨S8x8x8x8, .f32⟩
  | .hbm, ⟨95, _⟩ => ⟨S8x8x8x8x1, .f32⟩
  | .hbm, ⟨96, _⟩ => ⟨S8x8x8x8x64, .f32⟩
  | .hbm, ⟨97, _⟩ => ⟨S8x8x8x8x64, .f32⟩
  | .hbm, ⟨98, _⟩ => ⟨S8x8x8x64x128, .f32⟩
  | .hbm, ⟨99, _⟩ => ⟨S8x1x8x8, .f32⟩
  | .hbm, ⟨100, _⟩ => ⟨S8x8x8, .f32⟩
  | .hbm, ⟨101, _⟩ => ⟨S8x8x8, .f32⟩
  | .hbm, ⟨102, _⟩ => ⟨S8x8x8x1x1, .f32⟩
  | .hbm, ⟨103, _⟩ => ⟨S8x8x8x64x128, .f32⟩
  | .hbm, ⟨104, _⟩ => ⟨S8x8x8x64x128, .f32⟩
  | .hbm, ⟨105, _⟩ => ⟨S8x8x8x64x128, .f32⟩
  | .hbm, ⟨106, _⟩ => ⟨S8x3x6144, .f32⟩
  | .hbm, ⟨107, _⟩ => ⟨S8x4096x128, .f32⟩
  | _, _ => ⟨S8256x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call2_call0_cst : Ref sig .tc := ⟨.hbm, 85, rfl⟩
abbrev main_call2_call0_v0 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]
-- ==== Ffn.lean ====
abbrev S8256x2048 : Shape := ⟨2, ![8256, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S688x2048 : Shape := ⟨2, ![688, 2048]⟩
abbrev S2048x512 : Shape := ⟨2, ![2048, 512]⟩
abbrev S512x2048 : Shape := ⟨2, ![512, 2048]⟩
abbrev S688 : Shape := ⟨1, ![688]⟩
abbrev S688x1 : Shape := ⟨2, ![688, 1]⟩
abbrev S688x512 : Shape := ⟨2, ![688, 512]⟩

abbrev nBuf : Space → Nat
  | .hbm => 10
  | .vmem => 13
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S688x2048, .f32⟩
  | .local _ .vmem, ⟨10, _⟩ => ⟨S688x2048, .f32⟩
  | .local _ .vmem, ⟨11, _⟩ => ⟨S688x2048, .bf16⟩
  | .local _ .vmem, ⟨12, _⟩ => ⟨S688x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8256x2048 : Shape := ⟨2, ![8256, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8256 : Shape := ⟨1, ![8256]⟩
abbrev S8256x1 : Shape := ⟨2, ![8256, 1]⟩
abbrev S1x2048 : Shape := ⟨2, ![1, 2048]⟩
abbrev S8256x5632 : Shape := ⟨2, ![8256, 5632]⟩

abbrev nBuf : Space → Nat
  | .hbm => 38
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8256x2048, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S8256x2048, .f32⟩
  | .hbm, ⟨17, _⟩ => ⟨S8256x2048, .f32⟩
  | .hbm, ⟨18, _⟩ => ⟨S1x2048, .f32⟩
  | .hbm, ⟨19, _⟩ => ⟨S8256x2048, .f32⟩
  | .hbm, ⟨20, _⟩ => ⟨S8256x2048, .f32⟩
  | .hbm, ⟨21, _⟩ => ⟨S8256x5632, .f32⟩
  | .hbm, ⟨22, _⟩ => ⟨S8256x5632, .f32⟩
  | .hbm, ⟨23, _⟩ => ⟨S8256x5632, .f32⟩
  | .hbm, ⟨24, _⟩ => ⟨S_, .f32⟩
  | .hbm, ⟨25, _⟩ => ⟨S8256x5632, .f32⟩
  | .hbm, ⟨26, _⟩ => ⟨S8256x5632, .f32⟩
  | .hbm, ⟨27, _⟩ => ⟨S_, .f32⟩
  | .hbm, ⟨28, _⟩ => ⟨S8256x5632, .f32⟩
  | .hbm, ⟨29, _⟩ => ⟨S8256x5632, .f32⟩
  | .hbm, ⟨30, _⟩ => ⟨S8256x5632, .f32⟩
  | .hbm, ⟨31, _⟩ => ⟨S8256x5632, .f32⟩
  | .hbm, ⟨32, _⟩ => ⟨S8256x5632, .f32⟩
  | .hbm, ⟨33, _⟩ => ⟨S8256x2048, .f32⟩
  | .hbm, ⟨34, _⟩ => ⟨S_, .f32⟩
  | .hbm, ⟨35, _⟩ => ⟨S8256x2048, .f32⟩
  | .hbm, ⟨36, _⟩ => ⟨S8256x2048, .f32⟩
  | .hbm, ⟨37, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== SsdIn.lean ====
abbrev S8256x2048 : Shape := ⟨2, ![8256, 2048]⟩
abbrev S2048 : Shape := ⟨1, ![2048]⟩
abbrev S2048x10304 : Shape := ⟨2, ![2048, 10304]⟩
abbrev S_ : Shape := ⟨0, ![]⟩
abbrev S2048x10752 : Shape := ⟨2, ![2048, 10752]⟩
abbrev S1x2048 : Shape := ⟨2, ![1, 2048]⟩
abbrev S8256x10752 : Shape := ⟨2, ![8256, 10752]⟩
abbrev S688x2048 : Shape := ⟨2, ![688, 2048]⟩
abbrev S2048x1536 : Shape := ⟨2, ![2048, 1536]⟩
abbrev S688x1536 : Shape := ⟨2, ![688, 1536]⟩
abbrev S688 : Shape := ⟨1, ![688]⟩
abbrev S688x1 : Shape := ⟨2, ![688, 1]⟩

abbrev nBuf : Space → Nat
  | .hbm => 9
  | .vmem => 8
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x10304, .f32⟩
  | .hbm, ⟨3, _⟩ => ⟨S_, .i32⟩
  | .hbm, ⟨4, _⟩ => ⟨S_, .f32⟩
  | .hbm, ⟨5, _⟩ => ⟨S2048x10752, .f32⟩
  | .hbm, ⟨6, _⟩ => ⟨S2048x10752, .bf16⟩
  | .hbm, ⟨7, _⟩ => ⟨S1x2048, .f32⟩
  | .hbm, ⟨8, _⟩ => ⟨S8256x10752, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S688x1536, .f32⟩
  | .local _ .vmem, ⟨6, _⟩ => ⟨S688x1536, .f32⟩
  | .local _ .vmem, ⟨7, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S688x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdInRefIdeal.lean ====
abbrev S8256x2048 : Shape := ⟨2, ![8256, 2048]⟩
abbrev S2048 : Shape := ⟨1, ![2048]⟩
abbrev S2048x10304 : Shape := ⟨2, ![2048, 10304]⟩
abbrev S_ : Shape := ⟨0, ![]⟩
abbrev S8256 : Shape := ⟨1, ![8256]⟩
abbrev S8256x1 : Shape := ⟨2, ![8256, 1]⟩
abbrev S1x2048 : Shape := ⟨2, ![1, 2048]⟩
abbrev S8256x10304 : Shape := ⟨2, ![8256, 10304]⟩
abbrev S8256x10752 : Shape := ⟨2, ![8256, 10752]⟩

abbrev nBuf : Space → Nat
  | .hbm => 23
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x10304, .f32⟩
  | .hbm, ⟨3, _⟩ => ⟨S8256x2048, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x2048, .f32⟩
  | .hbm, ⟨15, _⟩ => ⟨S8256x2048, .f32⟩
  | .hbm, ⟨16, _⟩ => ⟨S1x2048, .f32⟩
  | .hbm, ⟨17, _⟩ => ⟨S8256x2048, .f32⟩
  | .hbm, ⟨18, _⟩ => ⟨S8256x2048, .f32⟩
  | .hbm, ⟨19, _⟩ => ⟨S8256x10304, .f32⟩
  | .hbm, ⟨20, _⟩ => ⟨S_, .i32⟩
  | .hbm, ⟨21, _⟩ => ⟨S_, .f32⟩
  | .hbm, ⟨22, _⟩ => ⟨S8256x10752, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== NsaIn.lean ====
abbrev S8256x2048 : Shape := ⟨2, ![8256, 2048]⟩
abbrev S2048 : Shape := ⟨1, ![2048]⟩
abbrev S2048x5168 : Shape := ⟨2, ![2048, 5168]⟩
abbrev S_ : Shape := ⟨0, ![]⟩
abbrev S2048x5632 : Shape := ⟨2, ![2048, 5632]⟩
abbrev S1x2048 : Shape := ⟨2, ![1, 2048]⟩
abbrev S8256x5632 : Shape := ⟨2, ![8256, 5632]⟩
abbrev S688x2048 : Shape := ⟨2, ![688, 2048]⟩
abbrev S2048x1408 : Shape := ⟨2, ![2048, 1408]⟩
abbrev S688x1408 : Shape := ⟨2, ![688, 1408]⟩
abbrev S688 : Shape := ⟨1, ![688]⟩
abbrev S688x1 : Shape := ⟨2, ![688, 1]⟩

abbrev nBuf : Space → Nat
  | .hbm => 9
  | .vmem => 8
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x5168, .f32⟩
  | .hbm, ⟨3, _⟩ => ⟨S_, .i32⟩
  | .hbm, ⟨4, _⟩ => ⟨S_, .f32⟩
  | .hbm, ⟨5, _⟩ => ⟨S2048x5632, .f32⟩
  | .hbm, ⟨6, _⟩ => ⟨S2048x5632, .bf16⟩
  | .hbm, ⟨7, _⟩ => ⟨S1x2048, .f32⟩
  | .hbm, ⟨8, _⟩ => ⟨S8256x5632, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x1408, .bf16⟩
  | .local _ .vmem, ⟨4, _⟩ => ⟨S2048x1408, .bf16⟩
  | .local _ .vmem, ⟨5, _⟩ => ⟨S688x1408, .f32⟩
  | .local _ .vmem, ⟨6, _⟩ => ⟨S688x1408, .f32⟩
  | .local _ .vmem, ⟨7, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S688x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NsaInRefIdeal.lean ====
abbrev S8256x2048 : Shape := ⟨2, ![8256, 2048]⟩
abbrev S2048 : Shape := ⟨1, ![2048]⟩
abbrev S2048x5168 : Shape := ⟨2, ![2048, 5168]⟩
abbrev S_ : Shape := ⟨0, ![]⟩
abbrev S8256 : Shape := ⟨1, ![8256]⟩
abbrev S8256x1 : Shape := ⟨2, ![8256, 1]⟩
abbrev S1x2048 : Shape := ⟨2, ![1, 2048]⟩
abbrev S8256x5168 : Shape := ⟨2, ![8256, 5168]⟩
abbrev S8256x5632 : Shape := ⟨2, ![8256, 5632]⟩

abbrev nBuf : Space → Nat
  | .hbm => 23
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x5168, .f32⟩
  | .hbm, ⟨3, _⟩ => ⟨S8256x2048, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x2048, .f32⟩
  | .hbm, ⟨15, _⟩ => ⟨S8256x2048, .f32⟩
  | .hbm, ⟨16, _⟩ => ⟨S1x2048, .f32⟩
  | .hbm, ⟨17, _⟩ => ⟨S8256x2048, .f32⟩
  | .hbm, ⟨18, _⟩ => ⟨S8256x2048, .f32⟩
  | .hbm, ⟨19, _⟩ => ⟨S8256x5168, .f32⟩
  | .hbm, ⟨20, _⟩ => ⟨S_, .i32⟩
  | .hbm, ⟨21, _⟩ => ⟨S_, .f32⟩
  | .hbm, ⟨22, _⟩ => ⟨S8256x5632, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== MobaIn.lean ====
abbrev S8256x2048 : Shape := ⟨2, ![8256, 2048]⟩
abbrev S2048 : Shape := ⟨1, ![2048]⟩
abbrev S2048x3072 : Shape := ⟨2, ![2048, 3072]⟩
abbrev S1x2048 : Shape := ⟨2, ![1, 2048]⟩
abbrev S8256x3072 : Shape := ⟨2, ![8256, 3072]⟩
abbrev S688x2048 : Shape := ⟨2, ![688, 2048]⟩
abbrev S2048x1536 : Shape := ⟨2, ![2048, 1536]⟩
abbrev S688x1536 : Shape := ⟨2, ![688, 1536]⟩
abbrev S688 : Shape := ⟨1, ![688]⟩
abbrev S688x1 : Shape := ⟨2, ![688, 1]⟩

abbrev nBuf : Space → Nat
  | .hbm => 6
  | .vmem => 8
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x3072, .f32⟩
  | .hbm, ⟨3, _⟩ => ⟨S2048x3072, .bf16⟩
  | .hbm, ⟨4, _⟩ => ⟨S1x2048, .f32⟩
  | .hbm, ⟨5, _⟩ => ⟨S8256x3072, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S688x1536, .f32⟩
  | .local _ .vmem, ⟨6, _⟩ => ⟨S688x1536, .f32⟩
  | .local _ .vmem, ⟨7, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S688x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MobaInRefIdeal.lean ====
abbrev S8256x2048 : Shape := ⟨2, ![8256, 2048]⟩
abbrev S2048 : Shape := ⟨1, ![2048]⟩
abbrev S2048x3072 : Shape := ⟨2, ![2048, 3072]⟩
abbrev S_ : Shape := ⟨0, ![]⟩
abbrev S8256 : Shape := ⟨1, ![8256]⟩
abbrev S8256x1 : Shape := ⟨2, ![8256, 1]⟩
abbrev S1x2048 : Shape := ⟨2, ![1, 2048]⟩
abbrev S8256x3072 : Shape := ⟨2, ![8256, 3072]⟩

abbrev nBuf : Space → Nat
  | .hbm => 20
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x3072, .f32⟩
  | .hbm, ⟨3, _⟩ => ⟨S8256x2048, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x2048, .f32⟩
  | .hbm, ⟨15, _⟩ => ⟨S8256x2048, .f32⟩
  | .hbm, ⟨16, _⟩ => ⟨S1x2048, .f32⟩
  | .hbm, ⟨17, _⟩ => ⟨S8256x2048, .f32⟩
  | .hbm, ⟨18, _⟩ => ⟨S8256x2048, .f32⟩
  | .hbm, ⟨19, _⟩ => ⟨S8256x3072, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== SsdOut.lean ====
abbrev S8256x4096 : Shape := ⟨2, ![8256, 4096]⟩
abbrev S4096x2048 : Shape := ⟨2, ![4096, 2048]⟩
abbrev S8256x2048 : Shape := ⟨2, ![8256, 2048]⟩
abbrev S688x4096 : Shape := ⟨2, ![688, 4096]⟩
abbrev S4096x512 : Shape := ⟨2, ![4096, 512]⟩
abbrev S688x512 : Shape := ⟨2, ![688, 512]⟩

abbrev nBuf : Space → Nat
  | .hbm => 5
  | .vmem => 8
  | .smem => 0
  | _ => 0

abbrev bufTy : (tb : Table) → Fin (tcTables nBuf tb) → BufTy
  | .hbm, ⟨0, _⟩ => ⟨S8256x4096, .f32⟩
  | .hbm, ⟨1, _⟩ => ⟨S4096x2048, .f32⟩
  | .hbm, ⟨2, _⟩ => ⟨S8256x2048, .f32⟩
  | .hbm, ⟨3, _⟩ => ⟨S4096x2048, .bf16⟩
  | .hbm, ⟨4, _⟩ => ⟨S8256x2048, .f32⟩
  | .local _ .vmem, ⟨0, _⟩ => ⟨S688x4096, .f32⟩
  | .local _ .vmem, ⟨1, _⟩ => ⟨S688x4096, .f32⟩
  | .local _ .vmem, ⟨2, _⟩ => ⟨S4096x512, .bf16⟩
  | .local _ .vmem, ⟨3, _⟩ => ⟨S4096x512, .bf16⟩
  | .local _ .vmem, ⟨4, _⟩ => ⟨S688x512, .f32⟩
  | .local _ .vmem, ⟨5, _⟩ => ⟨S688x512, .f32⟩
  | .local _ .vmem, ⟨6, _⟩ => ⟨S688x512, .f32⟩
  | .local _ .vmem, ⟨7, _⟩ => ⟨S688x512, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdOutIdeal.lean ====
abbrev S8256x4096 : Shape := ⟨2, ![8256, 4096]⟩
abbrev S4096x2048 : Shape := ⟨2, ![4096, 2048]⟩
abbrev S8256x2048 : Shape := ⟨2, ![8256, 2048]⟩
abbrev S688x4096 : Shape := ⟨2, ![688, 4096]⟩
abbrev S4096x512 : Shape := ⟨2, ![4096, 512]⟩
abbrev S688x512 : Shape := ⟨2, ![688, 512]⟩

abbrev nBuf : Space → Nat
  | .hbm => 5
  | .vmem => 8
  | .smem => 0
  | _ => 0

abbrev bufTy : (tb : Table) → Fin (tcTables nBuf tb) → BufTy
  | .hbm, ⟨0, _⟩ => ⟨S8256x4096, .f32⟩
  | .hbm, ⟨1, _⟩ => ⟨S4096x2048, .f32⟩
  | .hbm, ⟨2, _⟩ => ⟨S8256x2048, .f32⟩
  | .hbm, ⟨3, _⟩ => ⟨S4096x2048, .bf16⟩
  | .hbm, ⟨4, _⟩ => ⟨S8256x2048, .f32⟩
  | .local _ .vmem, ⟨0, _⟩ => ⟨S688x4096, .f32⟩
  | .local _ .vmem, ⟨1, _⟩ => ⟨S688x4096, .f32⟩
  | .local _ .vmem, ⟨2, _⟩ => ⟨S4096x512, .bf16⟩
  | .local _ .vmem, ⟨3, _⟩ => ⟨S4096x512, .bf16⟩
  | .local _ .vmem, ⟨4, _⟩ => ⟨S688x512, .f32⟩
  | .local _ .vmem, ⟨5, _⟩ => ⟨S688x512, .f32⟩
  | .local _ .vmem, ⟨6, _⟩ => ⟨S688x512, .f32⟩
  | .local _ .vmem, ⟨7, _⟩ => ⟨S688x512, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdOutRefIdeal.lean ====
abbrev S8256x4096 : Shape := ⟨2, ![8256, 4096]⟩
abbrev S4096x2048 : Shape := ⟨2, ![4096, 2048]⟩
abbrev S8256x2048 : Shape := ⟨2, ![8256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S4096x2048, .f32⟩
  | .hbm, ⟨2, _⟩ => ⟨S8256x2048, .f32⟩
  | .hbm, ⟨3, _⟩ => ⟨S8256x2048, .f32⟩
  | .hbm, ⟨4, _⟩ => ⟨S8256x2048, .f32⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== AttOut.lean ====
abbrev S8256x2048 : Shape := ⟨2, ![8256, 2048]⟩
abbrev S2048x2048 : Shape := ⟨2, ![2048, 2048]⟩
abbrev S688x2048 : Shape := ⟨2, ![688, 2048]⟩
abbrev S2048x512 : Shape := ⟨2, ![2048, 512]⟩
abbrev S688x512 : Shape := ⟨2, ![688, 512]⟩

abbrev nBuf : Space → Nat
  | .hbm => 5
  | .vmem => 8
  | .smem => 0
  | _ => 0

abbrev bufTy : (tb : Table) → Fin (tcTables nBuf tb) → BufTy
  | .hbm, ⟨0, _⟩ => ⟨S8256x2048, .f32⟩
  | .hbm, ⟨1, _⟩ => ⟨S2048x2048, .f32⟩
  | .hbm, ⟨2, _⟩ => ⟨S8256x2048, .f32⟩
  | .hbm, ⟨3, _⟩ => ⟨S2048x2048, .bf16⟩
  | .hbm, ⟨4, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S2048x512, .bf16⟩
  | .local _ .vmem, ⟨3, _⟩ => ⟨S2048x512, .bf16⟩
  | .local _ .vmem, ⟨4, _⟩ => ⟨S688x512, .f32⟩
  | .local _ .vmem, ⟨5, _⟩ => ⟨S688x512, .f32⟩
  | .local _ .vmem, ⟨6, _⟩ => ⟨S688x512, .f32⟩
  | .local _ .vmem, ⟨7, _⟩ => ⟨S688x512, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttOutRefIdeal.lean ====
abbrev S8256x2048 : Shape := ⟨2, ![8256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048x2048, .f32⟩
  | .hbm, ⟨2, _⟩ => ⟨S8256x2048, .f32⟩
  | .hbm, ⟨3, _⟩ => ⟨S8256x2048, .f32⟩
  | .hbm, ⟨4, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== FinalNorm.lean ====
abbrev S8256x2048 : Shape := ⟨2, ![8256, 2048]⟩
abbrev S2048 : Shape := ⟨1, ![2048]⟩
abbrev S1x2048 : Shape := ⟨2, ![1, 2048]⟩
abbrev S688x2048 : Shape := ⟨2, ![688, 2048]⟩
abbrev S688 : Shape := ⟨1, ![688]⟩
abbrev S688x1 : Shape := ⟨2, ![688, 1]⟩

abbrev nBuf : Space → Nat
  | .hbm => 4
  | .vmem => 5
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S1x2048, .f32⟩
  | .hbm, ⟨3, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S688x2048, .f32⟩
  | .local _ .vmem, ⟨4, _⟩ => ⟨S688x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S8256x2048 : Shape := ⟨2, ![8256, 2048]⟩
abbrev S2048 : Shape := ⟨1, ![2048]⟩
abbrev S_ : Shape := ⟨0, ![]⟩
abbrev S8256 : Shape := ⟨1, ![8256]⟩
abbrev S8256x1 : Shape := ⟨2, ![8256, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S8256x2048, .f32⟩
  | .hbm, ⟨3, _⟩ => ⟨S_, .f32⟩
  | .hbm, ⟨4, _⟩ => ⟨S8256, .f32⟩
  | .hbm, ⟨5, _⟩ => ⟨S8256x1, .f32⟩
  | .hbm, ⟨6, _⟩ => ⟨S_, .f32⟩
  | .hbm, ⟨7, _⟩ => ⟨S8256x1, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S8256x1, .f32⟩
  | .hbm, ⟨13, _⟩ => ⟨S8256x2048, .f32⟩
  | .hbm, ⟨14, _⟩ => ⟨S8256x2048, .f32⟩
  | .hbm, ⟨15, _⟩ => ⟨S1x2048, .f32⟩
  | .hbm, ⟨16, _⟩ => ⟨S8256x2048, .f32⟩
  | .hbm, ⟨17, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.SsdKit.lean ====
module

public import proofs.«01_k».proof.Proof.Gen.SsdIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdIdeal.Alg

open Cert.SsdIdeal Cert.SsdIdeal.Gen

variable (m : (ℓ : Loc nD τ sig) → Buf (Elt Ideal) ℓ) (c : Dev nD)

/-- A load of some of the columns of the last stored block of columns reads that block. -/
theorem read_cols {sig : RefSig} {κ : Kind} {sp : Space} {Val : EltTy → Type} {e : EltTy} [∀ e, Nonempty (Val e)] {R N a w b k : ℕ}
    (v : View sig κ sp (⟨2, ![R, N]⟩ : Shape) e)
    (inb : ∀ i, (![0, a] : Fin 2 → ℕ) i + (![R, w] : Fin 2 → ℕ) i ≤ (![R, N] : Fin 2 → ℕ) i)
    (inb' : ∀ i, (![0, b] : Fin 2 → ℕ) i + (![R, k] : Fin 2 → ℕ) i ≤ (![R, N] : Fin 2 → ℕ) i)
    (W : (⟨2, ![R, w]⟩ : Shape).Idx → Val e) (L : List (View.Piece Val (⟨2, ![R, N]⟩ : Shape) e))
    (h : a ≤ b ∧ b + k ≤ a + w) :
    v.readCov (⟨Rect.unit (s := (⟨2, ![R, N]⟩ : Shape)) ![0, a] ![R, w] inb, W⟩ :: L)
        (Rect.unit (s := (⟨2, ![R, N]⟩ : Shape)) ![0, b] ![R, k] inb').toLoadRect
      = fun j => W (ix2 (j 0) ⟨b - a + (j 1).val, lt_of_lt_of_le (Nat.add_lt_add_left (j 1).isLt _) (by show b - a + k ≤ w; omega)⟩) := by
  rw [View.readCov_eq_canon']
  funext j
  have e : (Rect.unit (s := (⟨2, ![R, N]⟩ : Shape)) ![0, b] ![R, k] inb').toLoadRect.idx j
      = (Rect.unit (s := (⟨2, ![R, N]⟩ : Shape)) ![0, a] ![R, w] inb).emb
          (ix2 (j 0) ⟨b - a + (j 1).val, lt_of_lt_of_le (Nat.add_lt_add_left (j 1).isLt _) (by show b - a + k ≤ w; omega)⟩) := by
    funext i
    apply Fin.ext
    match i with
    | ⟨0, _⟩ => rfl
    | ⟨1, _⟩ =>
      show b + 1 * (j 1).val = a + 1 * (b - a + (j 1).val)
      omega
  rw [e]
  exact View.canon_cons_emb _ _ _ _

/-- If the first `n` stores of a list are blocks of `G` and cover an index, the list leaves `G` there. -/
theorem canon_take {s : Shape} {Val : EltTy → Type} {e : EltTy} [∀ e, Nonempty (Val e)] (G : s.Idx → Val e) (n : ℕ)
    (L : List (View.Piece Val s e)) (h : View.PiecesOf G (L.take n)) (y : s.Idx) (hc : ∃ p ∈ L.take n, y ∈ p.1.set) :
    View.canon L y = G y := by
  have e := View.canon_append_of_piecesOf G (L.drop n) (L.take n) h y hc
  rwa [List.take_append_drop] at e

/-- The state after one chunk, from the state before it, the chunk's inputs, its step sizes and their running sums. -/
def stepState (S : S4096x128.Idx → EReal) (X : S128x4096.Idx → EReal) (B : S128x1024.Idx → EReal) (D A : S128x128.Idx → EReal)
    (r : Fin 4096) (n : Fin 128) : EReal :=
  S (ix2 r n) * Ideal.exp (A (ix2 127 ⟨r.val / 64, by omega⟩))
    + ∑ l : Fin 128, (X (ix2 l r) * D (ix2 l ⟨r.val / 64, by omega⟩)
        * Ideal.exp (A (ix2 127 ⟨r.val / 64, by omega⟩) - A (ix2 l ⟨r.val / 64, by omega⟩)))
      * B (ix2 l ⟨r.val / 512 * 128 + n.val, by omega⟩)

/-- The lane mask of the lower half picks its first argument there. -/
theorem half_lo {α : Type} (e : ℕ) (h : e < 64) (a b : α) :
    Scalar.select (IntOp.cmpi CmpIPredicate.slt (BitVec.ofNat 32 e) 64#32) a b = a := by
  have hh : ∀ e : Fin 64, IntOp.cmpi CmpIPredicate.slt (BitVec.ofNat 32 e.val) 64#32 = 1#1 := by decide +kernel
  simp only [Scalar.select, hh ⟨e, h⟩]
  rfl

/-- The lane mask of the lower half picks its second argument on the upper half. -/
theorem half_hi {α : Type} (e : ℕ) (h : 64 ≤ e ∧ e < 128) (a b : α) :
    Scalar.select (IntOp.cmpi CmpIPredicate.slt (BitVec.ofNat 32 e) 64#32) a b = b := by
  have hh : ∀ e : Fin 64, IntOp.cmpi CmpIPredicate.slt (BitVec.ofNat 32 (64 + e.val)) 64#32 = 0#1 := by decide +kernel
  obtain ⟨d, rfl⟩ := Nat.exists_eq_add_of_le h.1
  simp only [Scalar.select, hh ⟨d, by omega⟩]
  rfl

/-- The state after a chunk on the 64 rows of one head. -/
theorem stepState_block (S : S4096x128.Idx → EReal) (X : S128x4096.Idx → EReal) (B : S128x1024.Idx → EReal) (D A : S128x128.Idx → EReal)
    (o : ℕ) (inb : ∀ i, (![o, 0] : Fin 2 → ℕ) i + (![64, 128] : Fin 2 → ℕ) i ≤ S4096x128.size i)
    (x : (Rect.unit (s := S4096x128) ![o, 0] ![64, 128] inb).shape.Idx) (h : o % 64 = 0 ∧ o + 64 ≤ 4096) :
    stepState S X B D A ((Rect.unit (s := S4096x128) ![o, 0] ![64, 128] inb).emb x 0)
        ((Rect.unit (s := S4096x128) ![o, 0] ![64, 128] inb).emb x 1)
      = S (ix2 ⟨o + (x 0).val, by have := (x 0).isLt; change (x 0).val < 64 at this; omega⟩ (x 1)) * Ideal.exp (A (ix2 127 ⟨o / 64, by omega⟩))
        + ∑ l : Fin 128, (X (ix2 l ⟨o + (x 0).val, by have := (x 0).isLt; change (x 0).val < 64 at this; omega⟩) * D (ix2 l ⟨o / 64, by omega⟩)
            * Ideal.exp (A (ix2 127 ⟨o / 64, by omega⟩) - A (ix2 l ⟨o / 64, by omega⟩)))
          * B (ix2 l ⟨o / 512 * 128 + (x 1).val, by have := (x 1).isLt; change (x 1).val < 128 at this; omega⟩) := by
  have hx := (x 0).isLt
  change (x 0).val < 64 at hx
  have e0 : (Rect.unit (s := S4096x128) ![o, 0] ![64, 128] inb).emb x 0 = (⟨o + (x 0).val, by omega⟩ : Fin 4096) :=
    Fin.ext (by show o + 1 * (x 0).val = o + (x 0).val; omega)
  have e1 : (Rect.unit (s := S4096x128) ![o, 0] ![64, 128] inb).emb x 1 = (x 1 : Fin 128) :=
    Fin.ext (by show 0 + 1 * (x 1).val = (x 1).val; omega)
  rw [e0, e1]
  have e2 : (o + (x 0).val) / 64 = o / 64 := by omega
  have e3 : (o + (x 0).val) / 512 = o / 512 := by omega
  simp only [stepState, e2, e3]

/-- The lane mask of the upper half picks its second argument on the lower half. -/
theorem other_lo {α : Type} (e : ℕ) (h : e < 64) (a b : α) :
    Scalar.select (IntOp.xori (IntOp.cmpi CmpIPredicate.slt (BitVec.ofNat 32 e) 64#32) 1#1) a b = b := by
  have hh : ∀ e : Fin 64, IntOp.xori (IntOp.cmpi CmpIPredicate.slt (BitVec.ofNat 32 e.val) 64#32) 1#1 = 0#1 := by decide +kernel
  simp only [Scalar.select, hh ⟨e, h⟩]
  rfl

/-- The lane mask of the upper half picks its first argument there. -/
theorem other_hi {α : Type} (e : ℕ) (h : 64 ≤ e ∧ e < 128) (a b : α) :
    Scalar.select (IntOp.xori (IntOp.cmpi CmpIPredicate.slt (BitVec.ofNat 32 e) 64#32) 1#1) a b = a := by
  have hh : ∀ e : Fin 64, IntOp.xori (IntOp.cmpi CmpIPredicate.slt (BitVec.ofNat 32 (64 + e.val)) 64#32) 1#1 = 1#1 := by decide +kernel
  obtain ⟨d, rfl⟩ := Nat.exists_eq_add_of_le h.1
  simp only [Scalar.select, hh ⟨d, by omega⟩]
  rfl

/-- The running sums of one chunk, as the body computes them. -/
def kA (t : Fin cfg0.N) : S128x128.Idx → EReal :=
  k0_pay25 (iota .tc S128x128 32 [0] iota_S128x128_d0_w32)
    (k0_pay23 (F := Ideal) (iota .tc S128x128 32 [0] iota_S128x128_d0_w32) (X0_4 m c t) (iblk m c 9 t) (iblk m c 10 t))
    (k0_pay24 (iota .tc S128x128 32 [0] iota_S128x128_d0_w32))

/-- The step sizes of one chunk, as the body computes them. -/
def kD (t : Fin cfg0.N) : S128x128.Idx → EReal :=
  k0_pay22 (F := Ideal) (iota .tc S128x128 32 [0] iota_S128x128_d0_w32) (X0_4 m c t) (iblk m c 9 t)

/-- The convolved inner columns of one chunk over the eight rows `Z` before it. -/
def kX (t : Fin cfg0.N) (Z : Vec Ideal S8x6144 .f32) : S128x4096.Idx → EReal :=
  k0_pay7 (F := Ideal) (iota .tc S8x1 32 [0] iota_S8x1_d0_w32) (X0_1 m c t)
    (View.ld Z (Rect.unit (s := S8x6144) ![0, 0] ![8, 4096] inb_S8x6144_S8x4096_0_0))
    (k0_pay5 (X0_1 m c t)
      (View.ld Z (Rect.unit (s := S8x6144) ![0, 0] ![8, 4096] inb_S8x6144_S8x4096_0_0))
      (View.ld (iblk m c 8 t) (Rect.unit (s := S1x6144) ![0, 0] ![1, 4096] inb_S1x6144_S1x4096_0_0))
      (View.ld (iblk m c 7 t) (Rect.unit (s := S4x6144) ![3, 0] ![1, 4096] inb_S4x6144_S1x4096_3_0))
      (View.ld (iblk m c 7 t) (Rect.unit (s := S4x6144) ![2, 0] ![1, 4096] inb_S4x6144_S1x4096_2_0)))
    (k0_pay6 (X0_1 m c t)
      (View.ld Z (Rect.unit (s := S8x6144) ![0, 0] ![8, 4096] inb_S8x6144_S8x4096_0_0)))
    (View.ld (iblk m c 7 t) (Rect.unit (s := S4x6144) ![1, 0] ![1, 4096] inb_S4x6144_S1x4096_1_0))
    (View.ld (iblk m c 7 t) (Rect.unit (s := S4x6144) ![0, 0] ![1, 4096] inb_S4x6144_S1x4096_0_0))

/-- The convolved input-gate columns of one chunk over the eight rows `Z` before it. -/
def kB (t : Fin cfg0.N) (Z : Vec Ideal S8x6144 .f32) : S128x1024.Idx → EReal :=
  k0_pay13 (F := Ideal)
    (k0_pay12 (iota .tc S8x1 32 [0] iota_S8x1_d0_w32) (X0_2 m c t)
      (View.ld Z (Rect.unit (s := S8x6144) ![0, 4096] ![8, 1024] inb_S8x6144_S8x1024_0_4096))
      (k0_pay10 (X0_2 m c t) (View.ld (iblk m c 7 t) (Rect.unit (s := S4x6144) ![3, 4096] ![1, 1024] inb_S4x6144_S1x1024_3_4096)))
      (k0_pay11 (View.ld (iblk m c 8 t) (Rect.unit (s := S1x6144) ![0, 4096] ![1, 1024] inb_S1x6144_S1x1024_0_4096)))
      (View.ld (iblk m c 7 t) (Rect.unit (s := S4x6144) ![2, 4096] ![1, 1024] inb_S4x6144_S1x1024_2_4096))
      (View.ld (iblk m c 7 t) (Rect.unit (s := S4x6144) ![1, 4096] ![1, 1024] inb_S4x6144_S1x1024_1_4096))
      (View.ld (iblk m c 7 t) (Rect.unit (s := S4x6144) ![0, 4096] ![1, 1024] inb_S4x6144_S1x1024_0_4096)))

/-- The convolved output-gate columns of one chunk over the eight rows `Z` before it. -/
def kC (t : Fin cfg0.N) (Z : Vec Ideal S8x6144 .f32) : S128x1024.Idx → EReal :=
  k0_pay19 (F := Ideal) (iota .tc S8x1 32 [0] iota_S8x1_d0_w32) (X0_3 m c t)
    (View.ld Z (Rect.unit (s := S8x6144) ![0, 5120] ![8, 1024] inb_S8x6144_S8x1024_0_5120))
    (k0_pay16 (iota .tc S8x1 32 [0] iota_S8x1_d0_w32) (X0_3 m c t)
      (View.ld Z (Rect.unit (s := S8x6144) ![0, 5120] ![8, 1024] inb_S8x6144_S8x1024_0_5120))
      (View.ld (iblk m c 8 t) (Rect.unit (s := S1x6144) ![0, 5120] ![1, 1024] inb_S1x6144_S1x1024_0_5120))
      (View.ld (iblk m c 7 t) (Rect.unit (s := S4x6144) ![3, 5120] ![1, 1024] inb_S4x6144_S1x1024_3_5120))
      (View.ld (iblk m c 7 t) (Rect.unit (s := S4x6144) ![2, 5120] ![1, 1024] inb_S4x6144_S1x1024_2_5120)))
    (k0_pay17 (X0_3 m c t)) (k0_pay18 (iota .tc S8x1 32 [0] iota_S8x1_d0_w32))
    (View.ld (iblk m c 7 t) (Rect.unit (s := S4x6144) ![1, 5120] ![1, 1024] inb_S4x6144_S1x1024_1_5120))
    (View.ld (iblk m c 7 t) (Rect.unit (s := S4x6144) ![0, 5120] ![1, 1024] inb_S4x6144_S1x1024_0_5120))

/-- The running sums as the kernel writes them are the chunk's running sums. -/
theorem kA_eq (t : Fin cfg0.N) : k0_pay25 (F := Ideal) (iota .tc S128x128 32 [0] iota_S128x128_d0_w32)
    (k0_pay23 (F := Ideal) (iota .tc S128x128 32 [0] iota_S128x128_d0_w32) (X0_4 m c t) (iblk m c 9 t) (iblk m c 10 t))
    (k0_pay24 (iota .tc S128x128 32 [0] iota_S128x128_d0_w32)) = kA m c t := rfl

/-- The transposed running sums read at a point. -/
theorem sumsT (t : Fin cfg0.N) (j : S128x128.Idx) : k0_pay26 (F := Ideal) (iota .tc S128x128 32 [0] iota_S128x128_d0_w32)
    (k0_pay23 (F := Ideal) (iota .tc S128x128 32 [0] iota_S128x128_d0_w32) (X0_4 m c t) (iblk m c 9 t) (iblk m c 10 t))
    (k0_pay24 (iota .tc S128x128 32 [0] iota_S128x128_d0_w32)) j = kA m c t (ix2 (j 1) (j 0)) := by
  idx_vars j
  unfold k0_pay26 kA
  pointwise []

/-- The exponentials of the running sums read at a point. -/
theorem sumsExp (t : Fin cfg0.N) (j : S128x128.Idx) : k0_pay27 (F := Ideal) (iota .tc S128x128 32 [0] iota_S128x128_d0_w32)
    (k0_pay23 (F := Ideal) (iota .tc S128x128 32 [0] iota_S128x128_d0_w32) (X0_4 m c t) (iblk m c 9 t) (iblk m c 10 t))
    (k0_pay24 (iota .tc S128x128 32 [0] iota_S128x128_d0_w32)) j = Ideal.exp (kA m c t j) := by
  unfold k0_pay27 kA
  pointwise []

/-- The decay to the chunk's end read at a point. -/
theorem sumsEnd (t : Fin cfg0.N) (j : S128x128.Idx) : k0_pay28 (F := Ideal) (iota .tc S128x128 32 [0] iota_S128x128_d0_w32)
    (k0_pay23 (F := Ideal) (iota .tc S128x128 32 [0] iota_S128x128_d0_w32) (X0_4 m c t) (iblk m c 9 t) (iblk m c 10 t))
    (k0_pay24 (iota .tc S128x128 32 [0] iota_S128x128_d0_w32)) j = Ideal.exp (kA m c t (ix2 127 (j 1)) - kA m c t j) := by
  unfold k0_pay28 kA
  pointwise []

/-- Four blocks of 128 columns side by side. -/
def quad (W0 W1 W2 W3 : S128x128.Idx → EReal) (j : S128x512.Idx) : EReal :=
  if (j 1).val < 128 then W0 (ix2 (j 0) ⟨(j 1).val % 128, Nat.mod_lt _ (by decide)⟩)
  else if (j 1).val < 256 then W1 (ix2 (j 0) ⟨(j 1).val % 128, Nat.mod_lt _ (by decide)⟩)
  else if (j 1).val < 384 then W2 (ix2 (j 0) ⟨(j 1).val % 128, Nat.mod_lt _ (by decide)⟩)
  else W3 (ix2 (j 0) ⟨(j 1).val % 128, Nat.mod_lt _ (by decide)⟩)

/-- A store of a column range covers exactly the columns of that range. -/
theorem canon_cols {w a : ℕ} (inb : ∀ i, (![0, a] : Fin 2 → ℕ) i + (![128, w] : Fin 2 → ℕ) i ≤ S128x4096.size i)
    (W : (⟨2, ![128, w]⟩ : Shape).Idx → EReal) (L : List (View.Piece (Elt Ideal) S128x4096 .f32)) (i : Fin 128) (k : Fin 4096) :
    View.canon (⟨Rect.unit (s := S128x4096) ![0, a] ![128, w] inb, W⟩ :: L) (ix2 i k)
      = if h : a ≤ k.val ∧ k.val < a + w then W (ix2 i ⟨k.val - a, by omega⟩) else View.canon L (ix2 i k) := by
  by_cases h : a ≤ k.val ∧ k.val < a + w
  · rw [dif_pos h]
    have e : (ix2 i k : S128x4096.Idx)
        = (Rect.unit (s := S128x4096) ![0, a] ![128, w] inb).emb (ix2 i ⟨k.val - a, by omega⟩) := by
      funext x
      apply Fin.ext
      match x with
      | ⟨0, _⟩ => show i.val = 0 + 1 * i.val; omega
      | ⟨1, _⟩ => show k.val = a + 1 * (k.val - a); omega
    rw [e]
    exact View.canon_cons_emb _ _ _ _
  · rw [dif_neg h]
    refine View.canon_cons_of_not_mem _ _ fun hm => h ?_
    have hm' : ix2 i k ∈ (Rect.unit (s := S128x4096) ![0, a] ![128, w] inb).set := hm
    exact (Rect.mem_set_unit.mp hm') 1

/-- A load of the last four stored blocks of 128 columns reads them side by side. -/
theorem read_quad {sig : RefSig} {κ : Kind} {sp : Space} (v : View sig κ sp S128x4096 .f32) {a b c d : ℕ}
    (ia : ∀ i, (![0, a] : Fin 2 → ℕ) i + (![128, 128] : Fin 2 → ℕ) i ≤ S128x4096.size i)
    (ib : ∀ i, (![0, b] : Fin 2 → ℕ) i + (![128, 128] : Fin 2 → ℕ) i ≤ S128x4096.size i)
    (ic : ∀ i, (![0, c] : Fin 2 → ℕ) i + (![128, 128] : Fin 2 → ℕ) i ≤ S128x4096.size i)
    (id : ∀ i, (![0, d] : Fin 2 → ℕ) i + (![128, 128] : Fin 2 → ℕ) i ≤ S128x4096.size i)
    (io : ∀ i, (![0, a] : Fin 2 → ℕ) i + (![128, 512] : Fin 2 → ℕ) i ≤ S128x4096.size i)
    (W0 W1 W2 W3 : S128x128.Idx → EReal) (L : List (View.Piece (Elt Ideal) S128x4096 .f32))
    (h : b = a + 128 ∧ c = a + 256 ∧ d = a + 384) :
    v.readCov (⟨Rect.unit (s := S128x4096) ![0, d] ![128, 128] id, W3⟩ :: ⟨Rect.unit (s := S128x4096) ![0, c] ![128, 128] ic, W2⟩
        :: ⟨Rect.unit (s := S128x4096) ![0, b] ![128, 128] ib, W1⟩ :: ⟨Rect.unit (s := S128x4096) ![0, a] ![128, 128] ia, W0⟩ :: L)
        (Rect.unit (s := S128x4096) ![0, a] ![128, 512] io).toLoadRect
      = quad W0 W1 W2 W3 := by
  rw [View.readCov_eq_canon']
  funext j
  have hj : (j 1).val < 512 := (j 1).isLt
  have hb : a + 512 ≤ 4096 := io 1
  have e : (Rect.unit (s := S128x4096) ![0, a] ![128, 512] io).toLoadRect.idx j
      = (ix2 (j 0) ⟨a + (j 1).val, by omega⟩ : S128x4096.Idx) := by
    funext i
    apply Fin.ext
    match i with
    | ⟨0, _⟩ => show 0 + 1 * (j 0).val = (j 0).val; omega
    | ⟨1, _⟩ => show a + 1 * (j 1).val = a + (j 1).val; omega
  obtain ⟨rfl, rfl, rfl⟩ := h
  have key : ∀ (l : Fin 128) (q : Fin 512), View.canon (⟨Rect.unit (s := S128x4096) ![0, a + 384] ![128, 128] id, W3⟩
      :: ⟨Rect.unit (s := S128x4096) ![0, a + 256] ![128, 128] ic, W2⟩ :: ⟨Rect.unit (s := S128x4096) ![0, a + 128] ![128, 128] ib, W1⟩
      :: ⟨Rect.unit (s := S128x4096) ![0, a] ![128, 128] ia, W0⟩ :: L) (ix2 l ⟨a + q.val, by omega⟩) = quad W0 W1 W2 W3 (ix2 l q) := by
    intro l q
    have hq := q.isLt
    rw [canon_cols, canon_cols, canon_cols, canon_cols]
    rw [show quad W0 W1 W2 W3 (ix2 l q) = if q.val < 128 then W0 (ix2 l ⟨q.val % 128, Nat.mod_lt _ (by decide)⟩)
      else if q.val < 256 then W1 (ix2 l ⟨q.val % 128, Nat.mod_lt _ (by decide)⟩)
      else if q.val < 384 then W2 (ix2 l ⟨q.val % 128, Nat.mod_lt _ (by decide)⟩)
      else W3 (ix2 l ⟨q.val % 128, Nat.mod_lt _ (by decide)⟩) from rfl]
    split_ifs <;> first
      | (exfalso; dsimp only at *; omega)
      | (refine congrArg _ (congrArg (ix2 l) (Fin.ext ?_)); dsimp only; omega)
  rw [e]
  exact key (j 0) (j 1)

/-- One chunk's result before the group norm, from the chunk's inputs and the state before it. -/
def stepY (S : S4096x128.Idx → EReal) (Z X : S128x4096.Idx → EReal) (B C : S128x1024.Idx → EReal) (D A : S128x128.Idx → EReal)
    (K : S1x4096.Idx → EReal) (l : Fin 128) (r : Fin 4096) : EReal :=
  ((∑ n : Fin 128, C (ix2 l ⟨r.val / 512 * 128 + n.val, by omega⟩) * S (ix2 r n)) * Ideal.exp (A (ix2 l ⟨r.val / 64, by omega⟩))
    + ∑ s : Fin 128, (if s ≤ l then
        (∑ n : Fin 128, C (ix2 l ⟨r.val / 512 * 128 + n.val, by omega⟩) * B (ix2 s ⟨r.val / 512 * 128 + n.val, by omega⟩))
          * Ideal.exp (A (ix2 l ⟨r.val / 64, by omega⟩) - A (ix2 s ⟨r.val / 64, by omega⟩))
          * (X (ix2 s r) * D (ix2 s ⟨r.val / 64, by omega⟩)) else 0)
    + X (ix2 l r) * K (ix2 0 r)) * (Z (ix2 l r) * Ideal.logistic (Z (ix2 l r)))

/-- The result before the group norm at a column of a head whose columns begin at `64 h`, in the group whose columns begin at `g`. -/
theorem stepY_head (S : S4096x128.Idx → EReal) (Z X : S128x4096.Idx → EReal) (B C : S128x1024.Idx → EReal) (D A : S128x128.Idx → EReal)
    (K : S1x4096.Idx → EReal) (l : Fin 128) (r : Fin 4096) (h : Fin 128) (g : ℕ) (hg : g + 128 ≤ 1024)
    (hr : r.val / 64 = h.val ∧ r.val / 512 * 128 = g) :
    stepY S Z X B C D A K l r = ((∑ n : Fin 128, C (ix2 l ⟨g + n.val, by omega⟩) * S (ix2 r n)) * Ideal.exp (A (ix2 l h))
      + ∑ s : Fin 128, (if s ≤ l then
          (∑ n : Fin 128, C (ix2 l ⟨g + n.val, by omega⟩) * B (ix2 s ⟨g + n.val, by omega⟩))
            * Ideal.exp (A (ix2 l h) - A (ix2 s h)) * (X (ix2 s r) * D (ix2 s h)) else 0)
      + X (ix2 l r) * K (ix2 0 r)) * (Z (ix2 l r) * Ideal.logistic (Z (ix2 l r))) := by
  obtain ⟨h, hh⟩ := h
  obtain ⟨h1, h2⟩ := hr
  dsimp only at h1
  subst h1 h2
  rfl

/-- The result before the group norm at the first 64 of 128 columns beginning at `o`. -/
theorem stepY_lo (S : S4096x128.Idx → EReal) (Z X : S128x4096.Idx → EReal) (B C : S128x1024.Idx → EReal) (D A : S128x128.Idx → EReal)
    (K : S1x4096.Idx → EReal) (o : ℕ) (l q : Fin 128) (p : o + q.val < 4096) (ho : o % 128 = 0 ∧ o + 128 ≤ 4096) (hq : q.val < 64) :
    stepY S Z X B C D A K l ⟨o + q.val, p⟩
      = ((∑ n : Fin 128, C (ix2 l ⟨o / 512 * 128 + n.val, by omega⟩) * S (ix2 ⟨o + q.val, p⟩ n)) * Ideal.exp (A (ix2 l ⟨o / 64, by omega⟩))
      + ∑ s : Fin 128, (if s ≤ l then
          (∑ n : Fin 128, C (ix2 l ⟨o / 512 * 128 + n.val, by omega⟩) * B (ix2 s ⟨o / 512 * 128 + n.val, by omega⟩))
            * Ideal.exp (A (ix2 l ⟨o / 64, by omega⟩) - A (ix2 s ⟨o / 64, by omega⟩))
            * (X (ix2 s ⟨o + q.val, p⟩) * D (ix2 s ⟨o / 64, by omega⟩)) else 0)
      + X (ix2 l ⟨o + q.val, p⟩) * K (ix2 0 ⟨o + q.val, p⟩)) * (Z (ix2 l ⟨o + q.val, p⟩) * Ideal.logistic (Z (ix2 l ⟨o + q.val, p⟩))) :=
  stepY_head S Z X B C D A K l _ ⟨o / 64, by omega⟩ (o / 512 * 128) (by omega) (by dsimp only; omega)

/-- The result before the group norm at the last 64 of 128 columns beginning at `o`. -/
theorem stepY_hi (S : S4096x128.Idx → EReal) (Z X : S128x4096.Idx → EReal) (B C : S128x1024.Idx → EReal) (D A : S128x128.Idx → EReal)
    (K : S1x4096.Idx → EReal) (o : ℕ) (l q : Fin 128) (p : o + q.val < 4096) (ho : o % 128 = 0 ∧ o + 128 ≤ 4096) (hq : 64 ≤ q.val) :
    stepY S Z X B C D A K l ⟨o + q.val, p⟩
      = ((∑ n : Fin 128, C (ix2 l ⟨o / 512 * 128 + n.val, by omega⟩) * S (ix2 ⟨o + q.val, p⟩ n)) * Ideal.exp (A (ix2 l ⟨o / 64 + 1, by omega⟩))
      + ∑ s : Fin 128, (if s ≤ l then
          (∑ n : Fin 128, C (ix2 l ⟨o / 512 * 128 + n.val, by omega⟩) * B (ix2 s ⟨o / 512 * 128 + n.val, by omega⟩))
            * Ideal.exp (A (ix2 l ⟨o / 64 + 1, by omega⟩) - A (ix2 s ⟨o / 64 + 1, by omega⟩))
            * (X (ix2 s ⟨o + q.val, p⟩) * D (ix2 s ⟨o / 64 + 1, by omega⟩)) else 0)
      + X (ix2 l ⟨o + q.val, p⟩) * K (ix2 0 ⟨o + q.val, p⟩)) * (Z (ix2 l ⟨o + q.val, p⟩) * Ideal.logistic (Z (ix2 l ⟨o + q.val, p⟩))) :=
  stepY_head S Z X B C D A K l _ ⟨o / 64 + 1, by omega⟩ (o / 512 * 128) (by omega) (by dsimp only; omega)

/-- The causal mask picks its first argument up to the row itself. -/
theorem causal_sel {α : Type} (l s : Fin 128) (a b : α) :
    Scalar.select (IntOp.cmpi CmpIPredicate.sge (BitVec.ofNat 32 l.val) (BitVec.ofNat 32 s.val)) a b = if s ≤ l then a else b := by
  have hh : ∀ l s : Fin 128, IntOp.cmpi CmpIPredicate.sge (BitVec.ofNat 32 l.val) (BitVec.ofNat 32 s.val) = if s ≤ l then 1#1 else 0#1 := by
    decide +kernel
  rw [hh]
  split_ifs <;> rfl

/-- The norm of one row over its group of 512 columns. -/
def groupNorm (Y : Fin 128 → Fin 4096 → EReal) (w : S1x4096.Idx → EReal) (l : Fin 128) (r : Fin 4096) : EReal :=
  Y l r * Ideal.rsqrt (Ideal.div (∑ q : Fin 512, Y l ⟨r.val / 512 * 512 + q.val, by omega⟩ * Y l ⟨r.val / 512 * 512 + q.val, by omega⟩)
      (Ideal.ofBits .f32 0x44000000#32) + Ideal.ofBits .f32 0x358637BD#32) * w (ix2 0 r)

/-- The group norm at a column of the group whose columns begin at `a`. -/
theorem groupNorm_at (Y : Fin 128 → Fin 4096 → EReal) (w : S1x4096.Idx → EReal) (l : Fin 128) (k : Fin 4096) (a : ℕ) (q : Fin 512)
    (ha : a + 512 ≤ 4096) (e : k.val = a + q.val) (h : a % 512 = 0) :
    groupNorm Y w l k = Y l ⟨a + q.val, by omega⟩ * Ideal.rsqrt (Ideal.div (∑ q : Fin 512, Y l ⟨a + q.val, by omega⟩ * Y l ⟨a + q.val, by omega⟩)
      (Ideal.ofBits .f32 0x44000000#32) + Ideal.ofBits .f32 0x358637BD#32) * w (ix2 0 ⟨a + q.val, by omega⟩) := by
  obtain ⟨k, hk⟩ := k
  dsimp only at e
  subst e
  have e2 : (a + q.val) / 512 * 512 = a := by omega
  simp only [groupNorm, e2]

/-- One group's five stores: four blocks of 128 columns, then all 512 over them. -/
theorem group_step {a b c d : ℕ}
    (io : ∀ i, (![0, a] : Fin 2 → ℕ) i + (![128, 512] : Fin 2 → ℕ) i ≤ S128x4096.size i)
    (ia : ∀ i, (![0, a] : Fin 2 → ℕ) i + (![128, 128] : Fin 2 → ℕ) i ≤ S128x4096.size i)
    (ib : ∀ i, (![0, b] : Fin 2 → ℕ) i + (![128, 128] : Fin 2 → ℕ) i ≤ S128x4096.size i)
    (ic : ∀ i, (![0, c] : Fin 2 → ℕ) i + (![128, 128] : Fin 2 → ℕ) i ≤ S128x4096.size i)
    (id : ∀ i, (![0, d] : Fin 2 → ℕ) i + (![128, 128] : Fin 2 → ℕ) i ≤ S128x4096.size i)
    (Y : Fin 128 → Fin 4096 → EReal) (G : EReal)
    (W : S128x512.Idx → EReal) (W0 W1 W2 W3 : S128x128.Idx → EReal) (L : List (View.Piece (Elt Ideal) S128x4096 .f32)) (i : Fin 128) (k : Fin 4096)
    (h : b = a + 128 ∧ c = a + 256 ∧ d = a + 384)
    (h3 : ∀ l q : Fin 128, W3 (ix2 l q) = Y l ⟨d + q.val, lt_of_lt_of_le (Nat.add_lt_add_left q.isLt d) (id 1)⟩)
    (h2 : ∀ l q : Fin 128, W2 (ix2 l q) = Y l ⟨c + q.val, lt_of_lt_of_le (Nat.add_lt_add_left q.isLt c) (ic 1)⟩)
    (h1 : ∀ l q : Fin 128, W1 (ix2 l q) = Y l ⟨b + q.val, lt_of_lt_of_le (Nat.add_lt_add_left q.isLt b) (ib 1)⟩)
    (h0 : ∀ l q : Fin 128, W0 (ix2 l q) = Y l ⟨a + q.val, lt_of_lt_of_le (Nat.add_lt_add_left q.isLt a) (ia 1)⟩)
    (hin : (∀ (l : Fin 128) (q : Fin 512), quad W0 W1 W2 W3 (ix2 l q) = Y l ⟨a + q.val, lt_of_lt_of_le (Nat.add_lt_add_left q.isLt a) (io 1)⟩)
      → ∀ q : Fin 512, k.val = a + q.val → W (ix2 i q) = G)
    (hout : ¬ (a ≤ k.val ∧ k.val < a + 512) → View.canon L (ix2 i k) = G) :
    View.canon (⟨Rect.unit (s := S128x4096) ![0, a] ![128, 512] io, W⟩
        :: ⟨Rect.unit (s := S128x4096) ![0, d] ![128, 128] id, W3⟩ :: ⟨Rect.unit (s := S128x4096) ![0, c] ![128, 128] ic, W2⟩
        :: ⟨Rect.unit (s := S128x4096) ![0, b] ![128, 128] ib, W1⟩ :: ⟨Rect.unit (s := S128x4096) ![0, a] ![128, 128] ia, W0⟩ :: L) (ix2 i k) = G := by
  obtain ⟨rfl, rfl, rfl⟩ := h
  rw [canon_cols]
  split_ifs with hk
  · refine hin (fun l q => ?_) ⟨k.val - a, by omega⟩ (by dsimp only; omega)
    have hq := q.isLt
    rw [show quad W0 W1 W2 W3 (ix2 l q) = if q.val < 128 then W0 (ix2 l ⟨q.val % 128, Nat.mod_lt _ (by decide)⟩)
      else if q.val < 256 then W1 (ix2 l ⟨q.val % 128, Nat.mod_lt _ (by decide)⟩)
      else if q.val < 384 then W2 (ix2 l ⟨q.val % 128, Nat.mod_lt _ (by decide)⟩)
      else W3 (ix2 l ⟨q.val % 128, Nat.mod_lt _ (by decide)⟩) from rfl]
    split_ifs
    · rw [h0]; exact congrArg (Y l) (Fin.ext (by dsimp only; omega))
    · rw [h1]; exact congrArg (Y l) (Fin.ext (by dsimp only; omega))
    · rw [h2]; exact congrArg (Y l) (Fin.ext (by dsimp only; omega))
    · rw [h3]; exact congrArg (Y l) (Fin.ext (by dsimp only; omega))
  · rw [canon_cols, dif_neg (by omega), canon_cols, dif_neg (by omega), canon_cols, dif_neg (by omega), canon_cols, dif_neg (by omega)]
    exact hout hk

end Cert.SsdIdeal.Alg

end
-- ==== Proof.SsdConv.lean ====
module

public import proofs.«01_k».proof.Proof.SsdKit
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdIdeal.Alg

open Cert.SsdIdeal Cert.SsdIdeal.Gen

variable (m : (ℓ : Loc nD τ sig) → Buf (Elt Ideal) ℓ) (c : Dev nD)

/-- One doubling step of the running sum: each row adds the row `k` above it. -/
def dbl (k : ℕ) (V : S128x128.Idx → EReal) (j : S128x128.Idx) : EReal :=
  V j + if k ≤ (j 0).val then V (ix2 ⟨(j 0).val - k, by have := (j 0).isLt; change _ < 128 at this; omega⟩ (j 1)) else 0

/-- The mask of the doubling step picks its first argument from row `k` on. -/
theorem ge_sel {α : Type} (k : ℕ) (hk : k < 128) (l : Fin 128) (a b : α) :
    Scalar.select (IntOp.cmpi CmpIPredicate.sge (BitVec.ofNat 32 l.val) (BitVec.ofNat 32 k)) a b = if k ≤ l.val then a else b :=
  causal_sel l ⟨k, hk⟩ a b

/-- The kernel's doubling step is the doubling step written out. -/
theorem dbl_eq (k : ℕ) (hk : 0 < k ∧ k < 128) (V : FVec Ideal S128x128 .f32) :
    addf V (select (cmpi .sge (iota .tc S128x128 32 [0] iota_S128x128_d0_w32) (broadcast S128x128 (BitVec.ofNat 32 k)))
      (dynamicRotate 0 (BitVec.ofNat 32 k) none V rotates_S128x128_d0) (broadcast S128x128 (FloatOps.ofBits .f32 0x00000000#32))) = dbl k V := by
  funext j
  obtain ⟨l, h, rfl⟩ : ∃ (l h : Fin 128), j = ix2 l h := ⟨j 0, j 1, by idx_vars j⟩
  have hb : (BitVec.ofNat 32 k).toNat = k := by simp only [BitVec.toNat_ofNat]; omega
  pointwise [hb]
  rw [ge_sel k hk.2]
  unfold dbl
  congr 1
  by_cases hl : k ≤ l.val
  · have hl' : k ≤ ((ix2 l h : S128x128.Idx) 0).val := hl
    rw [if_pos hl, if_pos hl']
    refine congrArg V (congrArg (fun a => ix2 a h) (Fin.ext ?_))
    have := l.isLt
    show (l.val + 128 - k % 128) % 128 = l.val - k
    omega
  · have hl' : ¬k ≤ ((ix2 l h : S128x128.Idx) 0).val := hl
    rw [if_neg hl, if_neg hl']

/-- The sum of the last `s` of the entries up to `l`. -/
def win (d : ℕ → EReal) (s l : ℕ) : EReal := ∑ i ∈ Finset.range s, if i ≤ l then d (l - i) else 0

/-- A window sum of twice the width is two window sums. -/
theorem win_dbl (d : ℕ → EReal) (s l : ℕ) : win d (s + s) l = win d s l + if s ≤ l then win d s (l - s) else 0 := by
  unfold win
  rw [Finset.sum_range_add]
  congr 1
  split_ifs with h
  · refine Finset.sum_congr rfl fun i _ => ?_
    by_cases hi : i ≤ l - s
    · rw [if_pos hi, if_pos (by omega), Nat.sub_sub]
    · rw [if_neg hi, if_neg (by omega)]
  · exact Finset.sum_eq_zero fun i _ => if_neg (by omega)

/-- One doubling step takes a window sum to the window sum of twice the width. -/
theorem dbl_win (d : ℕ → EReal) (s s' : ℕ) (hs : s' = s + s) (V : S128x128.Idx → EReal) (h : Fin 128) (hV : ∀ l : Fin 128, V (ix2 l h) = win d s l.val) :
    ∀ l : Fin 128, dbl s V (ix2 l h) = win d s' l.val := by
  intro l
  subst hs
  rw [win_dbl]
  unfold dbl
  rw [hV]
  congr 1
  show (if s ≤ l.val then V (ix2 ⟨l.val - s, _⟩ h) else 0) = _
  rw [hV]

/-- The running sums are seven doubling steps on the products of step size and decay rate. -/
theorem kA_dbl (t : Fin cfg0.N) : kA m c t = dbl 64 (dbl 32 (dbl 16 (dbl 8 (dbl 4 (dbl 2 (dbl 1
    (mulf (kD m c t) (broadcastTo S128x128 (subf (broadcast S1x128 (FloatOps.ofBits .f32 0#32))
      (exp (F := Ideal) (shapeCast S1x128 (iblk m c 10 t) shapeCasts_S1x128_S1x128))) broadcasts_S1x128_S128x128)))))))) := by
  rw [← dbl_eq 64 (by decide), ← dbl_eq 32 (by decide), ← dbl_eq 16 (by decide), ← dbl_eq 8 (by decide), ← dbl_eq 4 (by decide),
    ← dbl_eq 2 (by decide), ← dbl_eq 1 (by decide)]
  unfold kA kD k0_pay25 k0_pay24 k0_pay23
  rfl

/-- The running sums of one chunk: the sum of the decay exponents up to the row. -/
theorem kA_at (t : Fin cfg0.N) (l h : Fin 128) (d : ℕ → EReal)
    (hd : ∀ l : Fin 128, kD m c t (ix2 l h) * (0 - Ideal.exp (iblk m c 10 t (ix2 0 h))) = d l.val) :
    kA m c t (ix2 l h) = win d 128 l.val := by
  rw [kA_dbl]
  refine dbl_win d 64 128 rfl _ h (dbl_win d 32 64 rfl _ h (dbl_win d 16 32 rfl _ h (dbl_win d 8 16 rfl _ h (dbl_win d 4 8 rfl _ h
    (dbl_win d 2 4 rfl _ h (dbl_win d 1 2 rfl _ h fun l => ?_)))))) l
  pointwise []
  unfold win
  rw [Finset.sum_range_one, if_pos (Nat.zero_le _), Nat.sub_zero, hd]

/-- The mask of the rows below 128 picks its first argument on each of them. -/
theorem lt_sel {α : Type} (l : Fin 128) (a b : α) :
    Scalar.select (IntOp.cmpi CmpIPredicate.slt (BitVec.ofNat 32 l.val) 128#32) a b = a := by
  have hh : ∀ l : Fin 128, IntOp.cmpi CmpIPredicate.slt (BitVec.ofNat 32 l.val) 128#32 = 1#1 := by decide +kernel
  rw [hh]
  rfl

/-- The step size whose argument is `v`. -/
def soft (v : EReal) : EReal := max v 0 + Ideal.log1p (Ideal.exp (0 - FloatOps.absf (F := Ideal) (φ := .f32) v))

/-- The step sizes of one chunk. -/
theorem kD_at (t : Fin cfg0.N) (l h : Fin 128) (x b : EReal) (hx : X0_4 m c t (ix2 l h) = x) (hb : iblk m c 9 t (ix2 0 h) = b) :
    kD m c t (ix2 l h) = soft (x + b) := by
  unfold kD
  unfold_payloads
  pointwise [hx, hb]
  rw [lt_sel]
  rfl

/-- A tap: the row `k` before, taken from the eight rows before the chunk where it lies there. -/
theorem tap (e : ℕ → EReal) (T : ℕ) (l : Fin 128) (k : ℕ) (hk : 0 < k ∧ k < 4) :
    (dite (l.val < 8) (fun _ => Scalar.select (IntOp.cmpi CmpIPredicate.slt (BitVec.ofNat 32 l.val) (BitVec.ofNat 32 k))
        (e (T + (l.val + 8 - k) % 8)) (e (T + 8 + (l.val + 128 - k) % 128)))
      (fun _ => e (T + 8 + (8 + (l.val - 8) + 128 - k) % 128))) = e (T + (8 - k) + l.val) := by
  have hh : ∀ (l : Fin 128) (k : Fin 4), IntOp.cmpi CmpIPredicate.slt (BitVec.ofNat 32 l.val) (BitVec.ofNat 32 k.val)
      = if l.val < k.val then 1#1 else 0#1 := by decide +kernel
  have hl := l.isLt
  rw [hh l ⟨k, hk.2⟩]
  show dite _ _ _ = _
  split_ifs with h8 h
  · exact congrArg e (show T + (l.val + 8 - k) % 8 = _ by have : l.val < k := h; omega)
  · exact congrArg e (show T + 8 + (l.val + 128 - k) % 128 = _ by have : ¬l.val < k := h; omega)
  · exact congrArg e (show T + 8 + (8 + (l.val - 8) + 128 - k) % 128 = _ by omega)

/-- The bias and four taps of a column over a sequence of rows, activated. -/
def act4 (b w3 w2 w1 w0 : EReal) (e : ℕ → EReal) (u : ℕ) : EReal :=
  (b + w3 * e (u + 8) + w2 * e (u + 7) + w1 * e (u + 6) + w0 * e (u + 5))
    * Ideal.logistic (b + w3 * e (u + 8) + w2 * e (u + 7) + w1 * e (u + 6) + w0 * e (u + 5))

/-- The activated columns from 0 on of one chunk, from the sequence of rows they are taken over. -/
theorem kX_at (t : Fin cfg0.N) (Z : Vec Ideal S8x6144 .f32) (l : Fin 128) (j : Fin 4096) (e : ℕ → EReal) (T : ℕ)
    (hZ : ∀ r : Fin 8, Z (ix2 r ⟨j.val, by omega⟩) = e (T + r.val)) (hX : ∀ l : Fin 128, X0_1 m c t (ix2 l j) = e (T + 8 + l.val)) :
    kX m c t Z (ix2 l j) = act4 (iblk m c 8 t (ix2 0 ⟨j.val, by omega⟩)) (iblk m c 7 t (ix2 3 ⟨j.val, by omega⟩)) (iblk m c 7 t (ix2 2 ⟨j.val, by omega⟩))
      (iblk m c 7 t (ix2 1 ⟨j.val, by omega⟩)) (iblk m c 7 t (ix2 0 ⟨j.val, by omega⟩)) e (T + l.val) := by
  unfold kX
  unfold_payloads
  pointwise [hZ, hX]
  simp (disch := decide) only [tap, hZ, hX, Nat.reduceSub]
  unfold act4
  rw [show T + 8 + l.val = T + l.val + 8 by omega, show T + 7 + l.val = T + l.val + 7 by omega,
    show T + 6 + l.val = T + l.val + 6 by omega, show T + 5 + l.val = T + l.val + 5 by omega]

/-- The activated columns from 4096 on of one chunk, from the sequence of rows they are taken over. -/
theorem kB_at (t : Fin cfg0.N) (Z : Vec Ideal S8x6144 .f32) (l : Fin 128) (j : Fin 1024) (e : ℕ → EReal) (T : ℕ)
    (hZ : ∀ r : Fin 8, Z (ix2 r ⟨4096 + j.val, by omega⟩) = e (T + r.val)) (hX : ∀ l : Fin 128, X0_2 m c t (ix2 l j) = e (T + 8 + l.val)) :
    kB m c t Z (ix2 l j) = act4 (iblk m c 8 t (ix2 0 ⟨4096 + j.val, by omega⟩)) (iblk m c 7 t (ix2 3 ⟨4096 + j.val, by omega⟩)) (iblk m c 7 t (ix2 2 ⟨4096 + j.val, by omega⟩))
      (iblk m c 7 t (ix2 1 ⟨4096 + j.val, by omega⟩)) (iblk m c 7 t (ix2 0 ⟨4096 + j.val, by omega⟩)) e (T + l.val) := by
  unfold kB
  unfold_payloads
  pointwise [hZ, hX]
  simp (disch := decide) only [tap, hZ, hX, Nat.reduceSub]
  unfold act4
  rw [show T + 8 + l.val = T + l.val + 8 by omega, show T + 7 + l.val = T + l.val + 7 by omega,
    show T + 6 + l.val = T + l.val + 6 by omega, show T + 5 + l.val = T + l.val + 5 by omega]

/-- The activated columns from 5120 on of one chunk, from the sequence of rows they are taken over. -/
theorem kC_at (t : Fin cfg0.N) (Z : Vec Ideal S8x6144 .f32) (l : Fin 128) (j : Fin 1024) (e : ℕ → EReal) (T : ℕ)
    (hZ : ∀ r : Fin 8, Z (ix2 r ⟨5120 + j.val, by omega⟩) = e (T + r.val)) (hX : ∀ l : Fin 128, X0_3 m c t (ix2 l j) = e (T + 8 + l.val)) :
    kC m c t Z (ix2 l j) = act4 (iblk m c 8 t (ix2 0 ⟨5120 + j.val, by omega⟩)) (iblk m c 7 t (ix2 3 ⟨5120 + j.val, by omega⟩)) (iblk m c 7 t (ix2 2 ⟨5120 + j.val, by omega⟩))
      (iblk m c 7 t (ix2 1 ⟨5120 + j.val, by omega⟩)) (iblk m c 7 t (ix2 0 ⟨5120 + j.val, by omega⟩)) e (T + l.val) := by
  unfold kC
  unfold_payloads
  pointwise [hZ, hX]
  simp (disch := decide) only [tap, hZ, hX, Nat.reduceSub]
  unfold act4
  rw [show T + 8 + l.val = T + l.val + 8 by omega, show T + 7 + l.val = T + l.val + 7 by omega,
    show T + 6 + l.val = T + l.val + 6 by omega, show T + 5 + l.val = T + l.val + 5 by omega]

end Cert.SsdIdeal.Alg

end
-- ==== Proof.SsdFn.lean ====
module

public import proofs.«01_k».proof.Proof.SsdConv
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdMath

open Cert.SsdIdeal Cert.SsdIdeal.Gen Cert.SsdIdeal.Alg

variable (P : S8256x10752.Idx → EReal) (w : S4x6144.Idx → EReal) (cb : S6144.Idx → EReal) (dtb al dk : S64.Idx → EReal) (nw : S4096.Idx → EReal)

/-- Array row of position `u` of sequence `b` (the remainder changes nothing inside the array). -/
abbrev row (b u : ℕ) : Fin 8256 := ⟨(4096 * b + u) % 8256, Nat.mod_lt _ (by decide)⟩

/-- One convolved column of a sequence with eight rows of zeros before it. -/
def ext (b : ℕ) (j : Fin 6144) (u : ℕ) : EReal :=
  if u < 8 then 0 else P (ix2 (row b (u - 8)) ⟨4096 + j.val, by omega⟩)

/-- The activated convolution at position `u`. -/
def act (b : ℕ) (j : Fin 6144) (u : ℕ) : EReal :=
  act4 (cb (ix1 j)) (w (ix2 3 j)) (w (ix2 2 j)) (w (ix2 1 j)) (w (ix2 0 j)) (ext P b j) u

/-- The step size of head `h` at position `u`. -/
def stp (b : ℕ) (h : Fin 64) (u : ℕ) : EReal :=
  soft (P (ix2 (row b u) ⟨10240 + h.val, by omega⟩) + dtb (ix1 h))

/-- The running sum of the decay exponents of head `h` from the start of chunk `n` to its row `l`. -/
def cum (b n : ℕ) (h : Fin 64) (l : ℕ) : EReal :=
  win (fun i => stp P dtb b h (128 * n + i) * (0 - Ideal.exp (al (ix1 h)))) 128 l

/-- The gate's columns of chunk `n`. -/
def chZ (b n : ℕ) (y : S128x4096.Idx) : EReal := P (ix2 (row b (128 * n + (y 0).val)) ⟨(y 1).val, by have := (y 1).isLt; change _ < 4096 at this; omega⟩)

/-- The inner columns of chunk `n`. -/
def chX (b n : ℕ) (y : S128x4096.Idx) : EReal := act P w cb b ⟨(y 1).val, by have := (y 1).isLt; change _ < 4096 at this; omega⟩ (128 * n + (y 0).val)

/-- The input projections of chunk `n`. -/
def chB (b n : ℕ) (y : S128x1024.Idx) : EReal := act P w cb b ⟨4096 + (y 1).val, by have := (y 1).isLt; change _ < 1024 at this; omega⟩ (128 * n + (y 0).val)

/-- The output projections of chunk `n`. -/
def chC (b n : ℕ) (y : S128x1024.Idx) : EReal := act P w cb b ⟨5120 + (y 1).val, by have := (y 1).isLt; change _ < 1024 at this; omega⟩ (128 * n + (y 0).val)

/-- The step sizes of chunk `n`. -/
def chD (b n : ℕ) (y : S128x128.Idx) : EReal := stp P dtb b ⟨(y 1).val % 64, Nat.mod_lt _ (by decide)⟩ (128 * n + (y 0).val)

/-- The running sums of chunk `n`. -/
def chA (b n : ℕ) (y : S128x128.Idx) : EReal := cum P dtb al b n ⟨(y 1).val % 64, Nat.mod_lt _ (by decide)⟩ (y 0).val

/-- The state after `n` chunks of sequence `b`. -/
def state (b : ℕ) : ℕ → S4096x128.Idx → EReal
  | 0 => fun _ => 0
  | n + 1 => fun y => stepState (state b n) (chX P w cb b n) (chB P w cb b n) (chD P dtb b n) (chA P dtb al b n) (y 0) (y 1)

/-- The gated and normed result of chunk `n`. -/
def out (b n : ℕ) (l : Fin 128) (r : Fin 4096) : EReal :=
  groupNorm (stepY (state P w cb dtb al b n) (chZ P b n) (chX P w cb b n) (chB P w cb b n) (chC P w cb b n) (chD P dtb b n) (chA P dtb al b n)
    (fun y => dk (ix1 ⟨(y 1).val / 64, by have := (y 1).isLt; change _ < 4096 at this; omega⟩))) (fun y => nw (ix1 (y 1))) l r

/-- A chunk's state depends on the step sizes and sums of the sixty-four heads only. -/
theorem stepState_congr {S S' : S4096x128.Idx → EReal} {X X' : S128x4096.Idx → EReal} {B B' : S128x1024.Idx → EReal} {D D' A A' : S128x128.Idx → EReal}
    (hS : S = S') (hX : X = X') (hB : B = B') (hD : ∀ (l : Fin 128) (h : Fin 128), h.val < 64 → D (ix2 l h) = D' (ix2 l h))
    (hA : ∀ (l : Fin 128) (h : Fin 128), h.val < 64 → A (ix2 l h) = A' (ix2 l h)) (r : Fin 4096) (n : Fin 128) :
    stepState S X B D A r n = stepState S' X' B' D' A' r n := by
  subst hS hX hB
  have hr : r.val / 64 < 64 := by omega
  unfold stepState
  simp only [hD _ ⟨r.val / 64, by omega⟩ hr, hA _ ⟨r.val / 64, by omega⟩ hr]

/-- A chunk's result depends on the step sizes and sums of the sixty-four heads only. -/
theorem stepY_congr {S S' : S4096x128.Idx → EReal} {Z Z' X X' : S128x4096.Idx → EReal} {B B' C C' : S128x1024.Idx → EReal} {D D' A A' : S128x128.Idx → EReal}
    {K K' : S1x4096.Idx → EReal}
    (hS : S = S') (hZ : Z = Z') (hX : X = X') (hB : B = B') (hC : C = C') (hK : K = K')
    (hD : ∀ (l : Fin 128) (h : Fin 128), h.val < 64 → D (ix2 l h) = D' (ix2 l h))
    (hA : ∀ (l : Fin 128) (h : Fin 128), h.val < 64 → A (ix2 l h) = A' (ix2 l h)) :
    stepY S Z X B C D A K = stepY S' Z' X' B' C' D' A' K' := by
  subst hS hZ hX hB hC hK
  funext l r
  have hr : r.val / 64 < 64 := by omega
  unfold stepY
  simp only [hD _ ⟨r.val / 64, by omega⟩ hr, hA _ ⟨r.val / 64, by omega⟩ hr]

end Cert.SsdMath

end
-- ==== Proof.SsdBlk.lean ====
module

public import proofs.«01_k».proof.Proof.SsdFn
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdIdeal.Alg

open Cert.SsdIdeal Cert.SsdIdeal.Gen Cert.SsdMath

variable (m : (ℓ : Loc nD τ sig) → Buf (Elt Ideal) ℓ) (c : Dev nD)

/-- The projected array at launch. -/
abbrev aP : Vec Ideal S8256x10752 .f32 := m ((c : Thread nD τ).loc main_arg0)
/-- The convolution's weight at launch. -/
abbrev aW : Vec Ideal S4x6144 .f32 := m ((c : Thread nD τ).loc main_arg1)
/-- The convolution's bias at launch. -/
abbrev aCb : Vec Ideal S6144 .f32 := m ((c : Thread nD τ).loc main_arg2)
/-- The step sizes' bias at launch. -/
abbrev aDt : Vec Ideal S64 .f32 := m ((c : Thread nD τ).loc main_arg3)
/-- The logarithms of the decay rates at launch. -/
abbrev aAl : Vec Ideal S64 .f32 := m ((c : Thread nD τ).loc main_arg4)
/-- The skip weights at launch. -/
abbrev aDk : Vec Ideal S64 .f32 := m ((c : Thread nD τ).loc main_arg5)
/-- The norm's weight at launch. -/
abbrev aNw : Vec Ideal S4096 .f32 := m ((c : Thread nD τ).loc main_arg6)

/-- The block indices of the row windows at every grid point. -/
theorem idxRows : ∀ t : Fin cfg0.N, win0_0.index t (0 : Fin 2) = t.val ∧ win0_0.index t (1 : Fin 2) = 0
    ∧ win0_1.index t (0 : Fin 2) = t.val ∧ win0_1.index t (1 : Fin 2) = 1
    ∧ win0_2.index t (0 : Fin 2) = t.val ∧ win0_2.index t (1 : Fin 2) = 8
    ∧ win0_3.index t (0 : Fin 2) = t.val ∧ win0_3.index t (1 : Fin 2) = 9
    ∧ win0_4.index t (0 : Fin 2) = t.val ∧ win0_4.index t (1 : Fin 2) = 80 :=
  (by decide +kernel : ∀ t : Fin grid0.N, _)

/-- The block indices of the other windows at every grid point. -/
theorem idxRest : ∀ t : Fin cfg0.N, win0_5.index t (0 : Fin 3) = t.val / 32 ∧ win0_5.index t (1 : Fin 3) = 0 ∧ win0_5.index t (2 : Fin 3) = 0
    ∧ win0_6.index t (0 : Fin 3) = t.val / 32 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

open StableHlo

/-- The eight rows before the sequences enter as zeros. -/
theorem entryPrev : (V m c main_v0 : Vec Ideal S2x8x6144 .f32) = broadcastInDim S2x8x6144 ![] bcast_S_S2x8x6144 (constant (F := Ideal) S_ .f32 0x00000000#32) := by
  show after [hostOps0, hostOps0_1, hostOps0_2, hostOps0_3, hostOps0_4].flatten (fun b => m (c, b)) (Proc.tc.devRef main_v0) = _
  simp only [List.flatten_cons, List.flatten_nil, List.append_nil, List.cons_append, List.nil_append, hostOps0, hostOps0_1, hostOps0_2, hostOps0_3, hostOps0_4, TRef.binary, TRef.nullary, TRef.unary, TRef.toBuf, TRef.ofBuf, cast_eq]
  after_results_simp

/-- The state enters as zeros. -/
theorem entryS0 : (V m c main_v1 : Vec Ideal S2x4096x128 .f32) = broadcastInDim S2x4096x128 ![] bcast_S_S2x4096x128 (constant (F := Ideal) S_ .f32 0x00000000#32) := by
  show after [hostOps0, hostOps0_1, hostOps0_2, hostOps0_3, hostOps0_4].flatten (fun b => m (c, b)) (Proc.tc.devRef main_v1) = _
  simp only [List.flatten_cons, List.flatten_nil, List.append_nil, List.cons_append, List.nil_append, hostOps0, hostOps0_1, hostOps0_2, hostOps0_3, hostOps0_4, TRef.binary, TRef.nullary, TRef.unary, TRef.toBuf, TRef.ofBuf, cast_eq]
  after_results_simp

/-- The convolution's bias as it enters the call. -/
theorem entryCb : (V m c main_v2 : Vec Ideal S1x6144 .f32) = shapeCast S1x6144 (aCb m c) shapeCasts_S6144_S1x6144 := by
  show after [hostOps0, hostOps0_1, hostOps0_2, hostOps0_3, hostOps0_4].flatten (fun b => m (c, b)) (Proc.tc.devRef main_v2) = _
  simp only [List.flatten_cons, List.flatten_nil, List.append_nil, List.cons_append, List.nil_append, hostOps0, hostOps0_1, hostOps0_2, hostOps0_3, hostOps0_4, TRef.binary, TRef.nullary, TRef.unary, TRef.toBuf, TRef.ofBuf, cast_eq]
  after_results_simp
  rfl

/-- The step sizes' bias as it enters the call, with sixty-four more lanes. -/
theorem entryDt : (V m c main_v4 : Vec Ideal S1x128 .f32) = shapeCast S1x128 (pad S128 ![0] ![64] ![0] (aDt m c) (sitofp (F := Ideal) .f32 (constantI S_ 32 0#32)) pads_S64_S128_0640 h_S_) shapeCasts_S128_S1x128 := by
  show after [hostOps0, hostOps0_1, hostOps0_2, hostOps0_3, hostOps0_4].flatten (fun b => m (c, b)) (Proc.tc.devRef main_v4) = _
  simp only [List.flatten_cons, List.flatten_nil, List.append_nil, List.cons_append, List.nil_append, hostOps0, hostOps0_1, hostOps0_2, hostOps0_3, hostOps0_4, TRef.binary, TRef.nullary, TRef.unary, TRef.toBuf, TRef.ofBuf, cast_eq]
  after_results_simp
  rfl

/-- The logarithms of the decay rates as they enter the call, with sixty-four more lanes. -/
theorem entryAl : (V m c main_v6 : Vec Ideal S1x128 .f32) = shapeCast S1x128 (pad S128 ![0] ![64] ![0] (aAl m c) (sitofp (F := Ideal) .f32 (constantI S_ 32 0#32)) pads_S64_S128_0640 h_S_) shapeCasts_S128_S1x128 := by
  show after [hostOps0, hostOps0_1, hostOps0_2, hostOps0_3, hostOps0_4].flatten (fun b => m (c, b)) (Proc.tc.devRef main_v6) = _
  simp only [List.flatten_cons, List.flatten_nil, List.append_nil, List.cons_append, List.nil_append, hostOps0, hostOps0_1, hostOps0_2, hostOps0_3, hostOps0_4, TRef.binary, TRef.nullary, TRef.unary, TRef.toBuf, TRef.ofBuf, cast_eq]
  after_results_simp
  rfl

/-- The skip weights as they enter the call, one per column of their head. -/
theorem entryDk : (V m c main_v9 : Vec Ideal S1x4096 .f32) = shapeCast S1x4096 (shapeCast S4096 (broadcastInDim S64x64 ![0] bcast_S64_S64x64_0 (aDk m c)) shapeCasts_S64x64_S4096) shapeCasts_S4096_S1x4096 := by
  show after [hostOps0, hostOps0_1, hostOps0_2, hostOps0_3, hostOps0_4].flatten (fun b => m (c, b)) (Proc.tc.devRef main_v9) = _
  simp only [List.flatten_cons, List.flatten_nil, List.append_nil, List.cons_append, List.nil_append, hostOps0, hostOps0_1, hostOps0_2, hostOps0_3, hostOps0_4, TRef.binary, TRef.nullary, TRef.unary, TRef.toBuf, TRef.ofBuf, cast_eq]
  after_results_simp
  rfl

/-- The norm's weights as they enter the call. -/
theorem entryNw : (V m c main_v10 : Vec Ideal S1x4096 .f32) = shapeCast S1x4096 (aNw m c) shapeCasts_S4096_S1x4096 := by
  show after [hostOps0, hostOps0_1, hostOps0_2, hostOps0_3, hostOps0_4].flatten (fun b => m (c, b)) (Proc.tc.devRef main_v10) = _
  simp only [List.flatten_cons, List.flatten_nil, List.append_nil, List.cons_append, List.nil_append, hostOps0, hostOps0_1, hostOps0_2, hostOps0_3, hostOps0_4, TRef.binary, TRef.nullary, TRef.unary, TRef.toBuf, TRef.ofBuf, cast_eq]
  after_results_simp
  rfl

/-- The gate's rows read at a point. -/
theorem blkZ (t : Fin cfg0.N) (l : Fin 128) (j : Fin 4096) : X0_0 m c t (ix2 l j) = aP m c (ix2 ⟨128 * t.val + l.val, by have := lt_of_lt_of_eq t.isLt N_0; omega⟩ ⟨j.val, by omega⟩) := by
  have ht : t.val < 64 := lt_of_lt_of_eq t.isLt N_0
  obtain ⟨e0, e1, -⟩ := idxRows t
  unfold X0_0 Pipeline.Window.fill
  rw [dif_pos (moved0_0 t _)]
  blk_ext! [iblk, V, e0, e1]

/-- The inner rows read at a point. -/
theorem blkX (t : Fin cfg0.N) (l : Fin 128) (j : Fin 4096) : X0_1 m c t (ix2 l j) = aP m c (ix2 ⟨128 * t.val + l.val, by have := lt_of_lt_of_eq t.isLt N_0; omega⟩ ⟨4096 + j.val, by omega⟩) := by
  have ht : t.val < 64 := lt_of_lt_of_eq t.isLt N_0
  obtain ⟨-, -, e0, e1, -⟩ := idxRows t
  unfold X0_1 Pipeline.Window.fill
  rw [dif_pos (moved0_1 t _)]
  blk_ext! [iblk, V, e0, e1]

/-- The input columns' rows read at a point. -/
theorem blkB (t : Fin cfg0.N) (l : Fin 128) (j : Fin 1024) : X0_2 m c t (ix2 l j) = aP m c (ix2 ⟨128 * t.val + l.val, by have := lt_of_lt_of_eq t.isLt N_0; omega⟩ ⟨8192 + j.val, by omega⟩) := by
  have ht : t.val < 64 := lt_of_lt_of_eq t.isLt N_0
  obtain ⟨-, -, -, -, e0, e1, -⟩ := idxRows t
  unfold X0_2 Pipeline.Window.fill
  rw [dif_pos (moved0_2 t _)]
  blk_ext! [iblk, V, e0, e1]

/-- The output columns' rows read at a point. -/
theorem blkC (t : Fin cfg0.N) (l : Fin 128) (j : Fin 1024) : X0_3 m c t (ix2 l j) = aP m c (ix2 ⟨128 * t.val + l.val, by have := lt_of_lt_of_eq t.isLt N_0; omega⟩ ⟨9216 + j.val, by omega⟩) := by
  have ht : t.val < 64 := lt_of_lt_of_eq t.isLt N_0
  obtain ⟨-, -, -, -, -, -, e0, e1, -⟩ := idxRows t
  unfold X0_3 Pipeline.Window.fill
  rw [dif_pos (moved0_3 t _)]
  blk_ext! [iblk, V, e0, e1]

/-- The step sizes' rows read at a point. -/
theorem blkD (t : Fin cfg0.N) (l : Fin 128) (j : Fin 128) : X0_4 m c t (ix2 l j) = aP m c (ix2 ⟨128 * t.val + l.val, by have := lt_of_lt_of_eq t.isLt N_0; omega⟩ ⟨10240 + j.val, by omega⟩) := by
  have ht : t.val < 64 := lt_of_lt_of_eq t.isLt N_0
  obtain ⟨-, -, -, -, -, -, -, -, e0, e1⟩ := idxRows t
  unfold X0_4 Pipeline.Window.fill
  rw [dif_pos (moved0_4 t _)]
  blk_ext! [iblk, V, e0, e1]

/-- The taps read at a point. -/
theorem blkW (t : Fin cfg0.N) (k : Fin 4) (j : Fin 6144) : iblk m c 7 t (ix2 k j) = aW m c (ix2 k j) := by
  obtain ⟨-, -, -, -, -, -, e0, e1, -⟩ := idxRest t
  blk_ext! [iblk, V, e0, e1]

/-- The convolution's bias read at a point. -/
theorem blkCb (t : Fin cfg0.N) (j : Fin 6144) : iblk m c 8 t (ix2 0 j) = aCb m c (ix1 j) := by
  obtain ⟨-, -, -, -, -, -, -, -, e0, e1, -⟩ := idxRest t
  blk_simp [iblk]
  rw [entryCb]
  pointwise
  exact congrArg (fun a => aCb m c (ix1 a)) (Fin.ext (by blk_simp [e0, e1]))

/-- The norm's weights read at a point. -/
theorem blkNw (t : Fin cfg0.N) (j : Fin 4096) : iblk m c 12 t (ix2 0 j) = aNw m c (ix1 j) := by
  obtain ⟨-, -, -, -, -, -, -, -, -, -, -, -, -, -, -, -, e0, e1⟩ := idxRest t
  blk_simp [iblk]
  rw [entryNw]
  pointwise
  exact congrArg (fun a => aNw m c (ix1 a)) (Fin.ext (by blk_simp [e0, e1]))

/-- The skip weights read at a point. -/
theorem blkDk (t : Fin cfg0.N) (j : Fin 4096) : iblk m c 11 t (ix2 0 j) = aDk m c (ix1 ⟨j.val / 64, by omega⟩) := by
  obtain ⟨-, -, -, -, -, -, -, -, -, -, -, -, -, -, e0, e1, -⟩ := idxRest t
  blk_simp [iblk]
  rw [entryDk]
  pointwise
  exact congrArg (fun a => aDk m c (ix1 a)) (Fin.ext (by blk_simp [e0, e1]))

/-- The step sizes' bias read at one of the sixty-four heads. -/
theorem blkDt (t : Fin cfg0.N) (h : Fin 128) (hh : h.val < 64) : iblk m c 9 t (ix2 0 h) = aDt m c (ix1 ⟨h.val, hh⟩) := by
  obtain ⟨-, -, -, -, -, -, -, -, -, -, e0, e1, -⟩ := idxRest t
  have he : (win0_9.blk t).view.emb (ix2 0 h) = ix2 0 h := by
    refine funext fun a => Fin.ext ?_
    match a with
    | ⟨0, _⟩ => blk_simp [e0, e1]
    | ⟨1, _⟩ => blk_simp [e0, e1]
  blk_simp [iblk]
  rw [entryDt, he]
  pointwise [hh]

/-- The logarithms of the decay rates read at one of the sixty-four heads. -/
theorem blkAl (t : Fin cfg0.N) (h : Fin 128) (hh : h.val < 64) : iblk m c 10 t (ix2 0 h) = aAl m c (ix1 ⟨h.val, hh⟩) := by
  obtain ⟨-, -, -, -, -, -, -, -, -, -, -, -, e0, e1, -⟩ := idxRest t
  have he : (win0_10.blk t).view.emb (ix2 0 h) = ix2 0 h := by
    refine funext fun a => Fin.ext ?_
    match a with
    | ⟨0, _⟩ => blk_simp [e0, e1]
    | ⟨1, _⟩ => blk_simp [e0, e1]
  blk_simp [iblk]
  rw [entryAl, he]
  pointwise [hh]

/-- The rows before a sequence are zeros. -/
theorem prev0 (t : Fin cfg0.N) (y : S8x6144.Idx) : k0_pay3 (F := Ideal) (iblk m c 5 t) y = 0 := by
  idx_vars y
  unfold_payloads
  pointwise
  blk_simp [iblk]
  rw [entryPrev]
  pointwise

/-- The state before a sequence is zeros. -/
theorem state0 (t : Fin cfg0.N) (y : S4096x128.Idx) : k0_pay4 (F := Ideal) (iblk m c 6 t) y = 0 := by
  idx_vars y
  unfold_payloads
  pointwise
  blk_simp [iblk]
  rw [entryS0]
  pointwise

end Cert.SsdIdeal.Alg

end
-- ==== Proof.SsdCar.lean ====
module

public import proofs.«01_k».proof.Proof.SsdKit
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdIdeal.Alg

open Cert.SsdIdeal Cert.SsdIdeal.Gen

variable (m : (ℓ : Loc nD τ sig) → Buf (Elt Ideal) ℓ) (c : Dev nD)

/-- An entry of the chunk's rows, its columns counted through the inner part, the input part and the output part. -/
def colsAt (t : Fin cfg0.N) (off r : ℕ) (j : Fin 6144) : EReal :=
  if h : off + r < 128 then
    if hj : j.val < 4096 then X0_1 m c t (ix2 ⟨off + r, h⟩ ⟨j.val, hj⟩)
    else if hb : j.val < 5120 then X0_2 m c t (ix2 ⟨off + r, h⟩ ⟨j.val - 4096, by omega⟩)
    else X0_3 m c t (ix2 ⟨off + r, h⟩ ⟨j.val - 5120, by omega⟩)
  else 0

set_option maxHeartbeats 4000000 in
/-- A sequence's first trip leaves its chunk's last eight rows. -/
theorem carryA (t : Fin cfg0.N) (h0 : t.val % 32 = 0) (h1 : ¬t.val % 32 = 31) (r : Fin 8) (j : Fin 6144) :
    (outsAt0 m c t.val t.isLt).2.2.2.1 (ix2 r j) = colsAt m c t 120 r.val j := by
  rw [outsAt0_A m c t h0 h1 h1 h1 h1]
  frame_open
  simp (disch := decide) only [↓ View.readCov_skip, ↓ View.readCov_cons_toLoadRect, ↓ View.readCov_fill]
  frame_out
  try simp only [read_unread_whole]
  refine canon_take (s := S8x6144) (Val := Elt Ideal) (e := .f32)
    (fun y => colsAt m c t 120 (y 0).val (y 1)) 3 _ ?_ (ix2 r j) ?_
  rotate_left
  · simp only [List.take_succ_cons, List.take_zero, List.mem_cons, List.not_mem_nil, or_false, exists_eq_or_imp, exists_eq_left, Rect.mem_set_unit]
    have hr := r.isLt
    have hj := j.isLt
    rcases lt_or_ge j.val 4096 with h | h
    · exact Or.inr (Or.inr (Fin.forall_fin_two.mpr ⟨⟨Nat.zero_le _, by show r.val < 0 + 8; omega⟩, ⟨Nat.zero_le _, by show j.val < 0 + 4096; omega⟩⟩))
    rcases lt_or_ge j.val 5120 with h' | h'
    · exact Or.inr (Or.inl (Fin.forall_fin_two.mpr ⟨⟨Nat.zero_le _, by show r.val < 0 + 8; omega⟩, ⟨h, by show j.val < 4096 + 1024; omega⟩⟩))
    · exact Or.inl (Fin.forall_fin_two.mpr ⟨⟨Nat.zero_le _, by show r.val < 0 + 8; omega⟩, ⟨h', by show j.val < 5120 + 1024; omega⟩⟩)
  refine ⟨?_, ?_, ?_, trivial⟩
  all_goals (
    intro x
    idx_vars x
    unfold_payloads
    pointwise
    unfold colsAt
    blk_simp []
    simp (disch := omega) only [dif_pos, dif_neg, Nat.add_sub_cancel_left]
    try rfl)

set_option maxHeartbeats 4000000 in
/-- A trip inside a sequence leaves its chunk's last eight rows. -/
theorem carryB (t : Fin cfg0.N) (h0 : ¬t.val % 32 = 0) (h1 : ¬t.val % 32 = 31) (r : Fin 8) (j : Fin 6144) :
    (outsAt0 m c t.val t.isLt).2.2.2.1 (ix2 r j) = colsAt m c t 120 r.val j := by
  rw [outsAt0_B m c t h0 h1 h1 h1 h1]
  frame_open
  simp (disch := decide) only [↓ View.readCov_skip, ↓ View.readCov_cons_toLoadRect, ↓ View.readCov_fill]
  frame_out
  try simp only [read_unread_whole]
  refine canon_take (s := S8x6144) (Val := Elt Ideal) (e := .f32)
    (fun y => colsAt m c t 120 (y 0).val (y 1)) 3 _ ?_ (ix2 r j) ?_
  rotate_left
  · simp only [List.take_succ_cons, List.take_zero, List.mem_cons, List.not_mem_nil, or_false, exists_eq_or_imp, exists_eq_left, Rect.mem_set_unit]
    have hr := r.isLt
    have hj := j.isLt
    rcases lt_or_ge j.val 4096 with h | h
    · exact Or.inr (Or.inr (Fin.forall_fin_two.mpr ⟨⟨Nat.zero_le _, by show r.val < 0 + 8; omega⟩, ⟨Nat.zero_le _, by show j.val < 0 + 4096; omega⟩⟩))
    rcases lt_or_ge j.val 5120 with h' | h'
    · exact Or.inr (Or.inl (Fin.forall_fin_two.mpr ⟨⟨Nat.zero_le _, by show r.val < 0 + 8; omega⟩, ⟨h, by show j.val < 4096 + 1024; omega⟩⟩))
    · exact Or.inl (Fin.forall_fin_two.mpr ⟨⟨Nat.zero_le _, by show r.val < 0 + 8; omega⟩, ⟨h', by show j.val < 5120 + 1024; omega⟩⟩)
  refine ⟨?_, ?_, ?_, trivial⟩
  all_goals (
    intro x
    idx_vars x
    unfold_payloads
    pointwise
    unfold colsAt
    blk_simp []
    simp (disch := omega) only [dif_pos, dif_neg, Nat.add_sub_cancel_left]
    try rfl)

set_option maxHeartbeats 4000000 in
/-- A sequence's last trip leaves its chunk's last eight rows. -/
theorem carryC (t : Fin cfg0.N) (h0 : ¬t.val % 32 = 0) (h1 : t.val % 32 = 31) (r : Fin 8) (j : Fin 6144) :
    (outsAt0 m c t.val t.isLt).2.2.2.1 (ix2 r j) = colsAt m c t 120 r.val j := by
  rw [outsAt0_C m c t h0 h1 h1 h1 h1]
  frame_open
  simp (disch := decide) only [↓ View.readCov_skip, ↓ View.readCov_cons_toLoadRect, ↓ View.readCov_fill]
  frame_out
  try simp only [read_unread_whole]
  refine canon_take (s := S8x6144) (Val := Elt Ideal) (e := .f32)
    (fun y => colsAt m c t 120 (y 0).val (y 1)) 3 _ ?_ (ix2 r j) ?_
  rotate_left
  · simp only [List.take_succ_cons, List.take_zero, List.mem_cons, List.not_mem_nil, or_false, exists_eq_or_imp, exists_eq_left, Rect.mem_set_unit]
    have hr := r.isLt
    have hj := j.isLt
    rcases lt_or_ge j.val 4096 with h | h
    · exact Or.inr (Or.inr (Fin.forall_fin_two.mpr ⟨⟨Nat.zero_le _, by show r.val < 0 + 8; omega⟩, ⟨Nat.zero_le _, by show j.val < 0 + 4096; omega⟩⟩))
    rcases lt_or_ge j.val 5120 with h' | h'
    · exact Or.inr (Or.inl (Fin.forall_fin_two.mpr ⟨⟨Nat.zero_le _, by show r.val < 0 + 8; omega⟩, ⟨h, by show j.val < 4096 + 1024; omega⟩⟩))
    · exact Or.inl (Fin.forall_fin_two.mpr ⟨⟨Nat.zero_le _, by show r.val < 0 + 8; omega⟩, ⟨h', by show j.val < 5120 + 1024; omega⟩⟩)
  refine ⟨?_, ?_, ?_, trivial⟩
  all_goals (
    intro x
    idx_vars x
    unfold_payloads
    pointwise
    unfold colsAt
    blk_simp []
    simp (disch := omega) only [dif_pos, dif_neg, Nat.add_sub_cancel_left]
    try rfl)

set_option maxHeartbeats 4000000 in
/-- A sequence's last trip writes its chunk's last three rows. -/
theorem convC (t : Fin cfg0.N) (h0 : ¬t.val % 32 = 0) (h1 : t.val % 32 = 31) (r : Fin 3) (j : Fin 6144) :
    (outsAt0 m c t.val t.isLt).2.1 (ix3 0 r j) = colsAt m c t 125 r.val j := by
  rw [outsAt0_C m c t h0 h1 h1 h1 h1]
  frame_open
  simp (disch := decide) only [↓ View.readCov_skip, ↓ View.readCov_cons_toLoadRect, ↓ View.readCov_fill]
  frame_out
  try simp only [read_unread_whole]
  refine canon_take (s := S1x3x6144) (Val := Elt Ideal) (e := .f32)
    (fun y => colsAt m c t 125 (y 1).val (y 2)) 3 _ ?_ (ix3 0 r j) ?_
  rotate_left
  · simp only [List.take_succ_cons, List.take_zero, List.mem_cons, List.not_mem_nil, or_false, exists_eq_or_imp, exists_eq_left, Rect.mem_set_unit]
    have hr := r.isLt
    have hj := j.isLt
    rcases lt_or_ge j.val 4096 with h | h
    · exact Or.inr (Or.inr (Fin.forall_fin_succ.mpr ⟨⟨Nat.le_refl 0, Nat.zero_lt_one⟩, Fin.forall_fin_two.mpr ⟨⟨Nat.zero_le _, by show r.val < 0 + 3; omega⟩, ⟨Nat.zero_le _, by show j.val < 0 + 4096; omega⟩⟩⟩))
    rcases lt_or_ge j.val 5120 with h' | h'
    · exact Or.inr (Or.inl (Fin.forall_fin_succ.mpr ⟨⟨Nat.le_refl 0, Nat.zero_lt_one⟩, Fin.forall_fin_two.mpr ⟨⟨Nat.zero_le _, by show r.val < 0 + 3; omega⟩, ⟨h, by show j.val < 4096 + 1024; omega⟩⟩⟩))
    · exact Or.inl (Fin.forall_fin_succ.mpr ⟨⟨Nat.le_refl 0, Nat.zero_lt_one⟩, Fin.forall_fin_two.mpr ⟨⟨Nat.zero_le _, by show r.val < 0 + 3; omega⟩, ⟨h', by show j.val < 5120 + 1024; omega⟩⟩⟩)
  refine ⟨?_, ?_, ?_, trivial⟩
  all_goals (
    intro x
    idx_vars x
    unfold_payloads
    pointwise
    unfold colsAt
    blk_simp []
    simp (disch := omega) only [dif_pos, dif_neg, Nat.add_sub_cancel_left]
    try rfl)

set_option maxHeartbeats 4000000 in
/-- A sequence's last trip writes the state it leaves. -/
theorem finC (t : Fin cfg0.N) (h0 : ¬t.val % 32 = 0) (h1 : t.val % 32 = 31) :
    (outsAt0 m c t.val t.isLt).2.2.1 = k0_pay2 (F := Ideal) (outsAt0 m c t.val t.isLt).2.2.2.2 := by
  rw [outsAt0_C m c t h0 h1 h1 h1 h1]
  frame_open
  frame_out
  refine congrArg (k0_pay2 (F := Ideal)) ?_
  refine (View.readCov_eq_canon' _ _ _).trans ?_
  refine funext fun y => congrArg (View.canon _) (funext fun a => Fin.ext ?_)
  match a with
  | ⟨0, _⟩ => exact (Nat.zero_add _).trans (Nat.one_mul _)
  | ⟨1, _⟩ => exact (Nat.zero_add _).trans (Nat.one_mul _)

end Cert.SsdIdeal.Alg

end
-- ==== Proof.SsdA1.lean ====
module

public import proofs.«01_k».proof.Proof.SsdKit
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdIdeal.Alg

open Cert.SsdIdeal Cert.SsdIdeal.Gen

variable (m : (ℓ : Loc nD τ sig) → Buf (Elt Ideal) ℓ) (c : Dev nD)

set_option maxHeartbeats 8000000 in
/-- The state after a chunk that is the first of its sequence. -/
theorem stateA (t : Fin cfg0.N) (h0 : t.val % 32 = 0) (h1 : ¬t.val % 32 = 31) (i : Fin 4096) (k : Fin 128) :
    (outsAt0 m c t.val t.isLt).2.2.2.2 (ix2 i k)
      = stepState (k0_pay4 (F := Ideal) (iblk m c 6 t))
          (kX m c t (k0_pay3 (F := Ideal) (iblk m c 5 t)))
          (kB m c t (k0_pay3 (F := Ideal) (iblk m c 5 t)))
          (kD m c t) (kA m c t) i k := by
  rw [outsAt0_A m c t h0 h1 h1 h1 h1]
  frame_open
  simp (disch := decide) only [↓ View.readCov_skip, ↓ View.readCov_cons_toLoadRect, ↓ View.readCov_fill]
  frame_out
  try simp only [read_unread_whole]
  generalize hX : k0_pay7 (F := Ideal) _ _ _ _ _ _ _ = X
  generalize hB : k0_pay13 (F := Ideal) _ = Bm
  generalize k0_pay19 (F := Ideal) _ _ _ _ _ _ _ _ = Cm
  generalize hD : k0_pay22 (F := Ideal) _ _ _ = D
  rw [show kX m c t (k0_pay3 (F := Ideal) (iblk m c 5 t)) = X from hX,
    show kB m c t (k0_pay3 (F := Ideal) (iblk m c 5 t)) = Bm from hB,
    show kD m c t = D from hD]
  clear hX hB hD
  simp (disch := decide) only [read_cols]
  have e26 := sumsT m c t
  have e28 := sumsEnd m c t
  generalize k0_pay26 (F := Ideal) _ _ _ = AT at e26 ⊢
  generalize k0_pay28 (F := Ideal) _ _ _ = TE at e28 ⊢
  generalize kA m c t = A at e26 e28 ⊢
  refine canon_take (s := S4096x128) (Val := Elt Ideal) (e := .f32)
    (fun y => stepState (k0_pay4 (F := Ideal) (iblk m c 6 t)) X Bm D A (y 0) (y 1)) 64 _ ?_ (ix2 i k) ?_
  rotate_left
  · exact View.cover_of_tiled_head _ _ _ (by rfl) _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals (
    intro x
    have hx := (x 0).isLt
    change (x 0).val < 64 at hx
    refine Eq.trans ?_ (stepState_block _ _ _ _ _ _ ?_ x ?_).symm
    rotate_left
    · decide
    · decide
    unfold_payloads
    pointwise [e26, e28]
    try simp (disch := omega) only [dif_pos, dif_neg, half_lo, half_hi, Nat.sub_add_comm, ← Nat.add_assoc, Nat.reduceAdd, Nat.reduceSub]
    done)

end Cert.SsdIdeal.Alg

end
-- ==== Proof.SsdB1.lean ====
module

public import proofs.«01_k».proof.Proof.SsdKit
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdIdeal.Alg

open Cert.SsdIdeal Cert.SsdIdeal.Gen

variable (m : (ℓ : Loc nD τ sig) → Buf (Elt Ideal) ℓ) (c : Dev nD)

set_option maxHeartbeats 8000000 in
/-- The state after a chunk that is inside of its sequence. -/
theorem stateB (t : Fin cfg0.N) (h0 : ¬t.val % 32 = 0) (h1 : ¬t.val % 32 = 31) (i : Fin 4096) (k : Fin 128) :
    (outsAt0 m c t.val t.isLt).2.2.2.2 (ix2 i k)
      = stepState (outsAt0 m c (t.val - 1) (lt_of_le_of_lt (Nat.sub_le _ _) t.isLt)).2.2.2.2
          (kX m c t (outsAt0 m c (t.val - 1) (lt_of_le_of_lt (Nat.sub_le _ _) t.isLt)).2.2.2.1)
          (kB m c t (outsAt0 m c (t.val - 1) (lt_of_le_of_lt (Nat.sub_le _ _) t.isLt)).2.2.2.1)
          (kD m c t) (kA m c t) i k := by
  rw [outsAt0_B m c t h0 h1 h1 h1 h1]
  frame_open
  simp (disch := decide) only [↓ View.readCov_skip, ↓ View.readCov_cons_toLoadRect, ↓ View.readCov_fill]
  frame_out
  simp only [read_unread_whole]
  generalize hX : k0_pay7 (F := Ideal) _ _ _ _ _ _ _ = X
  generalize hB : k0_pay13 (F := Ideal) _ = Bm
  generalize k0_pay19 (F := Ideal) _ _ _ _ _ _ _ _ = Cm
  generalize hD : k0_pay22 (F := Ideal) _ _ _ = D
  rw [show kX m c t (outsAt0 m c (t.val - 1) (lt_of_le_of_lt (Nat.sub_le _ _) t.isLt)).2.2.2.1 = X from hX,
    show kB m c t (outsAt0 m c (t.val - 1) (lt_of_le_of_lt (Nat.sub_le _ _) t.isLt)).2.2.2.1 = Bm from hB,
    show kD m c t = D from hD]
  clear hX hB hD
  simp (disch := decide) only [read_cols]
  have e26 := sumsT m c t
  have e28 := sumsEnd m c t
  generalize k0_pay26 (F := Ideal) _ _ _ = AT at e26 ⊢
  generalize k0_pay28 (F := Ideal) _ _ _ = TE at e28 ⊢
  generalize kA m c t = A at e26 e28 ⊢
  refine canon_take (s := S4096x128) (Val := Elt Ideal) (e := .f32)
    (fun y => stepState (outsAt0 m c (t.val - 1) (lt_of_le_of_lt (Nat.sub_le _ _) t.isLt)).2.2.2.2 X Bm D A (y 0) (y 1)) 64 _ ?_ (ix2 i k) ?_
  rotate_left
  · exact View.cover_of_tiled_head _ _ _ (by rfl) _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals (
    intro x
    have hx := (x 0).isLt
    change (x 0).val < 64 at hx
    refine Eq.trans ?_ (stepState_block _ _ _ _ _ _ ?_ x ?_).symm
    rotate_left
    · decide
    · decide
    unfold_payloads
    pointwise [e26, e28]
    try simp (disch := omega) only [dif_pos, dif_neg, half_lo, half_hi, Nat.sub_add_comm, ← Nat.add_assoc, Nat.reduceAdd, Nat.reduceSub]
    done)

end Cert.SsdIdeal.Alg

end
-- ==== Proof.SsdC1.lean ====
module

public import proofs.«01_k».proof.Proof.SsdKit
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdIdeal.Alg

open Cert.SsdIdeal Cert.SsdIdeal.Gen

variable (m : (ℓ : Loc nD τ sig) → Buf (Elt Ideal) ℓ) (c : Dev nD)

set_option maxHeartbeats 8000000 in
/-- The state after a chunk that is the last of its sequence. -/
theorem stateC (t : Fin cfg0.N) (h0 : ¬t.val % 32 = 0) (h1 : t.val % 32 = 31) (i : Fin 4096) (k : Fin 128) :
    (outsAt0 m c t.val t.isLt).2.2.2.2 (ix2 i k)
      = stepState (outsAt0 m c (t.val - 1) (lt_of_le_of_lt (Nat.sub_le _ _) t.isLt)).2.2.2.2
          (kX m c t (outsAt0 m c (t.val - 1) (lt_of_le_of_lt (Nat.sub_le _ _) t.isLt)).2.2.2.1)
          (kB m c t (outsAt0 m c (t.val - 1) (lt_of_le_of_lt (Nat.sub_le _ _) t.isLt)).2.2.2.1)
          (kD m c t) (kA m c t) i k := by
  rw [outsAt0_C m c t h0 h1 h1 h1 h1]
  frame_open
  simp (disch := decide) only [↓ View.readCov_skip, ↓ View.readCov_cons_toLoadRect, ↓ View.readCov_fill]
  frame_out
  simp only [read_unread_whole]
  generalize hX : k0_pay7 (F := Ideal) _ _ _ _ _ _ _ = X
  generalize hB : k0_pay13 (F := Ideal) _ = Bm
  generalize k0_pay19 (F := Ideal) _ _ _ _ _ _ _ _ = Cm
  generalize hD : k0_pay22 (F := Ideal) _ _ _ = D
  rw [show kX m c t (outsAt0 m c (t.val - 1) (lt_of_le_of_lt (Nat.sub_le _ _) t.isLt)).2.2.2.1 = X from hX,
    show kB m c t (outsAt0 m c (t.val - 1) (lt_of_le_of_lt (Nat.sub_le _ _) t.isLt)).2.2.2.1 = Bm from hB,
    show kD m c t = D from hD]
  clear hX hB hD
  simp (disch := decide) only [read_cols]
  have e26 := sumsT m c t
  have e28 := sumsEnd m c t
  generalize k0_pay26 (F := Ideal) _ _ _ = AT at e26 ⊢
  generalize k0_pay28 (F := Ideal) _ _ _ = TE at e28 ⊢
  generalize kA m c t = A at e26 e28 ⊢
  refine canon_take (s := S4096x128) (Val := Elt Ideal) (e := .f32)
    (fun y => stepState (outsAt0 m c (t.val - 1) (lt_of_le_of_lt (Nat.sub_le _ _) t.isLt)).2.2.2.2 X Bm D A (y 0) (y 1)) 64 _ ?_ (ix2 i k) ?_
  rotate_left
  · exact View.cover_of_tiled_head _ _ _ (by rfl) _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals (
    intro x
    have hx := (x 0).isLt
    change (x 0).val < 64 at hx
    refine Eq.trans ?_ (stepState_block _ _ _ _ _ _ ?_ x ?_).symm
    rotate_left
    · decide
    · decide
    unfold_payloads
    pointwise [e26, e28]
    try simp (disch := omega) only [dif_pos, dif_neg, half_lo, half_hi, Nat.sub_add_comm, ← Nat.add_assoc, Nat.reduceAdd, Nat.reduceSub]
    done)

end Cert.SsdIdeal.Alg

end
-- ==== Proof.SsdA2.lean ====
module

public import proofs.«01_k».proof.Proof.SsdKit
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdIdeal.Alg

open Cert.SsdIdeal Cert.SsdIdeal.Gen

variable (m : (ℓ : Loc nD τ sig) → Buf (Elt Ideal) ℓ) (c : Dev nD)

set_option maxHeartbeats 8000000 in
/-- The result of a chunk that is the first of its sequence. -/
theorem outA (t : Fin cfg0.N) (h0 : t.val % 32 = 0) (h1 : ¬t.val % 32 = 31) (i : Fin 128) (k : Fin 4096) :
    (outsAt0 m c t.val t.isLt).1 (ix2 i k)
      = groupNorm (stepY (k0_pay4 (F := Ideal) (iblk m c 6 t))
          (X0_0 m c t) (kX m c t (k0_pay3 (F := Ideal) (iblk m c 5 t)))
          (kB m c t (k0_pay3 (F := Ideal) (iblk m c 5 t)))
          (kC m c t (k0_pay3 (F := Ideal) (iblk m c 5 t)))
          (kD m c t) (kA m c t) (iblk m c 11 t)) (iblk m c 12 t) i k := by
  rw [outsAt0_A m c t h0 h1 h1 h1 h1]
  frame_open
  simp (disch := decide) only [↓ read_quad, ↓ View.readCov_skip, ↓ View.readCov_cons_toLoadRect, ↓ View.readCov_fill]
  frame_out
  try simp only [read_unread_whole]
  generalize hX : k0_pay7 (F := Ideal) _ _ _ _ _ _ _ = X
  generalize hB : k0_pay13 (F := Ideal) _ = Bm
  generalize hC : k0_pay19 (F := Ideal) _ _ _ _ _ _ _ _ = Cm
  generalize hD : k0_pay22 (F := Ideal) _ _ _ = D
  rw [show kX m c t (k0_pay3 (F := Ideal) (iblk m c 5 t)) = X from hX,
    show kB m c t (k0_pay3 (F := Ideal) (iblk m c 5 t)) = Bm from hB,
    show kC m c t (k0_pay3 (F := Ideal) (iblk m c 5 t)) = Cm from hC,
    show kD m c t = D from hD]
  clear hX hB hC hD
  simp (disch := decide) only [read_cols]
  have e26 := sumsT m c t
  have e27 := sumsExp m c t
  generalize k0_pay26 (F := Ideal) _ _ _ = AT at e26 ⊢
  generalize k0_pay27 (F := Ideal) _ _ _ = EA at e27 ⊢
  generalize hA : k0_pay25 (F := Ideal) _ _ _ = A
  rw [show kA m c t = A from hA] at e26 e27 ⊢
  clear hA
  refine group_step _ _ _ _ _ (stepY (k0_pay4 (F := Ideal) (iblk m c 6 t)) (X0_0 m c t) X Bm Cm D A (iblk m c 11 t)) _ _ _ _ _ _ _ _ _ (by decide) ?_ ?_ ?_ ?_ ?_ fun n7 => ?_
  rotate_left 5
  refine group_step _ _ _ _ _ (stepY (k0_pay4 (F := Ideal) (iblk m c 6 t)) (X0_0 m c t) X Bm Cm D A (iblk m c 11 t)) _ _ _ _ _ _ _ _ _ (by decide) ?_ ?_ ?_ ?_ ?_ fun n6 => ?_
  rotate_left 5
  refine group_step _ _ _ _ _ (stepY (k0_pay4 (F := Ideal) (iblk m c 6 t)) (X0_0 m c t) X Bm Cm D A (iblk m c 11 t)) _ _ _ _ _ _ _ _ _ (by decide) ?_ ?_ ?_ ?_ ?_ fun n5 => ?_
  rotate_left 5
  refine group_step _ _ _ _ _ (stepY (k0_pay4 (F := Ideal) (iblk m c 6 t)) (X0_0 m c t) X Bm Cm D A (iblk m c 11 t)) _ _ _ _ _ _ _ _ _ (by decide) ?_ ?_ ?_ ?_ ?_ fun n4 => ?_
  rotate_left 5
  refine group_step _ _ _ _ _ (stepY (k0_pay4 (F := Ideal) (iblk m c 6 t)) (X0_0 m c t) X Bm Cm D A (iblk m c 11 t)) _ _ _ _ _ _ _ _ _ (by decide) ?_ ?_ ?_ ?_ ?_ fun n3 => ?_
  rotate_left 5
  refine group_step _ _ _ _ _ (stepY (k0_pay4 (F := Ideal) (iblk m c 6 t)) (X0_0 m c t) X Bm Cm D A (iblk m c 11 t)) _ _ _ _ _ _ _ _ _ (by decide) ?_ ?_ ?_ ?_ ?_ fun n2 => ?_
  rotate_left 5
  refine group_step _ _ _ _ _ (stepY (k0_pay4 (F := Ideal) (iblk m c 6 t)) (X0_0 m c t) X Bm Cm D A (iblk m c 11 t)) _ _ _ _ _ _ _ _ _ (by decide) ?_ ?_ ?_ ?_ ?_ fun n1 => ?_
  rotate_left 5
  refine group_step _ _ _ _ _ (stepY (k0_pay4 (F := Ideal) (iblk m c 6 t)) (X0_0 m c t) X Bm Cm D A (iblk m c 11 t)) _ _ _ _ _ _ _ _ _ (by decide) ?_ ?_ ?_ ?_ ?_ fun n0 => ?_
  rotate_left 5
  · exfalso
    have := k.isLt
    omega
  all_goals first
    | (intro hq q eq
       refine Eq.trans ?_ (groupNorm_at _ _ _ _ _ _ ?_ eq ?_).symm
       rotate_left
       · decide
       · decide
       generalize quad _ _ _ _ = V at hq ⊢
       generalize stepY _ _ _ _ _ _ _ _ = Yf at hq ⊢
       unfold_payloads
       pointwise [hq]
       done)
    | (intro l q
       have hl := q.isLt
       rcases lt_or_ge q.val 64 with hq | hq
       · refine Eq.trans ?_ (stepY_lo _ _ _ _ _ _ _ _ _ l q _ (by decide) hq).symm
         unfold_payloads
         pointwise [e26, e27]
         simp (disch := omega) only [causal_sel, half_lo, other_lo, Finset.sum_const_zero, add_zero, zero_add, ← Nat.add_assoc, Nat.reduceAdd]
         done
       · refine Eq.trans ?_ (stepY_hi _ _ _ _ _ _ _ _ _ l q _ (by decide) hq).symm
         unfold_payloads
         pointwise [e26, e27]
         simp (disch := omega) only [causal_sel, half_hi, other_hi, Finset.sum_const_zero, add_zero, zero_add, ← Nat.add_assoc, Nat.reduceAdd]
         done)

end Cert.SsdIdeal.Alg

end
-- ==== Proof.SsdB2.lean ====
module

public import proofs.«01_k».proof.Proof.SsdKit
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdIdeal.Alg

open Cert.SsdIdeal Cert.SsdIdeal.Gen

variable (m : (ℓ : Loc nD τ sig) → Buf (Elt Ideal) ℓ) (c : Dev nD)

set_option maxHeartbeats 8000000 in
/-- The result of a chunk that is inside of its sequence. -/
theorem outB (t : Fin cfg0.N) (h0 : ¬t.val % 32 = 0) (h1 : ¬t.val % 32 = 31) (i : Fin 128) (k : Fin 4096) :
    (outsAt0 m c t.val t.isLt).1 (ix2 i k)
      = groupNorm (stepY (outsAt0 m c (t.val - 1) (lt_of_le_of_lt (Nat.sub_le _ _) t.isLt)).2.2.2.2
          (X0_0 m c t) (kX m c t (outsAt0 m c (t.val - 1) (lt_of_le_of_lt (Nat.sub_le _ _) t.isLt)).2.2.2.1)
          (kB m c t (outsAt0 m c (t.val - 1) (lt_of_le_of_lt (Nat.sub_le _ _) t.isLt)).2.2.2.1)
          (kC m c t (outsAt0 m c (t.val - 1) (lt_of_le_of_lt (Nat.sub_le _ _) t.isLt)).2.2.2.1)
          (kD m c t) (kA m c t) (iblk m c 11 t)) (iblk m c 12 t) i k := by
  rw [outsAt0_B m c t h0 h1 h1 h1 h1]
  frame_open
  simp (disch := decide) only [↓ read_quad, ↓ View.readCov_skip, ↓ View.readCov_cons_toLoadRect, ↓ View.readCov_fill]
  frame_out
  simp only [read_unread_whole]
  generalize hX : k0_pay7 (F := Ideal) _ _ _ _ _ _ _ = X
  generalize hB : k0_pay13 (F := Ideal) _ = Bm
  generalize hC : k0_pay19 (F := Ideal) _ _ _ _ _ _ _ _ = Cm
  generalize hD : k0_pay22 (F := Ideal) _ _ _ = D
  rw [show kX m c t (outsAt0 m c (t.val - 1) (lt_of_le_of_lt (Nat.sub_le _ _) t.isLt)).2.2.2.1 = X from hX,
    show kB m c t (outsAt0 m c (t.val - 1) (lt_of_le_of_lt (Nat.sub_le _ _) t.isLt)).2.2.2.1 = Bm from hB,
    show kC m c t (outsAt0 m c (t.val - 1) (lt_of_le_of_lt (Nat.sub_le _ _) t.isLt)).2.2.2.1 = Cm from hC,
    show kD m c t = D from hD]
  clear hX hB hC hD
  simp (disch := decide) only [read_cols]
  have e26 := sumsT m c t
  have e27 := sumsExp m c t
  generalize k0_pay26 (F := Ideal) _ _ _ = AT at e26 ⊢
  generalize k0_pay27 (F := Ideal) _ _ _ = EA at e27 ⊢
  generalize hA : k0_pay25 (F := Ideal) _ _ _ = A
  rw [show kA m c t = A from hA] at e26 e27 ⊢
  clear hA
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n7 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n6 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n5 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n4 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n3 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n2 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n1 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n0 => ?_
  rotate_left 5
  · exfalso
    have := k.isLt
    omega
  all_goals first
    | (intro hq q eq
       refine Eq.trans ?_ (groupNorm_at _ _ _ _ _ _ ?_ eq ?_).symm
       rotate_left
       · decide
       · decide
       generalize quad _ _ _ _ = V at hq ⊢
       unfold_payloads
       pointwise [hq]
       done)
    | (intro l q
       have hl := q.isLt
       rcases lt_or_ge q.val 64 with hq | hq
       · refine Eq.trans ?_ (stepY_lo _ _ _ _ _ _ _ _ _ l q _ (by decide) hq).symm
         unfold_payloads
         pointwise [e26, e27]
         simp (disch := omega) only [causal_sel, half_lo, other_lo, Finset.sum_const_zero, add_zero, zero_add, ← Nat.add_assoc, Nat.reduceAdd]
         done
       · refine Eq.trans ?_ (stepY_hi _ _ _ _ _ _ _ _ _ l q _ (by decide) hq).symm
         unfold_payloads
         pointwise [e26, e27]
         simp (disch := omega) only [causal_sel, half_hi, other_hi, Finset.sum_const_zero, add_zero, zero_add, ← Nat.add_assoc, Nat.reduceAdd]
         done)

end Cert.SsdIdeal.Alg

end
-- ==== Proof.SsdC2.lean ====
module

public import proofs.«01_k».proof.Proof.SsdKit
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdIdeal.Alg

open Cert.SsdIdeal Cert.SsdIdeal.Gen

variable (m : (ℓ : Loc nD τ sig) → Buf (Elt Ideal) ℓ) (c : Dev nD)

set_option maxHeartbeats 8000000 in
/-- The result of a chunk that is the last of its sequence. -/
theorem outC (t : Fin cfg0.N) (h0 : ¬t.val % 32 = 0) (h1 : t.val % 32 = 31) (i : Fin 128) (k : Fin 4096) :
    (outsAt0 m c t.val t.isLt).1 (ix2 i k)
      = groupNorm (stepY (outsAt0 m c (t.val - 1) (lt_of_le_of_lt (Nat.sub_le _ _) t.isLt)).2.2.2.2
          (X0_0 m c t) (kX m c t (outsAt0 m c (t.val - 1) (lt_of_le_of_lt (Nat.sub_le _ _) t.isLt)).2.2.2.1)
          (kB m c t (outsAt0 m c (t.val - 1) (lt_of_le_of_lt (Nat.sub_le _ _) t.isLt)).2.2.2.1)
          (kC m c t (outsAt0 m c (t.val - 1) (lt_of_le_of_lt (Nat.sub_le _ _) t.isLt)).2.2.2.1)
          (kD m c t) (kA m c t) (iblk m c 11 t)) (iblk m c 12 t) i k := by
  rw [outsAt0_C m c t h0 h1 h1 h1 h1]
  frame_open
  simp (disch := decide) only [↓ read_quad, ↓ View.readCov_skip, ↓ View.readCov_cons_toLoadRect, ↓ View.readCov_fill]
  frame_out
  simp only [read_unread_whole]
  generalize hX : k0_pay7 (F := Ideal) _ _ _ _ _ _ _ = X
  generalize hB : k0_pay13 (F := Ideal) _ = Bm
  generalize hC : k0_pay19 (F := Ideal) _ _ _ _ _ _ _ _ = Cm
  generalize hD : k0_pay22 (F := Ideal) _ _ _ = D
  rw [show kX m c t (outsAt0 m c (t.val - 1) (lt_of_le_of_lt (Nat.sub_le _ _) t.isLt)).2.2.2.1 = X from hX,
    show kB m c t (outsAt0 m c (t.val - 1) (lt_of_le_of_lt (Nat.sub_le _ _) t.isLt)).2.2.2.1 = Bm from hB,
    show kC m c t (outsAt0 m c (t.val - 1) (lt_of_le_of_lt (Nat.sub_le _ _) t.isLt)).2.2.2.1 = Cm from hC,
    show kD m c t = D from hD]
  clear hX hB hC hD
  simp (disch := decide) only [read_cols]
  have e26 := sumsT m c t
  have e27 := sumsExp m c t
  generalize k0_pay26 (F := Ideal) _ _ _ = AT at e26 ⊢
  generalize k0_pay27 (F := Ideal) _ _ _ = EA at e27 ⊢
  generalize hA : k0_pay25 (F := Ideal) _ _ _ = A
  rw [show kA m c t = A from hA] at e26 e27 ⊢
  clear hA
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n7 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n6 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n5 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n4 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n3 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n2 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n1 => ?_
  rotate_left 5
  refine group_step _ _ _ _ _ (stepY (outsAt0 m c (t.val - 1) (lt_of_le_of_lt (Nat.sub_le _ _) t.isLt)).2.2.2.2 (X0_0 m c t) X Bm Cm D A (iblk m c 11 t)) _ _ _ _ _ _ _ _ _ (by decide) ?_ ?_ ?_ ?_ ?_ fun n0 => ?_
  rotate_left 5
  · exfalso
    have := k.isLt
    omega
  all_goals first
    | (intro hq q eq
       refine Eq.trans ?_ (groupNorm_at _ _ _ _ _ _ ?_ eq ?_).symm
       rotate_left
       · decide
       · decide
       generalize quad _ _ _ _ = V at hq ⊢
       unfold_payloads
       pointwise [hq]
       done)
    | (intro l q
       have hl := q.isLt
       rcases lt_or_ge q.val 64 with hq | hq
       · refine Eq.trans ?_ (stepY_lo _ _ _ _ _ _ _ _ _ l q _ (by decide) hq).symm
         unfold_payloads
         pointwise [e26, e27]
         simp (disch := omega) only [causal_sel, half_lo, other_lo, Finset.sum_const_zero, add_zero, zero_add, ← Nat.add_assoc, Nat.reduceAdd]
         done
       · refine Eq.trans ?_ (stepY_hi _ _ _ _ _ _ _ _ _ l q _ (by decide) hq).symm
         unfold_payloads
         pointwise [e26, e27]
         simp (disch := omega) only [causal_sel, half_hi, other_hi, Finset.sum_const_zero, add_zero, zero_add, ← Nat.add_assoc, Nat.reduceAdd]
         done)

end Cert.SsdIdeal.Alg

end
-- ==== Proof.SsdKerA.lean ====
module

public import proofs.«01_k».proof.Proof.SsdBlk
public import proofs.«01_k».proof.Proof.SsdCar
public import proofs.«01_k».proof.Proof.SsdA1
public import proofs.«01_k».proof.Proof.SsdB1
public import proofs.«01_k».proof.Proof.SsdC1
public import proofs.«01_k».proof.Proof.SsdA2
public import proofs.«01_k».proof.Proof.SsdB2
public import proofs.«01_k».proof.Proof.SsdC2

@[expose] public section

set_option maxRecDepth 16384

noncomputable section

open Idealize.ShloMosaic Idealize.ShloMosaic.TcCoe Idealize.SL.Sem

namespace Cert.SsdIdeal.Alg

open Cert.SsdIdeal Cert.SsdIdeal.Gen Cert.SsdMath

variable (m : (ℓ : Loc nD τ sig) → Buf (Elt Ideal) ℓ) (c : Dev nD)

/-- The entry of the projection a row and column of a chunk stand for. -/
theorem aP_row (t : Fin cfg0.N) (l : ℕ) (hl : l < 128) (J J' : Fin 10752) (e : J = J') :
    aP m c (ix2 ⟨128 * t.val + l, by have := lt_of_lt_of_eq t.isLt N_0; omega⟩ J) = aP m c (ix2 (row (t.val / 32) (128 * (t.val % 32) + l)) J') := by
  have ht : t.val < 64 := lt_of_lt_of_eq t.isLt N_0
  subst e
  refine congrArg (aP m c) (congrArg₂ ix2 (Fin.ext ?_) rfl)
  show 128 * t.val + l = (4096 * (t.val / 32) + (128 * (t.val % 32) + l)) % 8256
  omega

/-- The chunk's convolved columns are its rows of the sequence. -/
theorem ext_row (t : Fin cfg0.N) (l : ℕ) (hl : l < 128) (j : Fin 6144) (J : Fin 10752) (e : J.val = 4096 + j.val) :
    aP m c (ix2 ⟨128 * t.val + l, by have := lt_of_lt_of_eq t.isLt N_0; omega⟩ J) = ext (aP m c) (t.val / 32) j (128 * (t.val % 32) + 8 + l) := by
  rw [aP_row m c t l hl J ⟨4096 + j.val, by omega⟩ (Fin.ext e)]
  unfold ext
  rw [if_neg (by omega), show 128 * (t.val % 32) + 8 + l - 8 = 128 * (t.val % 32) + l by omega]

/-- The inner columns of the chunk's rows. -/
theorem extX (t : Fin cfg0.N) (l : Fin 128) (j : Fin 4096) : X0_1 m c t (ix2 l j) = ext (aP m c) (t.val / 32) ⟨j.val, by omega⟩ (128 * (t.val % 32) + 8 + l.val) :=
  (blkX m c t l j).trans (ext_row m c t l.val l.isLt ⟨j.val, by omega⟩ _ rfl)

/-- The input columns of the chunk's rows. -/
theorem extB (t : Fin cfg0.N) (l : Fin 128) (j : Fin 1024) : X0_2 m c t (ix2 l j) = ext (aP m c) (t.val / 32) ⟨4096 + j.val, by omega⟩ (128 * (t.val % 32) + 8 + l.val) :=
  (blkB m c t l j).trans (ext_row m c t l.val l.isLt ⟨4096 + j.val, by omega⟩ _ (by show 8192 + j.val = 4096 + (4096 + j.val); omega))

/-- The output columns of the chunk's rows. -/
theorem extC (t : Fin cfg0.N) (l : Fin 128) (j : Fin 1024) : X0_3 m c t (ix2 l j) = ext (aP m c) (t.val / 32) ⟨5120 + j.val, by omega⟩ (128 * (t.val % 32) + 8 + l.val) :=
  (blkC m c t l j).trans (ext_row m c t l.val l.isLt ⟨5120 + j.val, by omega⟩ _ (by show 9216 + j.val = 4096 + (5120 + j.val); omega))

/-- A chunk's convolved columns, over all parts. -/
theorem colsAt_ext (t : Fin cfg0.N) (off r : ℕ) (h : off + r < 128) (j : Fin 6144) :
    colsAt m c t off r j = ext (aP m c) (t.val / 32) j (128 * (t.val % 32) + 8 + (off + r)) := by
  unfold colsAt
  rw [dif_pos h]
  split_ifs with h1 h2
  · exact (extX m c t ⟨off + r, h⟩ ⟨j.val, h1⟩)
  · refine (extB m c t ⟨off + r, h⟩ ⟨j.val - 4096, by omega⟩).trans (congrArg (fun j => ext (aP m c) (t.val / 32) j (128 * (t.val % 32) + 8 + (off + r))) (Fin.ext ?_))
    show 4096 + (j.val - 4096) = j.val
    omega
  · refine (extC m c t ⟨off + r, h⟩ ⟨j.val - 5120, by omega⟩).trans (congrArg (fun j => ext (aP m c) (t.val / 32) j (128 * (t.val % 32) + 8 + (off + r))) (Fin.ext ?_))
    show 5120 + (j.val - 5120) = j.val
    omega

/-- What a trip leaves of its last eight rows. -/
theorem carry (t : Fin cfg0.N) (r : Fin 8) (j : Fin 6144) :
    (outsAt0 m c t.val t.isLt).2.2.2.1 (ix2 r j) = ext (aP m c) (t.val / 32) j (128 * (t.val % 32 + 1) + r.val) := by
  have e : (outsAt0 m c t.val t.isLt).2.2.2.1 (ix2 r j) = colsAt m c t 120 r.val j := by
    by_cases h0 : t.val % 32 = 0
    · exact carryA m c t h0 (by omega) r j
    · by_cases h1 : t.val % 32 = 31
      · exact carryC m c t h0 h1 r j
      · exact carryB m c t h0 h1 r j
  rw [e, colsAt_ext m c t 120 r.val (by omega), show 128 * (t.val % 32) + 8 + (120 + r.val) = 128 * (t.val % 32 + 1) + r.val by omega]

section chunk

variable (t : Fin cfg0.N) (Z : Vec Ideal S8x6144 .f32)
  (hZ : ∀ (r : Fin 8) (j : Fin 6144), Z (ix2 r j) = ext (aP m c) (t.val / 32) j (128 * (t.val % 32) + r.val))

include hZ

/-- The trip's inner columns are the chunk's. -/
theorem chunkX : kX m c t Z = chX (aP m c) (aW m c) (aCb m c) (t.val / 32) (t.val % 32) := by
  funext y
  obtain ⟨l, j, rfl⟩ : ∃ (l : Fin 128) (j : Fin 4096), y = ix2 l j := ⟨y 0, y 1, (ix2_eta y).symm⟩
  rw [kX_at m c t Z l j (ext (aP m c) (t.val / 32) ⟨j.val, by omega⟩) (128 * (t.val % 32)) (fun r => hZ r _) (fun l => extX m c t l j),
    blkCb, blkW, blkW, blkW, blkW]
  rfl

/-- The trip's input projections are the chunk's. -/
theorem chunkB : kB m c t Z = chB (aP m c) (aW m c) (aCb m c) (t.val / 32) (t.val % 32) := by
  funext y
  obtain ⟨l, j, rfl⟩ : ∃ (l : Fin 128) (j : Fin 1024), y = ix2 l j := ⟨y 0, y 1, (ix2_eta y).symm⟩
  rw [kB_at m c t Z l j (ext (aP m c) (t.val / 32) ⟨4096 + j.val, by omega⟩) (128 * (t.val % 32)) (fun r => hZ r _) (fun l => extB m c t l j),
    blkCb, blkW, blkW, blkW, blkW]
  rfl

/-- The trip's output projections are the chunk's. -/
theorem chunkC : kC m c t Z = chC (aP m c) (aW m c) (aCb m c) (t.val / 32) (t.val % 32) := by
  funext y
  obtain ⟨l, j, rfl⟩ : ∃ (l : Fin 128) (j : Fin 1024), y = ix2 l j := ⟨y 0, y 1, (ix2_eta y).symm⟩
  rw [kC_at m c t Z l j (ext (aP m c) (t.val / 32) ⟨5120 + j.val, by omega⟩) (128 * (t.val % 32)) (fun r => hZ r _) (fun l => extC m c t l j),
    blkCb, blkW, blkW, blkW, blkW]
  rfl

end chunk

/-- The trip's step sizes, by head. -/
theorem chunkS (t : Fin cfg0.N) (l h : Fin 128) (hh : h.val < 64) :
    kD m c t (ix2 l h) = stp (aP m c) (aDt m c) (t.val / 32) ⟨h.val, hh⟩ (128 * (t.val % 32) + l.val) := by
  rw [kD_at m c t l h _ _ (blkD m c t l h) (blkDt m c t h hh), aP_row m c t l.val l.isLt _ ⟨10240 + h.val, by omega⟩ rfl]
  rfl

/-- The trip's step sizes are the chunk's. -/
theorem chunkD (t : Fin cfg0.N) (l h : Fin 128) (hh : h.val < 64) :
    kD m c t (ix2 l h) = chD (aP m c) (aDt m c) (t.val / 32) (t.val % 32) (ix2 l h) := by
  have e2 : (⟨h.val, hh⟩ : Fin 64) = ⟨h.val % 64, Nat.mod_lt _ (by decide)⟩ := Fin.ext (Nat.mod_eq_of_lt hh).symm
  rw [chunkS m c t l h hh, e2]
  rfl

/-- The trip's running sums are the chunk's. -/
theorem chunkA (t : Fin cfg0.N) (l h : Fin 128) (hh : h.val < 64) :
    kA m c t (ix2 l h) = chA (aP m c) (aDt m c) (aAl m c) (t.val / 32) (t.val % 32) (ix2 l h) := by
  have e2 : (⟨h.val, hh⟩ : Fin 64) = ⟨h.val % 64, Nat.mod_lt _ (by decide)⟩ := Fin.ext (Nat.mod_eq_of_lt hh).symm
  rw [kA_at m c t l h (fun i => stp (aP m c) (aDt m c) (t.val / 32) ⟨h.val, hh⟩ (128 * (t.val % 32) + i) * (0 - Ideal.exp (aAl m c (ix1 ⟨h.val, hh⟩))))
    (fun l => by rw [chunkS m c t l h hh, blkAl m c t h hh]), e2]
  rfl

/-- The trip's gate is the chunk's. -/
theorem chunkZ (t : Fin cfg0.N) : X0_0 m c t = chZ (aP m c) (t.val / 32) (t.val % 32) := by
  funext y
  obtain ⟨l, j, rfl⟩ : ∃ (l : Fin 128) (j : Fin 4096), y = ix2 l j := ⟨y 0, y 1, (ix2_eta y).symm⟩
  exact (blkZ m c t l j).trans (aP_row m c t l.val l.isLt _ _ rfl)

end Cert.SsdIdeal.Alg

end
-- ==== Proof.SsdKerB.lean ====
module

public import proofs.«01_k».proof.Proof.SsdKerA

@[expose] public section

set_option maxRecDepth 16384

noncomputable section

open Idealize.ShloMosaic Idealize.ShloMosaic.TcCoe Idealize.SL.Sem

namespace Cert.SsdIdeal.Alg

open Cert.SsdIdeal Cert.SsdIdeal.Gen Cert.SsdMath

variable (m : (ℓ : Loc nD τ sig) → Buf (Elt Ideal) ℓ) (c : Dev nD)

/-- The state after a chunk, from any carried rows and state that are the sequence's. -/
theorem next (t : Fin cfg0.N) (S : S4096x128.Idx → EReal) (Z : Vec Ideal S8x6144 .f32)
    (hS : S = state (aP m c) (aW m c) (aCb m c) (aDt m c) (aAl m c) (t.val / 32) (t.val % 32))
    (hZ : ∀ (r : Fin 8) (j : Fin 6144), Z (ix2 r j) = ext (aP m c) (t.val / 32) j (128 * (t.val % 32) + r.val)) (i : Fin 4096) (k : Fin 128) :
    stepState S (kX m c t Z) (kB m c t Z) (kD m c t) (kA m c t) i k
      = state (aP m c) (aW m c) (aCb m c) (aDt m c) (aAl m c) (t.val / 32) (t.val % 32 + 1) (ix2 i k) :=
  (stepState_congr hS (chunkX m c t Z hZ) (chunkB m c t Z hZ) (chunkD m c t) (chunkA m c t) i k).trans rfl

/-- The result of a chunk, from any carried rows and state that are the sequence's. -/
theorem made (t : Fin cfg0.N) (S : S4096x128.Idx → EReal) (Z : Vec Ideal S8x6144 .f32)
    (hS : S = state (aP m c) (aW m c) (aCb m c) (aDt m c) (aAl m c) (t.val / 32) (t.val % 32))
    (hZ : ∀ (r : Fin 8) (j : Fin 6144), Z (ix2 r j) = ext (aP m c) (t.val / 32) j (128 * (t.val % 32) + r.val)) (l : Fin 128) (r : Fin 4096) :
    groupNorm (stepY S (X0_0 m c t) (kX m c t Z) (kB m c t Z) (kC m c t Z) (kD m c t) (kA m c t) (iblk m c 11 t)) (iblk m c 12 t) l r
      = out (aP m c) (aW m c) (aCb m c) (aDt m c) (aAl m c) (aDk m c) (aNw m c) (t.val / 32) (t.val % 32) l r := by
  have hK : (iblk m c 11 t : S1x4096.Idx → EReal) = fun y => aDk m c (ix1 ⟨(y 1).val / 64, by have := (y 1).isLt; change _ < 4096 at this; omega⟩) := by
    funext y
    obtain ⟨l, j, rfl⟩ : ∃ (l : Fin 1) (j : Fin 4096), y = ix2 l j := ⟨y 0, y 1, eq_ix2 y⟩
    obtain rfl : l = 0 := Subsingleton.elim _ _
    exact blkDk m c t j
  rw [stepY_congr hS (chunkZ m c t) (chunkX m c t Z hZ) (chunkB m c t Z hZ) (chunkC m c t Z hZ) hK (chunkD m c t) (chunkA m c t)]
  unfold groupNorm out groupNorm
  rw [blkNw]
  rfl

/-- The zeros before a sequence. -/
theorem first (t : Fin cfg0.N) (h0 : t.val % 32 = 0) (r : Fin 8) (j : Fin 6144) :
    (k0_pay3 (F := Ideal) (iblk m c 5 t) : Vec Ideal S8x6144 .f32) (ix2 r j) = ext (aP m c) (t.val / 32) j (128 * (t.val % 32) + r.val) := by
  rw [prev0]
  unfold ext
  rw [if_pos (by omega)]

/-- The state before a sequence. -/
theorem start (t : Fin cfg0.N) (h0 : t.val % 32 = 0) :
    (k0_pay4 (F := Ideal) (iblk m c 6 t) : S4096x128.Idx → EReal) = state (aP m c) (aW m c) (aCb m c) (aDt m c) (aAl m c) (t.val / 32) (t.val % 32) := by
  rw [h0]
  funext y
  exact state0 m c t y

/-- The eight rows left by the trip before. -/
theorem left (t : Fin cfg0.N) (h0 : ¬t.val % 32 = 0) (r : Fin 8) (j : Fin 6144) :
    (outsAt0 m c (t.val - 1) (lt_of_le_of_lt (Nat.sub_le _ _) t.isLt)).2.2.2.1 (ix2 r j) = ext (aP m c) (t.val / 32) j (128 * (t.val % 32) + r.val) := by
  refine (carry m c ⟨t.val - 1, lt_of_le_of_lt (Nat.sub_le _ _) t.isLt⟩ r j).trans ?_
  show ext (aP m c) ((t.val - 1) / 32) j (128 * ((t.val - 1) % 32 + 1) + r.val) = _
  rw [show (t.val - 1) / 32 = t.val / 32 by omega, show (t.val - 1) % 32 + 1 = t.val % 32 by omega]

/-- The state after every trip. -/
theorem states : ∀ (n : ℕ) (hn : n < cfg0.N) (i : Fin 4096) (k : Fin 128), (outsAt0 m c n hn).2.2.2.2 (ix2 i k)
    = state (aP m c) (aW m c) (aCb m c) (aDt m c) (aAl m c) (n / 32) (n % 32 + 1) (ix2 i k) := by
  intro n
  induction n with
  | zero =>
    intro hn i k
    have e := stateA m c ⟨0, hn⟩ rfl (by show ¬0 % 32 = 31; omega) i k
    exact e.trans (next m c ⟨0, hn⟩ _ _ (start m c _ rfl) (first m c _ rfl) i k)
  | succ n ih =>
    intro hn i k
    have hp : n < cfg0.N := lt_trans (Nat.lt_succ_self n) hn
    by_cases h0 : (n + 1) % 32 = 0
    · have e := stateA m c ⟨n + 1, hn⟩ h0 (by show ¬(n + 1) % 32 = 31; omega) i k
      exact e.trans (next m c ⟨n + 1, hn⟩ _ _ (start m c _ h0) (first m c _ h0) i k)
    · have hS : ((outsAt0 m c n hp).2.2.2.2 : S4096x128.Idx → EReal) = state (aP m c) (aW m c) (aCb m c) (aDt m c) (aAl m c) ((n + 1) / 32) ((n + 1) % 32) := by
        funext y
        obtain ⟨i, k, rfl⟩ : ∃ (i : Fin 4096) (k : Fin 128), y = ix2 i k := ⟨y 0, y 1, eq_ix2 y⟩
        rw [ih hp i k, show n / 32 = (n + 1) / 32 by omega, show n % 32 + 1 = (n + 1) % 32 by omega]
      by_cases h1 : (n + 1) % 32 = 31
      · have e := stateC m c ⟨n + 1, hn⟩ h0 h1 i k
        exact e.trans (next m c ⟨n + 1, hn⟩ _ _ hS (left m c ⟨n + 1, hn⟩ h0) i k)
      · have e := stateB m c ⟨n + 1, hn⟩ h0 h1 i k
        exact e.trans (next m c ⟨n + 1, hn⟩ _ _ hS (left m c ⟨n + 1, hn⟩ h0) i k)

/-- The state left by the trip before. -/
theorem leftS (t : Fin cfg0.N) (h0 : ¬t.val % 32 = 0) :
    ((outsAt0 m c (t.val - 1) (lt_of_le_of_lt (Nat.sub_le _ _) t.isLt)).2.2.2.2 : S4096x128.Idx → EReal)
      = state (aP m c) (aW m c) (aCb m c) (aDt m c) (aAl m c) (t.val / 32) (t.val % 32) := by
  funext y
  obtain ⟨i, k, rfl⟩ : ∃ (i : Fin 4096) (k : Fin 128), y = ix2 i k := ⟨y 0, y 1, eq_ix2 y⟩
  rw [states m c (t.val - 1) _ i k, show (t.val - 1) / 32 = t.val / 32 by omega, show (t.val - 1) % 32 + 1 = t.val % 32 by omega]

/-- The result of every trip. -/
theorem outs (t : Fin cfg0.N) (l : Fin 128) (r : Fin 4096) : (outsAt0 m c t.val t.isLt).1 (ix2 l r)
    = out (aP m c) (aW m c) (aCb m c) (aDt m c) (aAl m c) (aDk m c) (aNw m c) (t.val / 32) (t.val % 32) l r := by
  by_cases h0 : t.val % 32 = 0
  · exact (outA m c t h0 (by omega) l r).trans (made m c t _ _ (start m c t h0) (first m c t h0) l r)
  · by_cases h1 : t.val % 32 = 31
    · exact (outC m c t h0 h1 l r).trans (made m c t _ _ (leftS m c t h0) (left m c t h0) l r)
    · exact (outB m c t h0 h1 l r).trans (made m c t _ _ (leftS m c t h0) (left m c t h0) l r)

/-- The gated and normed rows the kernel leaves. -/
theorem resultY (R : Fin 8192) (r : Fin 4096) : (Value.G13 m c : Vec Ideal S8192x4096 .f32) (ix2 R r)
    = out (aP m c) (aW m c) (aCb m c) (aDt m c) (aAl m c) (aDk m c) (aNw m c) (R.val / 4096) (R.val % 4096 / 128) ⟨R.val % 128, by omega⟩ r := by
  have hp : Value.pt13Of (ix2 R r : S8192x4096.Idx) = R.val / 128 := by
    show 1 * (R.val / 128 - 0) + 1 * (r.val / 4096 - 0) = R.val / 128
    omega
  have hlt : Value.pt13Of (ix2 R r : S8192x4096.Idx) < cfg0.N := by
    rw [hp, show cfg0.N = 64 from N_0]
    omega
  have hloc : Value.loc13Of (ix2 R r : S8192x4096.Idx) = ix2 ⟨R.val % 128, by omega⟩ r := by
    refine funext fun a => Fin.ext ?_
    match a with
    | ⟨0, _⟩ => rfl
    | ⟨1, _⟩ => exact Nat.mod_eq_of_lt r.isLt
  unfold Value.G13
  rw [dif_pos hlt, ← Value.outsAt0_sweep m c _ hlt, hloc, outs m c ⟨_, hlt⟩]
  dsimp only
  rw [hp, show R.val / 128 / 32 = R.val / 4096 by omega, show R.val / 128 % 32 = R.val % 4096 / 128 by omega]

/-- The rows the kernel keeps for the next call. -/
theorem resultC (b : Fin 2) (r : Fin 3) (j : Fin 6144) : (Value.G14 m c : Vec Ideal S2x3x6144 .f32) (ix3 b r j)
    = aP m c (ix2 ⟨4096 * b.val + 4093 + r.val, by omega⟩ ⟨4096 + j.val, by omega⟩) := by
  have hp : Value.pt14Of (ix3 b r j : S2x3x6144.Idx) = 32 * b.val + 31 := by
    show 32 * (1 * (b.val / 1 - 0) + 1 * (r.val / 3 - 0) + 1 * (j.val / 6144 - 0)) + 31 = 32 * b.val + 31
    omega
  have hlt : Value.pt14Of (ix3 b r j : S2x3x6144.Idx) < cfg0.N := by
    rw [hp, show cfg0.N = 64 from N_0]
    omega
  have hloc : Value.loc14Of (ix3 b r j : S2x3x6144.Idx) = ix3 0 r j := by
    refine funext fun a => Fin.ext ?_
    match a with
    | ⟨0, _⟩ => exact Nat.mod_one _
    | ⟨1, _⟩ => exact Nat.mod_eq_of_lt r.isLt
    | ⟨2, _⟩ => exact Nat.mod_eq_of_lt j.isLt
  unfold Value.G14
  rw [dif_pos hlt, ← Value.outsAt0_sweep m c _ hlt, hloc,
    convC m c ⟨_, hlt⟩ (by show ¬Value.pt14Of _ % 32 = 0; rw [hp]; omega) (by show Value.pt14Of _ % 32 = 31; rw [hp]; omega),
    colsAt_ext m c ⟨_, hlt⟩ 125 r.val (by omega)]
  dsimp only
  rw [hp]
  unfold ext
  rw [if_neg (by omega)]
  refine congrArg (aP m c) (congrArg₂ ix2 (Fin.ext ?_) rfl)
  show (4096 * ((32 * b.val + 31) / 32) + (128 * ((32 * b.val + 31) % 32) + 8 + (125 + r.val) - 8)) % 8256 = 4096 * b.val + 4093 + r.val
  omega

/-- The state the kernel keeps for the next call. -/
theorem resultS (b : Fin 2) (i : Fin 4096) (k : Fin 128) : (Value.G15 m c : Vec Ideal S2x4096x128 .f32) (ix3 b i k)
    = state (aP m c) (aW m c) (aCb m c) (aDt m c) (aAl m c) b 32 (ix2 i k) := by
  have hp : Value.pt15Of (ix3 b i k : S2x4096x128.Idx) = 32 * b.val + 31 := by
    show 32 * (1 * (b.val / 1 - 0) + 1 * (i.val / 4096 - 0) + 1 * (k.val / 128 - 0)) + 31 = 32 * b.val + 31
    omega
  have hlt : Value.pt15Of (ix3 b i k : S2x4096x128.Idx) < cfg0.N := by
    rw [hp, show cfg0.N = 64 from N_0]
    omega
  have hloc : Value.loc15Of (ix3 b i k : S2x4096x128.Idx) = ix3 0 i k := by
    refine funext fun a => Fin.ext ?_
    match a with
    | ⟨0, _⟩ => exact Nat.mod_one _
    | ⟨1, _⟩ => exact Nat.mod_eq_of_lt i.isLt
    | ⟨2, _⟩ => exact Nat.mod_eq_of_lt k.isLt
  unfold Value.G15
  rw [dif_pos hlt, ← Value.outsAt0_sweep m c _ hlt, hloc,
    finC m c ⟨_, hlt⟩ (by show ¬Value.pt15Of _ % 32 = 0; rw [hp]; omega) (by show Value.pt15Of _ % 32 = 31; rw [hp]; omega)]
  unfold_payloads
  pointwise []
  refine (states m c _ hlt i k).trans ?_
  rw [hp, show (32 * b.val + 31) / 32 = b.val by omega, show (32 * b.val + 31) % 32 + 1 = 32 by omega]

end Cert.SsdIdeal.Alg

end
-- ==== Proof.SsdRefA.lean ====
module

public import proofs.«01_k».proof.Proof.Gen.SsdRefIdeal.Run
public import Idealize.ShloMosaic.Lib.Pointwise
public import Idealize.ShloMosaic.Lib.DynamicIndex
public import proofs.«01_k».proof.Proof.SsdFn

@[expose] public section

set_option maxRecDepth 16384

noncomputable section

open Idealize.ShloMosaic Idealize.ShloMosaic.TcCoe Idealize.SL.Sem

namespace Cert.SsdRefIdeal.Alg

open Cert.SsdRefIdeal Cert.SsdRefIdeal.Value Cert.SsdIdeal.Alg

variable (V0 : Valuation τ sig (Elt Ideal))

/-- The trip's number, read back from the loop's counter. -/
theorem trip_int (k : ℕ) (hk : k < 32) : (BitVec.ofNat 32 k).toInt = (k : ℤ) := by
  rw [BitVec.toInt_ofNat', Int.bmod_eq_of_le (by omega) (by omega)]

/-- A chunk of this buffer, read at a point. -/
theorem v74 (k : ℕ) (hk : k < 32) (hc : V0 (Proc.devRef .tc main_v65_8) = fun _ => BitVec.ofNat 32 k) (b : Fin 2) (l : Fin 128) (r : Fin 4096) :
    (res_main_while0b_v74 V0 : Vec Ideal S2x128x4096 .f32) (ix3 b l r) = (V0 (Proc.devRef .tc main_v65_0) : Vec Ideal S32x2x128x4096 .f32) (ix4 ⟨k, hk⟩ b l r) := by
  unfold res_main_while0b_v74
  rw [hc, Host.dynamicSlice_eq_extractStridedSlice _ _ _ ![k, 0, 0, 0] _ ?_ ?_]
  rotate_left
  · refine ⟨rfl, fun a => ?_⟩
    fin_cases a <;> simp <;> omega
  · intro a
    fin_cases a
    · exact trip_int k hk
    all_goals rfl
  pointwise []

/-- A chunk of this buffer, read at a point. -/
theorem v75 (k : ℕ) (hk : k < 32) (hc : V0 (Proc.devRef .tc main_v65_8) = fun _ => BitVec.ofNat 32 k) (b : Fin 2) (l : Fin 128) (h p : Fin 64) :
    (res_main_while0b_v75 V0 : Vec Ideal S2x128x64x64 .f32) (ix4 b l h p) = (V0 (Proc.devRef .tc main_v65_1) : Vec Ideal S32x2x128x64x64 .f32) (ix5 ⟨k, hk⟩ b l h p) := by
  unfold res_main_while0b_v75
  rw [hc, Host.dynamicSlice_eq_extractStridedSlice _ _ _ ![k, 0, 0, 0, 0] _ ?_ ?_]
  rotate_left
  · refine ⟨rfl, fun a => ?_⟩
    fin_cases a <;> simp <;> omega
  · intro a
    fin_cases a
    · exact trip_int k hk
    all_goals rfl
  pointwise []

/-- A chunk of this buffer, read at a point. -/
theorem v77 (k : ℕ) (hk : k < 32) (hc : V0 (Proc.devRef .tc main_v65_8) = fun _ => BitVec.ofNat 32 k) (b : Fin 2) (l : Fin 128) (g : Fin 8) (n : Fin 128) :
    (res_main_while0b_v77 V0 : Vec Ideal S2x128x8x128 .f32) (ix4 b l g n) = (V0 (Proc.devRef .tc main_v65_3) : Vec Ideal S32x2x128x8x128 .f32) (ix5 ⟨k, hk⟩ b l g n) := by
  unfold res_main_while0b_v77
  rw [hc, Host.dynamicSlice_eq_extractStridedSlice _ _ _ ![k, 0, 0, 0, 0] _ ?_ ?_]
  rotate_left
  · refine ⟨rfl, fun a => ?_⟩
    fin_cases a <;> simp <;> omega
  · intro a
    fin_cases a
    · exact trip_int k hk
    all_goals rfl
  pointwise []

/-- A chunk of this buffer, read at a point. -/
theorem v78 (k : ℕ) (hk : k < 32) (hc : V0 (Proc.devRef .tc main_v65_8) = fun _ => BitVec.ofNat 32 k) (b : Fin 2) (l : Fin 128) (g : Fin 8) (n : Fin 128) :
    (res_main_while0b_v78 V0 : Vec Ideal S2x128x8x128 .f32) (ix4 b l g n) = (V0 (Proc.devRef .tc main_v65_4) : Vec Ideal S32x2x128x8x128 .f32) (ix5 ⟨k, hk⟩ b l g n) := by
  unfold res_main_while0b_v78
  rw [hc, Host.dynamicSlice_eq_extractStridedSlice _ _ _ ![k, 0, 0, 0, 0] _ ?_ ?_]
  rotate_left
  · refine ⟨rfl, fun a => ?_⟩
    fin_cases a <;> simp <;> omega
  · intro a
    fin_cases a
    · exact trip_int k hk
    all_goals rfl
  pointwise []

/-- A chunk of this buffer, read at a point. -/
theorem v80 (k : ℕ) (hk : k < 32) (hc : V0 (Proc.devRef .tc main_v65_8) = fun _ => BitVec.ofNat 32 k) (b : Fin 2) (l : Fin 128) (g r : Fin 8) :
    (res_main_while0b_v80 V0 : Vec Ideal S2x128x8x8 .f32) (ix4 b l g r) = (V0 (Proc.devRef .tc main_v65_2) : Vec Ideal S32x2x128x64 .f32) (ix4 ⟨k, hk⟩ b l ⟨g.val * 8 + r.val, by omega⟩) := by
  unfold res_main_while0b_v80
  rw [hc, Host.dynamicSlice_eq_extractStridedSlice _ _ _ ![k, 0, 0, 0] _ ?_ ?_]
  rotate_left
  · refine ⟨rfl, fun a => ?_⟩
    fin_cases a <;> simp <;> omega
  · intro a
    fin_cases a
    · exact trip_int k hk
    all_goals rfl
  pointwise []

/-- A left fold of additions is the starting value plus the sum. -/
theorem fold_sum {α : Type} (g : α → EReal) : ∀ (L : List α) (v : EReal), L.foldl (fun r n => r + g n) v = v + (L.map g).sum
  | [], v => by simp
  | a :: L, v => by
    rw [List.foldl_cons, fold_sum g L, List.map_cons, List.sum_cons, add_assoc]

/-- A running sum along the second axis, as a window of the whole extent padded low by one less. -/
theorem cums (x : S2x128x8x8.Idx → EReal) (init : S_.Idx → EReal) (hi : ∀ y, init y = 0)
    (h : S2x128x8x8.ReduceWindows (![1, 128, 1, 1] : Fin 4 → ℕ) ![1, 1, 1, 1] ![0, 127, 0, 0] ![0, 0, 0, 0] S2x128x8x8) (hu : 0 < S_.numel)
    (b : Fin 2) (l : Fin 128) (g r : Fin 8) (d : ℕ → EReal) (hd : ∀ i : Fin 128, x (ix4 b i g r) = d i.val) :
    Host.reduceWindow (· + ·) ![1, 128, 1, 1] ![1, 1, 1, 1] ![0, 127, 0, 0] ![0, 0, 0, 0] x init h hu (ix4 b l g r) = win d 128 l.val := by
  unfold Host.reduceWindow
  dsimp only
  rw [fold_sum, hi, zero_add, ← Fin.sum_univ_def]
  let W : Shape := ⟨4, ![1, 128, 1, 1]⟩
  let G : W.Idx → EReal := fun w => if hin : ∀ a, (![0, 127, 0, 0] : Fin 4 → ℕ) a ≤ ((ix4 b l g r : S2x128x8x8.Idx) (a.cast h.1.symm)).val * (![1, 1, 1, 1] : Fin 4 → ℕ) a + (w a).val
      ∧ ((ix4 b l g r : S2x128x8x8.Idx) (a.cast h.1.symm)).val * (![1, 1, 1, 1] : Fin 4 → ℕ) a + (w a).val - (![0, 127, 0, 0] : Fin 4 → ℕ) a < S2x128x8x8.size a
    then x (fun a => ⟨((ix4 b l g r : S2x128x8x8.Idx) (a.cast h.1.symm)).val * (![1, 1, 1, 1] : Fin 4 → ℕ) a + (w a).val - (![0, 127, 0, 0] : Fin 4 → ℕ) a, (hin a).2⟩) else 0
  refine Eq.trans (b := ∑ n, G (W.rowMajor.symm n)) (Finset.sum_congr rfl fun n _ => ?_) ((W.rowMajor.symm.sum_comp G).trans ?_)
  · show _ = dite _ _ _
    split_ifs <;> rfl
  have hb : Function.Bijective (fun i : Fin 128 => (ix4 0 i 0 0 : W.Idx)) := by
    refine ⟨fun i j e => congrFun e 1, fun y => ⟨y 1, funext fun a => ?_⟩⟩
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  rw [← hb.sum_comp G]
  unfold win
  rw [← Finset.sum_range_reflect, ← Fin.sum_univ_eq_sum_range (fun i => if 128 - 1 - i ≤ l.val then d (l.val - (128 - 1 - i)) else 0)]
  refine Finset.sum_congr rfl fun i _ => ?_
  have hl := l.isLt
  have hii := i.isLt
  have hbb := b.isLt
  have hgg := g.isLt
  have hrr := r.isLt
  by_cases hc : 127 - i.val ≤ l.val
  · have hin : ∀ a, (![0, 127, 0, 0] : Fin 4 → ℕ) a ≤ ((ix4 b l g r : S2x128x8x8.Idx) (a.cast h.1.symm)).val * (![1, 1, 1, 1] : Fin 4 → ℕ) a + ((ix4 0 i 0 0 : W.Idx) a).val
        ∧ ((ix4 b l g r : S2x128x8x8.Idx) (a.cast h.1.symm)).val * (![1, 1, 1, 1] : Fin 4 → ℕ) a + ((ix4 0 i 0 0 : W.Idx) a).val - (![0, 127, 0, 0] : Fin 4 → ℕ) a < S2x128x8x8.size a := by
      intro a
      match a with
      | ⟨0, _⟩ => show 0 ≤ b.val * 1 + 0 ∧ b.val * 1 + 0 - 0 < 2; omega
      | ⟨1, _⟩ => show 127 ≤ l.val * 1 + i.val ∧ l.val * 1 + i.val - 127 < 128; omega
      | ⟨2, _⟩ => show 0 ≤ g.val * 1 + 0 ∧ g.val * 1 + 0 - 0 < 8; omega
      | ⟨3, _⟩ => show 0 ≤ r.val * 1 + 0 ∧ r.val * 1 + 0 - 0 < 8; omega
    show G _ = _
    rw [show G (ix4 0 i 0 0) = _ from dif_pos hin, if_pos (show 128 - 1 - i.val ≤ l.val by omega)]
    refine Eq.trans (congrArg x ?_) ((hd ⟨l.val + i.val - 127, by omega⟩).trans (congrArg d (show l.val + i.val - 127 = _ by omega)))
    funext a
    apply Fin.ext
    match a with
    | ⟨0, _⟩ => show b.val * 1 + 0 - 0 = b.val; omega
    | ⟨1, _⟩ => show l.val * 1 + i.val - 127 = l.val + i.val - 127; omega
    | ⟨2, _⟩ => show g.val * 1 + 0 - 0 = g.val; omega
    | ⟨3, _⟩ => show r.val * 1 + 0 - 0 = r.val; omega
  · show G _ = _
    rw [show G (ix4 0 i 0 0) = _ from dif_neg fun hin => hc (by
      have h1 := (hin 1).1
      change 127 ≤ l.val * 1 + i.val at h1
      omega), if_neg (show ¬128 - 1 - i.val ≤ l.val by omega)]

/-- The chunk's gate. -/
abbrev w74 : S2x128x4096.Idx → EReal := res_main_while0b_v74 V0
/-- The chunk's inner columns. -/
abbrev w75 : S2x128x64x64.Idx → EReal := res_main_while0b_v75 V0
/-- The chunk's input projections. -/
abbrev w77 : S2x128x8x128.Idx → EReal := res_main_while0b_v77 V0
/-- The chunk's output projections. -/
abbrev w78 : S2x128x8x128.Idx → EReal := res_main_while0b_v78 V0
/-- The chunk's step sizes. -/
abbrev w80 : S2x128x8x8.Idx → EReal := res_main_while0b_v80 V0
/-- The chunk's running sums. -/
abbrev w85 : S2x128x8x8.Idx → EReal := res_main_while0b_v85 V0
/-- The chunk's gated result. -/
abbrev w130 : S2x128x8x512.Idx → EReal := res_main_while0b_v130 V0
/-- The decay rates. -/
abbrev i5 : S64.Idx → EReal := V0 (Proc.devRef .tc main_v65_5)
/-- The skip weights. -/
abbrev i6 : S64.Idx → EReal := V0 (Proc.devRef .tc main_v65_6)
/-- The norm's weight. -/
abbrev i7 : S4096.Idx → EReal := V0 (Proc.devRef .tc main_v65_7)
/-- The carried state. -/
abbrev i9 : S2x8x8x64x128.Idx → EReal := V0 (Proc.devRef .tc main_v65_9)
/-- The results so far. -/
abbrev i10 : S32x2x128x4096.Idx → EReal := V0 (Proc.devRef .tc main_v65_10)
/-- The state after a trip. -/
abbrev s9 : S2x8x8x64x128.Idx → EReal := step_main_v65_9 V0
/-- The results after a trip. -/
abbrev s10 : S32x2x128x4096.Idx → EReal := step_main_v65_10 V0

/-- The running sums of one chunk. -/
theorem v85 (b : Fin 2) (l : Fin 128) (g r : Fin 8) (a : EReal) (d : ℕ → EReal)
    (ha : i5 V0 (ix1 ⟨g.val * 8 + r.val, by omega⟩) = a)
    (hd : ∀ i : Fin 128, w80 V0 (ix4 b i g r) * a = d i.val) :
    w85 V0 (ix4 b l g r) = win d 128 l.val := by
  unfold w85 res_main_while0b_v85
  unfold Host.reduceWindowAdd
  rw [Ideal.hostReduceWindowAdd_def]
  unfold Ideal.hostReduceWindowAdd
  refine cums _ _ ?_ _ _ b l g r d fun i => ?_
  · intro y
    pointwise
  · pointwise [ha]
    exact hd i

/-- The state after a trip. -/
theorem v9 (b : Fin 2) (g r : Fin 8) (p : Fin 64) (n : Fin 128) : s9 V0 (ix5 b g r p n)
    = i9 V0 (ix5 b g r p n) * Ideal.exp (w85 V0 (ix4 b 127 g r)) +
      ∑ x : Fin 128, Ideal.exp (w85 V0 (ix4 b 127 g r) - w85 V0 (ix4 b x g r))
          * (w75 V0 (ix4 b x ⟨g.val * 8 + r.val, by omega⟩ p) * w80 V0 (ix4 b x g r))
          * w77 V0 (ix4 b x g n) := by
  unfold s9 step_main_v65_9
  simp only [id_eq]
  unfold res_main_while0b_v88
  pointwise []

/-- A causal choice of exponent, exponentiated. -/
theorem causal_exp (l x : Fin 128) (a : EReal) :
    Ideal.exp (Scalar.select (Scalar.select (IntOp.cmpi CmpIPredicate.sge (IntOp.addi (BitVec.ofNat 32 l.val) 0#32) (BitVec.ofNat 32 x.val)) 1#1 0#1)
      a (Ideal.ofBits FTy.f32 4286578688#32)) = if x ≤ l then Ideal.exp a else 0 := by
  have e : IntOp.addi (BitVec.ofNat 32 l.val) 0#32 = BitVec.ofNat 32 l.val := BitVec.add_zero _
  rw [e, causal_sel]
  split_ifs
  · rfl
  · show Ideal.exp (Ideal.ofBits FTy.f32 4286578688#32) = 0
    rw [show Ideal.ofBits FTy.f32 4286578688#32 = ⊥ from by simp [Ideal.ofBits, Ideal.ieee]]
    rfl

/-- The gate's sigmoid. -/
theorem sig_eq (z : EReal) : Ideal.div 1 (1 + Ideal.exp (-z)) = Ideal.logistic z := by
  rfl

/-- The gated result of one trip. -/
theorem v130 (b : Fin 2) (l : Fin 128) (g : Fin 8) (q : Fin 512) : w130 V0 (ix4 b l g q)
    = ((∑ x : Fin 128,
            w75 V0 (ix4 b x ⟨g.val * 8 + (g.val * 512 + q.val) / 64 % 8, by omega⟩ ⟨(g.val * 512 + q.val) % 64, by omega⟩) *
                w80 V0 (ix4 b x g ⟨(g.val * 512 + q.val) / 64 % 8, by omega⟩) *
              ((∑ x_1 : Fin 128, w77 V0 (ix4 b x g x_1) * w78 V0 (ix4 b l g x_1)) *
                (if x ≤ l then Ideal.exp (w85 V0 (ix4 b l g ⟨(g.val * 512 + q.val) / 64 % 8, by omega⟩) -
                      w85 V0 (ix4 b x g ⟨(g.val * 512 + q.val) / 64 % 8, by omega⟩)) else 0))) +
          (∑ x : Fin 128,
              i9 V0 (ix5 b g ⟨(g.val * 512 + q.val) / 64 % 8, by omega⟩ ⟨(g.val * 512 + q.val) % 64, by omega⟩ x) *
                w78 V0 (ix4 b l g x)) *
            Ideal.exp (w85 V0 (ix4 b l g ⟨(g.val * 512 + q.val) / 64 % 8, by omega⟩)) +
        w75 V0 (ix4 b l ⟨(g.val * 512 + q.val) / 64, by omega⟩ ⟨(g.val * 512 + q.val) % 64, by omega⟩) *
          i6 V0 (ix1 ⟨(g.val * 512 + q.val) / 64, by omega⟩)) *
      (w74 V0 (ix3 b l ⟨g.val * 512 + q.val, by omega⟩) *
        Ideal.logistic (w74 V0 (ix3 b l ⟨g.val * 512 + q.val, by omega⟩))) := by
  unfold w130 res_main_while0b_v130
  simp only [id_eq]
  unfold res_main_while0b_v88
  pointwise []
  simp only [causal_exp, sig_eq]

/-- The results after a trip: this trip's chunk is written, the other chunks stay. -/
theorem v10 (k : ℕ) (hk : k < 32) (hc : V0 (Proc.devRef .tc main_v65_8) = fun _ => BitVec.ofNat 32 k) (k' : Fin 32) (b : Fin 2) (l : Fin 128) (r : Fin 4096) :
    s10 V0 (ix4 k' b l r) = if k'.val = k then
      w130 V0 (ix4 b l ⟨r.val / 512, by omega⟩ ⟨r.val % 512, by omega⟩)
        * Ideal.rsqrt (Ideal.div (∑ q : Fin 512, w130 V0 (ix4 b l ⟨r.val / 512, by omega⟩ q)
            * w130 V0 (ix4 b l ⟨r.val / 512, by omega⟩ q)) (Ideal.ofBits .f32 0x44000000#32)
          + Ideal.ofBits .f32 0x358637BD#32) * i7 V0 (ix1 r)
      else i10 V0 (ix4 k' b l r) := by
  unfold s10 step_main_v65_10
  simp only [id_eq]
  rw [hc, Host.dynamicUpdateSlice_eq_updateSlice _ _ _ _ ![k, 0, 0, 0] ?_ ?_]
  rotate_left
  · intro a
    fin_cases a
    · have := trip_int k hk
      show (min (max (BitVec.ofNat 32 k).toInt 0) _).toNat = k
      rw [this]
      show (min (max (k : ℤ) 0) ((32 - 1 : ℕ) : ℤ)).toNat = k
      omega
    all_goals rfl
  · refine ⟨rfl, fun a => ?_⟩
    fin_cases a <;> simp <;> omega
  by_cases e : k'.val = k
  · have hin : ∀ (a : Fin (Proc.tc.devRef main_v65_10 : DevRef τ sig).ty.shape.rank), (![k, 0, 0, 0] : Fin 4 → ℕ) a ≤ ((ix4 k' b l r : S32x2x128x4096.Idx) a).val
        ∧ ((ix4 k' b l r : S32x2x128x4096.Idx) a).val < (![k, 0, 0, 0] : Fin 4 → ℕ) a + (![1, 2, 128, 4096] : Fin 4 → ℕ) a := by
      intro a
      match a with
      | ⟨0, _⟩ => show k ≤ k'.val ∧ k'.val < k + 1; omega
      | ⟨1, _⟩ => show 0 ≤ b.val ∧ b.val < 0 + 2; omega
      | ⟨2, _⟩ => show 0 ≤ l.val ∧ l.val < 0 + 128; omega
      | ⟨3, _⟩ => show 0 ≤ r.val ∧ r.val < 0 + 4096; omega
    pointwise []
    rw [if_pos e]
    exact dif_pos hin
  · pointwise []
    rw [if_neg e]
    exact dif_neg fun hin => e (by
      have h0 := hin ⟨0, by decide⟩
      change k ≤ k'.val ∧ k'.val < k + 1 at h0
      omega)

end Cert.SsdRefIdeal.Alg

end
-- ==== Proof.SsdRefB.lean ====
module

public import proofs.«01_k».proof.Proof.SsdRefA

public section

noncomputable section
namespace Cert.SsdRefIdeal.Alg

open Idealize Idealize.ShloMosaic Cert.SsdRefIdeal Cert.SsdRefIdeal.Value Cert.SsdMath Cert.SsdIdeal.Alg

variable (P : S8256x10752.Idx → EReal) (w : S4x6144.Idx → EReal) (cb : S6144.Idx → EReal) (dtb al dk : S64.Idx → EReal) (nw : S4096.Idx → EReal)

/-- The carried chunks of the gate. -/
abbrev i0 (V0 : Valuation τ sig (Elt Ideal)) : S32x2x128x4096.Idx → EReal := V0 (Proc.devRef .tc main_v65_0)
/-- The carried chunks of the inner columns. -/
abbrev i1 (V0 : Valuation τ sig (Elt Ideal)) : S32x2x128x64x64.Idx → EReal := V0 (Proc.devRef .tc main_v65_1)
/-- The carried chunks of the step sizes. -/
abbrev i2 (V0 : Valuation τ sig (Elt Ideal)) : S32x2x128x64.Idx → EReal := V0 (Proc.devRef .tc main_v65_2)
/-- The carried chunks of the input projections. -/
abbrev i3 (V0 : Valuation τ sig (Elt Ideal)) : S32x2x128x8x128.Idx → EReal := V0 (Proc.devRef .tc main_v65_3)
/-- The carried chunks of the output projections. -/
abbrev i4 (V0 : Valuation τ sig (Elt Ideal)) : S32x2x128x8x128.Idx → EReal := V0 (Proc.devRef .tc main_v65_4)

/-- What the scan's carried arrays hold before its trip `k`. -/
structure Inv (V0 : Valuation τ sig (Elt Ideal)) (k : ℕ) : Prop where
  cnt : V0 (Proc.devRef .tc main_v65_8) = fun _ => BitVec.ofNat 32 k
  z : ∀ (n : Fin 32) (b : Fin 2) (l : Fin 128) (r : Fin 4096), i0 V0 (ix4 n b l r) = chZ P b n (ix2 l r)
  x : ∀ (n : Fin 32) (b : Fin 2) (l : Fin 128) (h p : Fin 64), i1 V0 (ix5 n b l h p) = chX P w cb b n (ix2 l ⟨h.val * 64 + p.val, by omega⟩)
  d : ∀ (n : Fin 32) (b : Fin 2) (l : Fin 128) (h : Fin 64), i2 V0 (ix4 n b l h) = stp P dtb b h (128 * n.val + l.val)
  bm : ∀ (n : Fin 32) (b : Fin 2) (l : Fin 128) (g : Fin 8) (j : Fin 128), i3 V0 (ix5 n b l g j) = chB P w cb b n (ix2 l ⟨g.val * 128 + j.val, by omega⟩)
  cm : ∀ (n : Fin 32) (b : Fin 2) (l : Fin 128) (g : Fin 8) (j : Fin 128), i4 V0 (ix5 n b l g j) = chC P w cb b n (ix2 l ⟨g.val * 128 + j.val, by omega⟩)
  a : ∀ h : Fin 64, i5 V0 (ix1 h) = 0 - Ideal.exp (al (ix1 h))
  dsk : ∀ h : Fin 64, i6 V0 (ix1 h) = dk (ix1 h)
  nrm : ∀ r : Fin 4096, i7 V0 (ix1 r) = nw (ix1 r)
  st : ∀ (b : Fin 2) (g r : Fin 8) (p : Fin 64) (n : Fin 128), i9 V0 (ix5 b g r p n) = state P w cb dtb al b k (ix2 ⟨(g.val * 8 + r.val) * 64 + p.val, by omega⟩ n)
  ys : ∀ (k' : Fin 32) (b : Fin 2) (l : Fin 128) (r : Fin 4096), k'.val < k → i10 V0 (ix4 k' b l r) = out P w cb dtb al dk nw b k' l r

variable {P w cb dtb al dk nw} {V0 : Valuation τ sig (Elt Ideal)} {k : ℕ}

/-- The trip's inner columns. -/
theorem Inv.tX (I : Inv P w cb dtb al dk nw V0 k) (hk : k < 32) (b : Fin 2) (l : Fin 128) (h p : Fin 64) (R : Fin 4096) (e : R.val = h.val * 64 + p.val) :
    w75 V0 (ix4 b l h p) = chX P w cb b k (ix2 l R) := by
  obtain ⟨R, hR⟩ := R
  dsimp only at e
  subst e
  exact (v75 V0 k hk I.cnt b l h p).trans (I.x ⟨k, hk⟩ b l h p)

/-- The trip's input projections. -/
theorem Inv.tB (I : Inv P w cb dtb al dk nw V0 k) (hk : k < 32) (b : Fin 2) (l : Fin 128) (g : Fin 8) (n : Fin 128) (R : Fin 1024) (e : R.val = g.val * 128 + n.val) :
    w77 V0 (ix4 b l g n) = chB P w cb b k (ix2 l R) := by
  obtain ⟨R, hR⟩ := R
  dsimp only at e
  subst e
  exact (v77 V0 k hk I.cnt b l g n).trans (I.bm ⟨k, hk⟩ b l g n)

/-- The trip's output projections. -/
theorem Inv.tC (I : Inv P w cb dtb al dk nw V0 k) (hk : k < 32) (b : Fin 2) (l : Fin 128) (g : Fin 8) (n : Fin 128) (R : Fin 1024) (e : R.val = g.val * 128 + n.val) :
    w78 V0 (ix4 b l g n) = chC P w cb b k (ix2 l R) := by
  obtain ⟨R, hR⟩ := R
  dsimp only at e
  subst e
  exact (v78 V0 k hk I.cnt b l g n).trans (I.cm ⟨k, hk⟩ b l g n)

/-- The trip's step sizes, by head. -/
theorem Inv.tS (I : Inv P w cb dtb al dk nw V0 k) (hk : k < 32) (b : Fin 2) (l : Fin 128) (g r : Fin 8) :
    w80 V0 (ix4 b l g r) = stp P dtb b ⟨g.val * 8 + r.val, by omega⟩ (128 * k + l.val) :=
  (v80 V0 k hk I.cnt b l g r).trans (I.d ⟨k, hk⟩ b l _)

/-- The trip's step sizes. -/
theorem Inv.tD (I : Inv P w cb dtb al dk nw V0 k) (hk : k < 32) (b : Fin 2) (l : Fin 128) (g r : Fin 8) (h : Fin 128) (e : h.val = g.val * 8 + r.val) :
    w80 V0 (ix4 b l g r) = chD P dtb b k (ix2 l h) := by
  rw [I.tS hk]
  obtain ⟨h, hh⟩ := h
  dsimp only at e
  subst e
  have e2 : (⟨g.val * 8 + r.val, by omega⟩ : Fin 64) = ⟨(g.val * 8 + r.val) % 64, Nat.mod_lt _ (by decide)⟩ := Fin.ext (Nat.mod_eq_of_lt (by omega)).symm
  rw [e2]
  rfl

/-- The trip's running sums. -/
theorem Inv.tA (I : Inv P w cb dtb al dk nw V0 k) (hk : k < 32) (b : Fin 2) (l : Fin 128) (g r : Fin 8) (h : Fin 128) (e : h.val = g.val * 8 + r.val) :
    w85 V0 (ix4 b l g r) = chA P dtb al b k (ix2 l h) := by
  rw [v85 V0 b l g r _ (fun i => stp P dtb b ⟨g.val * 8 + r.val, by omega⟩ (128 * k + i) * (0 - Ideal.exp (al (ix1 ⟨g.val * 8 + r.val, by omega⟩))))
    (I.a _) (fun i => by rw [I.tS hk])]
  obtain ⟨h, hh⟩ := h
  dsimp only at e
  subst e
  have e2 : (⟨g.val * 8 + r.val, by omega⟩ : Fin 64) = ⟨(g.val * 8 + r.val) % 64, Nat.mod_lt _ (by decide)⟩ := Fin.ext (Nat.mod_eq_of_lt (by omega)).symm
  rw [e2]
  rfl

/-- The trip's entering state. -/
theorem Inv.tH (I : Inv P w cb dtb al dk nw V0 k) (b : Fin 2) (g r : Fin 8) (p : Fin 64) (n : Fin 128) (R : Fin 4096) (e : R.val = (g.val * 8 + r.val) * 64 + p.val) :
    i9 V0 (ix5 b g r p n) = state P w cb dtb al b k (ix2 R n) := by
  obtain ⟨R, hR⟩ := R
  dsimp only at e
  subst e
  exact I.st b g r p n

/-- The state after one more chunk. -/
theorem state_succ (b n : ℕ) (i : Fin 4096) (j : Fin 128) :
    state P w cb dtb al b (n + 1) (ix2 i j) = stepState (state P w cb dtb al b n) (chX P w cb b n) (chB P w cb b n) (chD P dtb b n) (chA P dtb al b n) i j := by
  rw [state]
  rfl

/-- The trip's leaving state. -/
theorem Inv.tN (I : Inv P w cb dtb al dk nw V0 k) (hk : k < 32) (b : Fin 2) (g r : Fin 8) (p : Fin 64) (n : Fin 128) :
    s9 V0 (ix5 b g r p n) = state P w cb dtb al b (k + 1) (ix2 ⟨(g.val * 8 + r.val) * 64 + p.val, by omega⟩ n) := by
  have hd : ((g.val * 8 + r.val) * 64 + p.val) / 64 = g.val * 8 + r.val := by omega
  have hg : ((g.val * 8 + r.val) * 64 + p.val) / 512 = g.val := by omega
  rw [v9]
  rw [state_succ]
  unfold stepState
  dsimp only
  rw [I.tH b g r p n ⟨(g.val * 8 + r.val) * 64 + p.val, by omega⟩ rfl,
    I.tA hk b 127 g r ⟨((g.val * 8 + r.val) * 64 + p.val) / 64, by omega⟩ hd]
  refine congrArg₂ (· + ·) rfl (Finset.sum_congr rfl fun x _ => ?_)
  rw [I.tA hk b x g r ⟨((g.val * 8 + r.val) * 64 + p.val) / 64, by omega⟩ hd,
    I.tX hk b x ⟨g.val * 8 + r.val, by omega⟩ p ⟨(g.val * 8 + r.val) * 64 + p.val, by omega⟩ rfl,
    I.tD hk b x g r ⟨((g.val * 8 + r.val) * 64 + p.val) / 64, by omega⟩ hd,
    I.tB hk b x g n ⟨((g.val * 8 + r.val) * 64 + p.val) / 512 * 128 + n.val, by omega⟩ (show ((g.val * 8 + r.val) * 64 + p.val) / 512 * 128 + n.val = g.val * 128 + n.val by rw [hg])]
  rw [mul_comm (Ideal.exp _) (_ * _)]

/-- The trip's gated result before its group norm. -/
theorem Inv.tY (I : Inv P w cb dtb al dk nw V0 k) (hk : k < 32) (b : Fin 2) (l : Fin 128) (g : Fin 8) (q : Fin 512) (R : Fin 4096) (e : R.val = g.val * 512 + q.val) :
    w130 V0 (ix4 b l g q) = stepY (state P w cb dtb al b k) (chZ P b k) (chX P w cb b k) (chB P w cb b k) (chC P w cb b k) (chD P dtb b k) (chA P dtb al b k)
      (fun y => dk (ix1 ⟨(y 1).val / 64, by have := (y 1).isLt; change _ < 4096 at this; omega⟩)) l R := by
  obtain ⟨R, hR⟩ := R
  dsimp only at e
  subst e
  have hd : (g.val * 512 + q.val) / 64 = g.val * 8 + (g.val * 512 + q.val) / 64 % 8 := by omega
  have hg : (g.val * 512 + q.val) / 512 = g.val := by omega
  have hq : g.val * 512 + q.val = (g.val * 8 + (g.val * 512 + q.val) / 64 % 8) * 64 + (g.val * 512 + q.val) % 64 := by omega
  have hq2 : g.val * 512 + q.val = (g.val * 512 + q.val) / 64 * 64 + (g.val * 512 + q.val) % 64 := by omega
  rw [v130]
  unfold stepY
  have eA : ∀ x : Fin 128, w85 V0 (ix4 b x g ⟨(g.val * 512 + q.val) / 64 % 8, by omega⟩) = chA P dtb al b k (ix2 x ⟨(g.val * 512 + q.val) / 64, by omega⟩) :=
    fun x => I.tA hk b x g _ _ hd
  have eD : ∀ x : Fin 128, w80 V0 (ix4 b x g ⟨(g.val * 512 + q.val) / 64 % 8, by omega⟩) = chD P dtb b k (ix2 x ⟨(g.val * 512 + q.val) / 64, by omega⟩) :=
    fun x => I.tD hk b x g _ _ hd
  have eX : ∀ x : Fin 128, w75 V0 (ix4 b x ⟨g.val * 8 + (g.val * 512 + q.val) / 64 % 8, by omega⟩ ⟨(g.val * 512 + q.val) % 64, by omega⟩) = chX P w cb b k (ix2 x ⟨g.val * 512 + q.val, hR⟩) :=
    fun x => I.tX hk b x _ _ _ hq
  have eX2 : w75 V0 (ix4 b l ⟨(g.val * 512 + q.val) / 64, by omega⟩ ⟨(g.val * 512 + q.val) % 64, by omega⟩) = chX P w cb b k (ix2 l ⟨g.val * 512 + q.val, hR⟩) :=
    I.tX hk b l _ _ _ hq2
  have eB : ∀ x n : Fin 128, w77 V0 (ix4 b x g n) = chB P w cb b k (ix2 x ⟨(g.val * 512 + q.val) / 512 * 128 + n.val, by omega⟩) :=
    fun x n => I.tB hk b x g n _ (by show _ / 512 * 128 + _ = _; rw [hg])
  have eC : ∀ n : Fin 128, w78 V0 (ix4 b l g n) = chC P w cb b k (ix2 l ⟨(g.val * 512 + q.val) / 512 * 128 + n.val, by omega⟩) :=
    fun n => I.tC hk b l g n _ (by show _ / 512 * 128 + _ = _; rw [hg])
  have eS : ∀ n : Fin 128, i9 V0 (ix5 b g ⟨(g.val * 512 + q.val) / 64 % 8, by omega⟩ ⟨(g.val * 512 + q.val) % 64, by omega⟩ n) = state P w cb dtb al b k (ix2 ⟨g.val * 512 + q.val, hR⟩ n) :=
    fun n => I.tH b g _ _ n _ hq
  have eZ : w74 V0 (ix3 b l ⟨g.val * 512 + q.val, hR⟩) = chZ P b k (ix2 l ⟨g.val * 512 + q.val, hR⟩) :=
    (v74 V0 k hk I.cnt b l _).trans (I.z ⟨k, hk⟩ b l _)
  simp only [eA, eD, eX, eX2, eB, eC, eS, eZ, I.dsk]
  refine congrArg₂ (· * ·) (congrArg₂ (· + ·) ?_ rfl) rfl
  rw [add_comm]
  refine congrArg₂ (· + ·) (congrArg₂ (· * ·) (Finset.sum_congr rfl fun n _ => mul_comm _ _) rfl) (Finset.sum_congr rfl fun x _ => ?_)
  by_cases h : x ≤ l
  · rw [if_pos h, if_pos h, mul_comm (chX P w cb b k _ * _)]
    simp only [mul_comm (chB P w cb b k _)]
  · rw [if_neg h, if_neg h, mul_zero, mul_zero]

/-- One trip keeps what the carried arrays hold. -/
theorem Inv.step (I : Inv P w cb dtb al dk nw V0 k) (hk : k < 32) : Inv P w cb dtb al dk nw (STEP V0) (k + 1) where
  cnt := by
    rw [STEP_main_v65_8]
    unfold step_main_v65_8
    rw [I.cnt]
    funext _
    show BitVec.ofNat 32 k + 1#32 = BitVec.ofNat 32 (k + 1)
    exact (BitVec.ofNat_add k 1).symm
  z := fun n b l r => (congrFun (STEP_main_v65_0 V0) _).trans (I.z n b l r)
  x := fun n b l h p => (congrFun (STEP_main_v65_1 V0) _).trans (I.x n b l h p)
  d := fun n b l h => (congrFun (STEP_main_v65_2 V0) _).trans (I.d n b l h)
  bm := fun n b l g j => (congrFun (STEP_main_v65_3 V0) _).trans (I.bm n b l g j)
  cm := fun n b l g j => (congrFun (STEP_main_v65_4 V0) _).trans (I.cm n b l g j)
  a := fun h => (congrFun (STEP_main_v65_5 V0) _).trans (I.a h)
  dsk := fun h => (congrFun (STEP_main_v65_6 V0) _).trans (I.dsk h)
  nrm := fun r => (congrFun (STEP_main_v65_7 V0) _).trans (I.nrm r)
  st := fun b g r p n => (congrFun (STEP_main_v65_9 V0) _).trans (I.tN hk b g r p n)
  ys := fun k' b l r hk' => by
    refine (congrFun (STEP_main_v65_10 V0) _).trans ((v10 V0 k hk I.cnt k' b l r).trans ?_)
    by_cases e : k'.val = k
    · rw [if_pos e, I.nrm, I.tY hk b l ⟨r.val / 512, by omega⟩ ⟨r.val % 512, by omega⟩ r (by show _ = _ / 512 * 512 + _ % 512; omega)]
      have hY := fun q : Fin 512 => I.tY hk b l ⟨r.val / 512, by omega⟩ q ⟨r.val / 512 * 512 + q.val, by omega⟩ rfl
      simp only [hY]
      unfold out groupNorm
      rw [e]
      rfl
    · rw [if_neg e]
      exact I.ys k' b l r (by omega)

/-- All thirty-two trips. -/
theorem Inv.all (I : Inv P w cb dtb al dk nw V0 0) : ∀ n ≤ 32, Inv P w cb dtb al dk nw (STEP^[n] V0) n := by
  intro n
  induction n with
  | zero => exact fun _ => I
  | succ n ih =>
    intro h
    rw [Function.iterate_succ_apply']
    exact (ih (by omega)).step (by omega)

end Cert.SsdRefIdeal.Alg

end
-- ==== Proof.SsdRefC.lean ====
module

public import proofs.«01_k».proof.Proof.Gen.SsdRefIdeal.Run
public import Idealize.ShloMosaic.Lib.Pointwise
public import Idealize.ShloMosaic.Lib.DynamicIndex
public import proofs.«01_k».proof.Proof.SsdRefB

@[expose] public section

set_option maxRecDepth 16384

noncomputable section

open Idealize.ShloMosaic Idealize.ShloMosaic.TcCoe Idealize.SL.Sem

namespace Cert.SsdRefIdeal.Alg

open Cert.SsdRefIdeal Cert.SsdRefIdeal.Value Cert.SsdIdeal.Alg Cert.SsdMath

variable (m : (ℓ : Loc nD τ sig) → Buf (Elt Ideal) ℓ) (c : Dev nD)

open StableHlo

/-- The projection at launch. -/
abbrev rP : S8256x10752.Idx → EReal := launchContents m c (Proc.devRef .tc main_arg0)
/-- The taps at launch. -/
abbrev rW : S4x6144.Idx → EReal := launchContents m c (Proc.devRef .tc main_arg1)
/-- The convolution's bias at launch. -/
abbrev rCb : S6144.Idx → EReal := launchContents m c (Proc.devRef .tc main_arg2)
/-- The step sizes' bias at launch. -/
abbrev rDt : S64.Idx → EReal := launchContents m c (Proc.devRef .tc main_arg3)
/-- The logarithms of the decay rates at launch. -/
abbrev rAl : S64.Idx → EReal := launchContents m c (Proc.devRef .tc main_arg4)
/-- The skip weights at launch. -/
abbrev rDk : S64.Idx → EReal := launchContents m c (Proc.devRef .tc main_arg5)
/-- The norm's weights at launch. -/
abbrev rNw : S4096.Idx → EReal := launchContents m c (Proc.devRef .tc main_arg6)

/-- The scan starts with the gate's chunks. -/
theorem e0 (n : Fin 32) (b : Fin 2) (l : Fin 128) (r : Fin 4096) : i0 (entryContents preI m c) (ix4 n b l r) = chZ (rP m c) b n (ix2 l r) := by
  unfold i0
  simp only [entryContents, afterL_cons, afterL_nil]
  after_reads_simp
  simp only [id]
  pointwise []
  unfold chZ
  refine congrArg (rP m c) (congrArg₂ ix2 (Fin.ext ?_) rfl)
  show b.val * 4096 + n.val * 128 + l.val = (4096 * b.val + (128 * n.val + l.val)) % 8256
  omega

/-- A step size from the entry it is taken of. -/
theorem stp_of (P : S8256x10752.Idx → EReal) (dtb : S64.Idx → EReal) (b : ℕ) (h : Fin 64) (u : ℕ) (R : Fin 8256) (J : Fin 10752) (e : R = row b u)
    (eJ : J = ⟨10240 + h.val, by omega⟩) :
    max (P (ix2 R J) + dtb (ix1 h)) 0 + Ideal.log1p (Ideal.exp (-FloatOps.absf (F := Ideal) (φ := .f32) (P (ix2 R J) + dtb (ix1 h)))) = stp P dtb b h u := by
  subst e eJ
  unfold stp soft
  rw [zero_sub]

/-- The scan starts with the step sizes' chunks. -/
theorem e2 (n : Fin 32) (b : Fin 2) (l : Fin 128) (h : Fin 64) : i2 (entryContents preI m c) (ix4 n b l h) = stp (rP m c) (rDt m c) b h (128 * n.val + l.val) := by
  unfold i2
  simp only [entryContents, afterL_cons, afterL_nil]
  after_reads_simp
  simp only [TRef.ofBuf_toBuf, TRef.toBuf, TRef.ofBuf, id, cast_eq]
  pointwise []
  simp only [ne_eq, not_true_eq_false, ↓reduceIte]
  refine stp_of (rP m c) (rDt m c) b h (128 * n.val + l.val) _ _ (Fin.ext ?_) rfl
  show b.val * 4096 + (n.val * 128 + l.val) = (4096 * b.val + (128 * n.val + l.val)) % 8256
  omega

/-- The scan starts with the decay rates. -/
theorem e5 (h : Fin 64) : i5 (entryContents preI m c) (ix1 h) = 0 - Ideal.exp (rAl m c (ix1 h)) := by
  unfold i5
  simp only [entryContents, afterL_cons, afterL_nil]
  after_reads_simp
  simp only [id]
  pointwise []
  rw [zero_sub]

/-- The scan starts with the skip weights. -/
theorem e6 (h : Fin 64) : i6 (entryContents preI m c) (ix1 h) = rDk m c (ix1 h) := by
  unfold i6
  simp only [entryContents, afterL_cons, afterL_nil]
  after_reads_simp
  rfl

/-- The scan starts with the norm's weights. -/
theorem e7 (r : Fin 4096) : i7 (entryContents preI m c) (ix1 r) = rNw m c (ix1 r) := by
  unfold i7
  simp only [entryContents, afterL_cons, afterL_nil]
  after_reads_simp
  rfl

/-- The scan starts from a state of zeros. -/
theorem e9 (b : Fin 2) (g r : Fin 8) (p : Fin 64) (n : Fin 128) : i9 (entryContents preI m c) (ix5 b g r p n) = 0 := by
  unfold i9
  simp only [entryContents, afterL_cons, afterL_nil]
  after_reads_simp
  simp only [id]
  pointwise []
  try simp [Ideal.ofBits, Ideal.ieee]

/-- The three rows before the first of each sequence. -/
abbrev a6 : S2x3x6144.Idx → EReal := upto Cert.SsdRefIdeal.Gen.hostOps0 (launchContents m c) 8 (Proc.devRef .tc main_v6)
/-- The rows of each sequence. -/
abbrev a5 : S2x4096x6144.Idx → EReal := upto Cert.SsdRefIdeal.Gen.hostOps0 (launchContents m c) 8 (Proc.devRef .tc main_v5)

/-- The rows before the first of a sequence are zeros. -/
theorem u6 (b : Fin 2) (i : Fin 3) (j : Fin 6144) : a6 m c (ix3 b i j) = 0 := by
  unfold a6 upto
  simp only [Cert.SsdRefIdeal.Gen.hostOps0, List.take_succ_cons, List.take_zero]
  after_results_simp
  pointwise []
  try simp [Ideal.ofBits, Ideal.ieee]

/-- The rows of the sequences. -/
theorem u5 (b : Fin 2) (i : Fin 4096) (j : Fin 6144) : a5 m c (ix3 b i j) = ext (rP m c) b j (i.val + 8) := by
  unfold a5 upto
  simp only [Cert.SsdRefIdeal.Gen.hostOps0, List.take_succ_cons, List.take_zero]
  after_results_simp
  pointwise []
  unfold ext
  rw [if_neg (by omega)]
  refine congrArg (rP m c) (congrArg₂ ix2 (Fin.ext ?_) rfl)
  show b.val * 4096 + i.val = (4096 * b.val + (i.val + 8 - 8)) % 8256
  omega

/-- One tap. -/
theorem tapk (P : S8256x10752.Idx → EReal) (b : ℕ) (j : Fin 6144) (x : ℕ) : (if x < 3 then (0 : EReal) else ext P b j (x - 3 + 8)) = ext P b j (x + 5) := by
  by_cases h : x < 3
  · rw [if_pos h]
    unfold ext
    rw [if_pos (by omega)]
  · rw [if_neg h, show x - 3 + 8 = x + 5 by omega]

/-- The convolution's sum, its taps counted from the oldest. -/
theorem taps_eq (P : S8256x10752.Idx → EReal) (w : S4x6144.Idx → EReal) (cb : S6144.Idx → EReal) (b : ℕ) (j : Fin 6144) (u v : ℕ) (e : v = u) :
    (cb (ix1 j) + (ext P b j (v + 5) * w (ix2 0 j) + ext P b j (1 + v + 5) * w (ix2 1 j) + ext P b j (2 + v + 5) * w (ix2 2 j) + ext P b j (v + 8) * w (ix2 3 j)))
      = cb (ix1 j) + w (ix2 3 j) * ext P b j (u + 8) + w (ix2 2 j) * ext P b j (u + 7) + w (ix2 1 j) * ext P b j (u + 6) + w (ix2 0 j) * ext P b j (u + 5) := by
  subst e
  rw [show 1 + v + 5 = v + 6 by omega, show 2 + v + 5 = v + 7 by omega]
  ac_rfl

/-- The activated convolution, from the zeros before a sequence and the sequence's rows. -/
theorem act_mix (P : S8256x10752.Idx → EReal) (w : S4x6144.Idx → EReal) (cb : S6144.Idx → EReal) (A6 : S2x3x6144.Idx → EReal) (A5 : S2x4096x6144.Idx → EReal)
    (h6 : ∀ (b : Fin 2) (i : Fin 3) (j : Fin 6144), A6 (ix3 b i j) = 0)
    (h5 : ∀ (b : Fin 2) (i : Fin 4096) (j : Fin 6144), A5 (ix3 b i j) = ext P b j (i.val + 8))
    (b : Fin 2) (j : Fin 6144) (u v : ℕ) (hv : v < 4096) (e : v = u) (z : EReal)
    (hz : z = cb (ix1 j) + ((if h : v < 3 then A6 (ix3 b ⟨v, h⟩ j) else A5 (ix3 b ⟨v - 3, by omega⟩ j)) * w (ix2 0 j)
      + (if h : 1 + v < 3 then A6 (ix3 b ⟨1 + v, h⟩ j) else A5 (ix3 b ⟨1 + v - 3, by omega⟩ j)) * w (ix2 1 j)
      + (if h : 2 + v < 3 then A6 (ix3 b ⟨2 + v, h⟩ j) else A5 (ix3 b ⟨2 + v - 3, by omega⟩ j)) * w (ix2 2 j)
      + A5 (ix3 b ⟨v, hv⟩ j) * w (ix2 3 j))) :
    z * Ideal.logistic z = act P w cb b j u := by
  simp only [h6, h5, dite_eq_ite, tapk] at hz
  rw [hz, taps_eq P w cb b j u v e]
  rfl

/-- The scan starts with the inner columns' chunks. -/
theorem e1 (n : Fin 32) (b : Fin 2) (l : Fin 128) (h p : Fin 64) :
    i1 (entryContents preI m c) (ix5 n b l h p) = chX (rP m c) (rW m c) (rCb m c) b n (ix2 l ⟨h.val * 64 + p.val, by omega⟩) := by
  unfold i1
  simp only [entryContents, afterL_cons, afterL_nil]
  after_reads_simp
  simp only [TRef.ofBuf_toBuf, TRef.toBuf, TRef.ofBuf, id, cast_eq]
  pointwise []
  refine act_mix (rP m c) (rW m c) (rCb m c) (a6 m c) (a5 m c) (u6 m c) (u5 m c) b ⟨h.val * 64 + p.val, by omega⟩ (128 * n.val + l.val) (n.val * 128 + l.val) (by omega) (by omega) _ ?_
  rfl

/-- The scan starts with the input projections' chunks. -/
theorem e3 (n : Fin 32) (b : Fin 2) (l : Fin 128) (g : Fin 8) (p : Fin 128) :
    i3 (entryContents preI m c) (ix5 n b l g p) = chB (rP m c) (rW m c) (rCb m c) b n (ix2 l ⟨g.val * 128 + p.val, by omega⟩) := by
  unfold i3
  simp only [entryContents, afterL_cons, afterL_nil]
  after_reads_simp
  simp only [TRef.ofBuf_toBuf, TRef.toBuf, TRef.ofBuf, id, cast_eq]
  pointwise []
  refine act_mix (rP m c) (rW m c) (rCb m c) (a6 m c) (a5 m c) (u6 m c) (u5 m c) b ⟨4096 + (g.val * 128 + p.val), by omega⟩ (128 * n.val + l.val) (n.val * 128 + l.val) (by omega) (by omega) _ ?_
  rfl

/-- The scan starts with the output projections' chunks. -/
theorem e4 (n : Fin 32) (b : Fin 2) (l : Fin 128) (g : Fin 8) (p : Fin 128) :
    i4 (entryContents preI m c) (ix5 n b l g p) = chC (rP m c) (rW m c) (rCb m c) b n (ix2 l ⟨g.val * 128 + p.val, by omega⟩) := by
  unfold i4
  simp only [entryContents, afterL_cons, afterL_nil]
  after_reads_simp
  simp only [TRef.ofBuf_toBuf, TRef.toBuf, TRef.ofBuf, id, cast_eq]
  pointwise []
  refine act_mix (rP m c) (rW m c) (rCb m c) (a6 m c) (a5 m c) (u6 m c) (u5 m c) b ⟨5120 + (g.val * 128 + p.val), by omega⟩ (128 * n.val + l.val) (n.val * 128 + l.val) (by omega) (by omega) _ ?_
  rfl

end Cert.SsdRefIdeal.Alg

end
-- ==== Proof.SsdRefD.lean ====
module

public import proofs.«01_k».proof.Proof.Gen.SsdRefIdeal.Run
public import Idealize.ShloMosaic.Lib.Pointwise
public import Idealize.ShloMosaic.Lib.DynamicIndex
public import proofs.«01_k».proof.Proof.SsdRefC

@[expose] public section

set_option maxRecDepth 16384

noncomputable section

open Idealize.ShloMosaic Idealize.ShloMosaic.TcCoe Idealize.SL.Sem

namespace Cert.SsdRefIdeal.Alg

open Cert.SsdRefIdeal Cert.SsdRefIdeal.Value Cert.SsdIdeal.Alg Cert.SsdMath

variable (m : (ℓ : Loc nD τ sig) → Buf (Elt Ideal) ℓ) (c : Dev nD)

open StableHlo

/-- What the scan starts from. -/
theorem inv0 : Inv (rP m c) (rW m c) (rCb m c) (rDt m c) (rAl m c) (rDk m c) (rNw m c) (entryContents preI m c) 0 where
  cnt := by
    simp only [entryContents, afterL_cons, afterL_nil]
    after_reads_simp
    rfl
  z := e0 m c
  x := e1 m c
  d := e2 m c
  bm := e3 m c
  cm := e4 m c
  a := e5 m c
  dsk := e6 m c
  nrm := e7 m c
  st := e9 m c
  ys := fun _ _ _ _ h => absurd h (Nat.not_lt_zero _)

/-- What the scan ends with. -/
theorem inv32 : Inv (rP m c) (rW m c) (rCb m c) (rDt m c) (rAl m c) (rDk m c) (rNw m c) (STEP^[32] (entryContents preI m c)) 32 :=
  (inv0 m c).all 32 le_rfl

/-- The reference's gated and normed rows. -/
theorem outY (R : Fin 8192) (r : Fin 4096) : (out_main_v72 (STEP^[32] (entryContents preI m c)) : Vec Ideal S8192x4096 .f32) (ix2 R r)
    = out (rP m c) (rW m c) (rCb m c) (rDt m c) (rAl m c) (rDk m c) (rNw m c) (R.val / 4096) (R.val % 4096 / 128) ⟨R.val % 128, by omega⟩ r := by
  generalize hV : STEP^[32] (entryContents preI m c) = V0
  have I := inv32 m c
  rw [hV] at I
  unfold out_main_v72
  try simp only [id]
  pointwise []
  refine (I.ys ⟨R.val / 128 % 32, by omega⟩ ⟨R.val / 4096, by omega⟩ ⟨R.val % 128, by omega⟩ r (by show R.val / 128 % 32 < 32; omega)).trans ?_
  show out _ _ _ _ _ _ _ (R.val / 4096) (R.val / 128 % 32) _ r = _
  rw [show R.val / 128 % 32 = R.val % 4096 / 128 by omega]

/-- The reference's rows kept for the next call. -/
theorem outC (b : Fin 2) (r : Fin 3) (j : Fin 6144) : (out_main_v70 (STEP^[32] (entryContents preI m c)) : Vec Ideal S2x3x6144 .f32) (ix3 b r j)
    = rP m c (ix2 ⟨4096 * b.val + 4093 + r.val, by omega⟩ ⟨4096 + j.val, by omega⟩) := by
  unfold out_main_v70
  try simp only [id]
  pointwise []
  rw [dif_neg (by omega), iter_main_arg0 m c 32]
  refine congrArg (rP m c) (congrArg₂ ix2 (Fin.ext ?_) rfl)
  show b.val * 4096 + (4096 + r.val - 3) = 4096 * b.val + 4093 + r.val
  omega

/-- The reference's state kept for the next call. -/
theorem outS (b : Fin 2) (i : Fin 4096) (j : Fin 128) : (out_main_v73 (STEP^[32] (entryContents preI m c)) : Vec Ideal S2x4096x128 .f32) (ix3 b i j)
    = state (rP m c) (rW m c) (rCb m c) (rDt m c) (rAl m c) b 32 (ix2 i j) := by
  generalize hV : STEP^[32] (entryContents preI m c) = V0
  have I := inv32 m c
  rw [hV] at I
  unfold out_main_v73
  try simp only [id]
  pointwise []
  refine (I.st b ⟨i.val / 512, by omega⟩ ⟨i.val / 64 % 8, by omega⟩ ⟨i.val % 64, by omega⟩ j).trans ?_
  refine congrArg (state _ _ _ _ _ _ _) (congrArg₂ ix2 (Fin.ext ?_) rfl)
  show (i.val / 512 * 8 + i.val / 64 % 8) * 64 + i.val % 64 = i.val
  omega

end Cert.SsdRefIdeal.Alg

end
-- ==== Proof.DecKer.lean ====
module

public import proofs.«01_k».proof.Proof.Gen.SsdDecIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

/-- If the first `n` stores of a list are blocks of `G` and cover an index, the list leaves `G` there. -/
theorem Cert.SsdMath.canon_first {s : Shape} {Val : EltTy → Type} {e : EltTy} [∀ e, Nonempty (Val e)] (G : s.Idx → Val e) (n : ℕ)
    (L : List (View.Piece Val s e)) (h : View.PiecesOf G (L.take n)) (y : s.Idx) (hc : ∃ p ∈ L.take n, y ∈ p.1.set) :
    View.canon L y = G y := by
  have e := View.canon_append_of_piecesOf G (L.drop n) (L.take n) h y hc
  rwa [List.take_append_drop] at e

namespace Cert.SsdDecIdeal.Alg

open Cert.SsdDecIdeal Cert.SsdDecIdeal.Gen Cert.SsdMath

variable (m : (ℓ : Loc nD τ sig) → Buf (Elt Ideal) ℓ) (c : Dev nD)

/-- The projected array at launch. -/
abbrev aP : Vec Ideal S8256x10752 .f32 := m ((c : Thread nD τ).loc main_arg0)

/-- The block indices of the row windows at every grid point. -/
theorem idxRows : ∀ t : Fin cfg0.N, win0_1.index t (0 : Fin 2) = 1024 + t.val ∧ win0_1.index t (1 : Fin 2) = 1
    ∧ win0_2.index t (0 : Fin 2) = 1024 + t.val ∧ win0_2.index t (1 : Fin 2) = 8
    ∧ win0_3.index t (0 : Fin 2) = 1024 + t.val ∧ win0_3.index t (1 : Fin 2) = 9 :=
  (by decide +kernel : ∀ t : Fin grid0.N, _)

/-- The inner columns of a sequence's rows. -/
theorem blkX (t : Fin cfg0.N) (l : Fin 8) (j : Fin 4096) : X0_1 m c t (ix2 l j) = aP m c (ix2 ⟨8192 + 8 * t.val + l.val, by have := lt_of_lt_of_eq t.isLt N_0; omega⟩ ⟨4096 + j.val, by omega⟩) := by
  have ht : t.val < 8 := lt_of_lt_of_eq t.isLt N_0
  obtain ⟨e0, e1, -⟩ := idxRows t
  unfold X0_1 Pipeline.Window.fill
  rw [dif_pos (moved0_1 t _)]
  blk_ext! [iblk, V, e0, e1]

/-- The input columns of a sequence's rows. -/
theorem blkB (t : Fin cfg0.N) (l : Fin 8) (j : Fin 1024) : X0_2 m c t (ix2 l j) = aP m c (ix2 ⟨8192 + 8 * t.val + l.val, by have := lt_of_lt_of_eq t.isLt N_0; omega⟩ ⟨8192 + j.val, by omega⟩) := by
  have ht : t.val < 8 := lt_of_lt_of_eq t.isLt N_0
  obtain ⟨-, -, e0, e1, -⟩ := idxRows t
  unfold X0_2 Pipeline.Window.fill
  rw [dif_pos (moved0_2 t _)]
  blk_ext! [iblk, V, e0, e1]

/-- The output columns of a sequence's rows. -/
theorem blkC (t : Fin cfg0.N) (l : Fin 8) (j : Fin 1024) : X0_3 m c t (ix2 l j) = aP m c (ix2 ⟨8192 + 8 * t.val + l.val, by have := lt_of_lt_of_eq t.isLt N_0; omega⟩ ⟨9216 + j.val, by omega⟩) := by
  have ht : t.val < 8 := lt_of_lt_of_eq t.isLt N_0
  obtain ⟨-, -, -, -, e0, e1⟩ := idxRows t
  unfold X0_3 Pipeline.Window.fill
  rw [dif_pos (moved0_3 t _)]
  blk_ext! [iblk, V, e0, e1]

/-- An entry of a sequence's rows, its columns counted through the inner part, the input part and the output part. -/
def colsAt (t : Fin cfg0.N) (off r : ℕ) (j : Fin 6144) : EReal :=
  if h : off + r < 8 then
    if hj : j.val < 4096 then X0_1 m c t (ix2 ⟨off + r, h⟩ ⟨j.val, hj⟩)
    else if hb : j.val < 5120 then X0_2 m c t (ix2 ⟨off + r, h⟩ ⟨j.val - 4096, by omega⟩)
    else X0_3 m c t (ix2 ⟨off + r, h⟩ ⟨j.val - 5120, by omega⟩)
  else 0

/-- A sequence's last three rows are entries of the projected array. -/
theorem colsAt_last (t : Fin cfg0.N) (r : Fin 3) (j : Fin 6144) :
    colsAt m c t 5 r.val j = aP m c (ix2 ⟨8192 + 8 * t.val + (5 + r.val), by have := lt_of_lt_of_eq t.isLt N_0; omega⟩ ⟨4096 + j.val, by omega⟩) := by
  unfold colsAt
  rw [dif_pos (by omega)]
  split_ifs with h1 h2
  · exact blkX m c t ⟨5 + r.val, by omega⟩ ⟨j.val, h1⟩
  · refine (blkB m c t ⟨5 + r.val, by omega⟩ ⟨j.val - 4096, by omega⟩).trans (congrArg (aP m c) (congrArg₂ ix2 rfl (Fin.ext ?_)))
    show 8192 + (j.val - 4096) = 4096 + j.val
    omega
  · refine (blkC m c t ⟨5 + r.val, by omega⟩ ⟨j.val - 5120, by omega⟩).trans (congrArg (aP m c) (congrArg₂ ix2 rfl (Fin.ext ?_)))
    show 9216 + (j.val - 5120) = 4096 + j.val
    omega

set_option maxHeartbeats 4000000 in
/-- What a grid point leaves in the window of the kept rows. -/
theorem convA (t : Fin cfg0.N) (r : Fin 3) (j : Fin 6144) :
    (outsAt0 m c t).2.1 (ix3 0 r j) = colsAt m c t 5 r.val j := by
  unfold outsAt0
  frame_open
  simp (disch := decide) only [↓ View.readCov_skip, ↓ View.readCov_cons_toLoadRect, ↓ View.readCov_fill]
  frame_out
  try simp only [read_unread_whole]
  refine canon_first (s := S1x3x6144) (Val := Elt Ideal) (e := .f32)
    (fun y => colsAt m c t 5 (y 1).val (y 2)) 3 _ ?_ (ix3 0 r j) ?_
  rotate_left
  · simp only [List.take_succ_cons, List.take_zero, List.mem_cons, List.not_mem_nil, or_false, exists_eq_or_imp, exists_eq_left, Rect.mem_set_unit]
    have hr := r.isLt
    have hj := j.isLt
    rcases lt_or_ge j.val 4096 with h | h
    · exact Or.inr (Or.inr (Fin.forall_fin_succ.mpr ⟨⟨Nat.le_refl 0, Nat.zero_lt_one⟩, Fin.forall_fin_two.mpr ⟨⟨Nat.zero_le _, by show r.val < 0 + 3; omega⟩, ⟨Nat.zero_le _, by show j.val < 0 + 4096; omega⟩⟩⟩))
    rcases lt_or_ge j.val 5120 with h' | h'
    · exact Or.inr (Or.inl (Fin.forall_fin_succ.mpr ⟨⟨Nat.le_refl 0, Nat.zero_lt_one⟩, Fin.forall_fin_two.mpr ⟨⟨Nat.zero_le _, by show r.val < 0 + 3; omega⟩, ⟨h, by show j.val < 4096 + 1024; omega⟩⟩⟩))
    · exact Or.inl (Fin.forall_fin_succ.mpr ⟨⟨Nat.le_refl 0, Nat.zero_lt_one⟩, Fin.forall_fin_two.mpr ⟨⟨Nat.zero_le _, by show r.val < 0 + 3; omega⟩, ⟨h', by show j.val < 5120 + 1024; omega⟩⟩⟩)
  refine ⟨?_, ?_, ?_, trivial⟩
  all_goals (
    intro x
    idx_vars x
    unfold_payloads
    pointwise
    unfold colsAt
    blk_simp []
    simp (disch := omega) only [dif_pos, dif_neg, Nat.add_sub_cancel_left]
    try rfl)

/-- The block index of the kept rows' window at every grid point, and that every point writes it back. -/
theorem idxKept : ∀ t : Fin cfg0.N, win0_14.index t (0 : Fin 3) = t.val ∧ win0_14.index t (1 : Fin 3) = 0 ∧ win0_14.index t (2 : Fin 3) = 0
    ∧ win0_14.flush t = true :=
  (by decide +kernel : ∀ t : Fin grid0.N, _)

/-- The rows the kernel keeps for the next call. -/
theorem resultC (b : Fin 8) (r : Fin 3) (j : Fin 6144) : ((dats m 0 c).arrAt 14 cfg0.N : Vec Ideal S8x3x6144 .f32) (ix3 b r j)
    = aP m c (ix2 ⟨8192 + 8 * b.val + (5 + r.val), by omega⟩ ⟨4096 + j.val, by omega⟩) := by
  have hN : b.val < cfg0.N := lt_of_lt_of_eq b.isLt N_0.symm
  obtain ⟨i0, i1, i2, hf⟩ := idxKept ⟨b.val, hN⟩
  have e := congrFun ((Value.blocks14 m c ⟨b.val, hN⟩ hf).trans (Value.flushed14 m c ⟨b.val, hN⟩)) (ix3 (0 : Fin 1) r j)
  refine Eq.trans (congrArg ((dats m 0 c).arrAt 14 cfg0.N) ?_) (e.trans ((convA m c ⟨b.val, hN⟩ r j).trans (colsAt_last m c ⟨b.val, hN⟩ r j)))
  funext a
  refine Fin.ext ?_
  match a with
  | ⟨0, _⟩ => show b.val = win0_14.index ⟨b.val, hN⟩ (0 : Fin 3) * 1 + 1 * 0; rw [i0]; simp
  | ⟨1, _⟩ => show r.val = win0_14.index ⟨b.val, hN⟩ (1 : Fin 3) * 3 + 1 * r.val; rw [i1]; omega
  | ⟨2, _⟩ => show j.val = win0_14.index ⟨b.val, hN⟩ (2 : Fin 3) * 6144 + 1 * j.val; rw [i2]; omega

end Cert.SsdDecIdeal.Alg

end
-- ==== Proof.DecRef.lean ====
module

public import proofs.«01_k».proof.Proof.Gen.SsdDecRefIdeal.Run
public import Idealize.ShloMosaic.Lib.Pointwise

@[expose] public section

noncomputable section

open Idealize.ShloMosaic Idealize.ShloMosaic.TcCoe Idealize.SL.Sem

namespace Cert.SsdDecRefIdeal.Alg

open Cert.SsdDecRefIdeal Cert.SsdDecRefIdeal.Gen

/-- The rows the reference keeps for the next call are entries of the projected array. -/
theorem outC (P : Vec Ideal S8256x10752 .f32) (C : Vec Ideal S8x3x6144 .f32) (b : Fin 8) (r : Fin 3) (j : Fin 6144) :
    extractStridedSlice S8x3x6144 ![0, 8, 0] (concatenate S8x11x6144 1 [⟨S8x3x6144, C⟩, ⟨S8x8x6144, (shapeCast _ (extractStridedSlice S64x6144 ![8192, 4096] P slices_S8256x10752_S64x6144_8192_4096) shapeCasts_S64x6144_S8x8x6144)⟩] concatenates_S8x3x6144_S8x8x6144_S8x11x6144_d1) slices_S8x11x6144_S8x3x6144_0_8_0 (ix3 b r j)
    = P (ix2 ⟨8192 + 8 * b.val + (5 + r.val), by omega⟩ ⟨4096 + j.val, by omega⟩) := by
  pointwise []
  rw [dif_neg (by omega)]
  refine congrArg P (congrArg₂ ix2 (Fin.ext ?_) rfl)
  show 8192 + (b.val * 8 + (8 + r.val - 3)) = 8192 + 8 * b.val + (5 + r.val)
  omega

end Cert.SsdDecRefIdeal.Alg

end
-- ==== Proof.DecState.lean ====
module

public import proofs.«01_k».proof.Proof.DecKer
public import proofs.«01_k».proof.Proof.SsdConv

@[expose] public section

set_option maxRecDepth 16384

noncomputable section

open Idealize.ShloMosaic Idealize.ShloMosaic.TcCoe Idealize.SL.Sem

namespace Cert.SsdDecIdeal.Alg

open Cert.SsdDecIdeal Cert.SsdDecIdeal.Gen Cert.SsdMath
open Cert.SsdIdeal.Alg (read_cols canon_take stepState stepState_block half_lo half_hi other_lo other_hi)

variable (m : (ℓ : Loc nD τ sig) → Buf (Elt Ideal) ℓ) (c : Dev nD)

/-- The running sums of a sequence, as the body computes them. -/
def kA (t : Fin cfg0.N) : S128x128.Idx → EReal :=
  k0_pay28 (F := Ideal) (iota .tc S128x128 32 [0] iota_S128x128_d0_w32) (k0_pay26 (iblk m c 4 t) (iblk m c 9 t) (iblk m c 10 t)) k0_pay27

/-- The step sizes of a sequence, as the body computes them. -/
def kD (t : Fin cfg0.N) : S128x128.Idx → EReal := k0_pay25 (F := Ideal) (iblk m c 4 t) (iblk m c 9 t)

/-- The convolved inner columns of a sequence. -/
def kX (t : Fin cfg0.N) : S128x4096.Idx → EReal :=
  k0_pay8 (F := Ideal) (iota Kind.tc S8x1 32 [0] iota_S8x1_d0_w32) (k0_pay3 (X0_1 m c t))
    (View.ld (k0_pay1 (iblk m c 5 t)) (Rect.unit (s := S8x6144) ![0, 0] ![8, 4096] inb_S8x6144_S8x4096_0_0))
    (k0_pay4 (X0_1 m c t)
      (View.ld (k0_pay1 (iblk m c 5 t)) (Rect.unit (s := S8x6144) ![0, 0] ![8, 4096] inb_S8x6144_S8x4096_0_0))
      (View.ld (iblk m c 8 t) (Rect.unit (s := S1x6144) ![0, 0] ![1, 4096] inb_S1x6144_S1x4096_0_0))
      (View.ld (iblk m c 7 t) (Rect.unit (s := S4x6144) ![3, 0] ![1, 4096] inb_S4x6144_S1x4096_3_0))
      (View.ld (iblk m c 7 t) (Rect.unit (s := S4x6144) ![2, 0] ![1, 4096] inb_S4x6144_S1x4096_2_0)))
    (k0_pay6 (X0_1 m c t)
      (View.ld (k0_pay1 (iblk m c 5 t)) (Rect.unit (s := S8x6144) ![0, 0] ![8, 4096] inb_S8x6144_S8x4096_0_0)))
    (k0_pay7 (X0_1 m c t))
    (View.ld (iblk m c 7 t) (Rect.unit (s := S4x6144) ![1, 0] ![1, 4096] inb_S4x6144_S1x4096_1_0))
    (View.ld (iblk m c 7 t) (Rect.unit (s := S4x6144) ![0, 0] ![1, 4096] inb_S4x6144_S1x4096_0_0))

/-- The convolved input columns of a sequence. -/
def kB (t : Fin cfg0.N) : S128x1024.Idx → EReal :=
  k0_pay15 (F := Ideal)
    (k0_pay13 (iota Kind.tc S8x1 32 [0] iota_S8x1_d0_w32) (k0_pay11 (X0_2 m c t))
      (View.ld (k0_pay1 (iblk m c 5 t)) (Rect.unit (s := S8x6144) ![0, 4096] ![8, 1024] inb_S8x6144_S8x1024_0_4096))
      (k0_pay12 (View.ld (iblk m c 8 t) (Rect.unit (s := S1x6144) ![0, 4096] ![1, 1024] inb_S1x6144_S1x1024_0_4096)))
      (View.ld (iblk m c 7 t) (Rect.unit (s := S4x6144) ![3, 4096] ![1, 1024] inb_S4x6144_S1x1024_3_4096))
      (View.ld (iblk m c 7 t) (Rect.unit (s := S4x6144) ![2, 4096] ![1, 1024] inb_S4x6144_S1x1024_2_4096))
      (View.ld (iblk m c 7 t) (Rect.unit (s := S4x6144) ![1, 4096] ![1, 1024] inb_S4x6144_S1x1024_1_4096)))
    (k0_pay14 (iota Kind.tc S8x1 32 [0] iota_S8x1_d0_w32) (k0_pay11 (X0_2 m c t))
      (View.ld (k0_pay1 (iblk m c 5 t)) (Rect.unit (s := S8x6144) ![0, 4096] ![8, 1024] inb_S8x6144_S8x1024_0_4096)))
    (View.ld (iblk m c 7 t) (Rect.unit (s := S4x6144) ![0, 4096] ![1, 1024] inb_S4x6144_S1x1024_0_4096))

/-- The transposed running sums read at a point. -/
theorem sumsT (t : Fin cfg0.N) (j : S128x128.Idx) : k0_pay29 (F := Ideal) (iota .tc S128x128 32 [0] iota_S128x128_d0_w32)
    (k0_pay26 (iblk m c 4 t) (iblk m c 9 t) (iblk m c 10 t)) k0_pay27 j = kA m c t (ix2 (j 1) (j 0)) := by
  idx_vars j
  unfold k0_pay29 kA
  pointwise []

/-- The decay to the last row read at a point. -/
theorem sumsEnd (t : Fin cfg0.N) (j : S128x128.Idx) : k0_pay31 (F := Ideal) (iota .tc S128x128 32 [0] iota_S128x128_d0_w32)
    (k0_pay26 (iblk m c 4 t) (iblk m c 9 t) (iblk m c 10 t)) k0_pay27 j = Ideal.exp (kA m c t (ix2 127 (j 1)) - kA m c t j) := by
  unfold k0_pay31 kA
  pointwise []

/-- The cast of the state the body stores. -/
theorem cast_out (v : S4096x128.Idx → EReal) (i : Fin 4096) (k : Fin 128) : k0_pay340 (F := Ideal) v (ix3 0 i k) = v (ix2 i k) := by
  unfold k0_pay340
  pointwise []

set_option maxHeartbeats 8000000 in
/-- The state a grid point leaves: one chunk over the sequence's state. -/
theorem stateA (t : Fin cfg0.N) (i : Fin 4096) (k : Fin 128) :
    (outsAt0 m c t).2.2 (ix3 0 i k) = stepState (k0_pay2 (F := Ideal) (iblk m c 6 t)) (kX m c t) (kB m c t) (kD m c t) (kA m c t) i k := by
  unfold outsAt0
  frame_open
  simp (disch := decide) only [↓ View.readCov_skip, ↓ View.readCov_cons_toLoadRect, ↓ View.readCov_fill]
  frame_out
  try simp only [read_unread_whole]
  generalize hX : k0_pay8 (F := Ideal) _ _ _ _ _ _ _ _ = X
  generalize hB : k0_pay15 (F := Ideal) _ _ _ = Bm
  generalize hD : k0_pay25 (F := Ideal) _ _ = D
  rw [show kX m c t = X from hX, show kB m c t = Bm from hB, show kD m c t = D from hD]
  clear hX hB hD
  simp (disch := decide) only [read_cols]
  have e26 := sumsT m c t
  have e28 := sumsEnd m c t
  generalize k0_pay29 (F := Ideal) _ _ _ = AT at e26 ⊢
  generalize k0_pay31 (F := Ideal) _ _ _ = TE at e28 ⊢
  generalize kA m c t = A at e26 e28 ⊢
  generalize k0_pay2 (F := Ideal) _ = S
  refine (cast_out _ i k).trans ?_
  rw [View.readCov_eq_canon']
  refine (canon_take (s := S4096x128) (Val := Elt Ideal) (e := .f32)
    (fun y => stepState S X Bm D A (y 0) (y 1)) 64 _ ?_ _ ?_).trans
      (congrArg₂ (stepState S X Bm D A) (Fin.ext ((Nat.zero_add _).trans (Nat.one_mul _))) (Fin.ext ((Nat.zero_add _).trans (Nat.one_mul _))))
  rotate_left
  · exact View.cover_of_tiled_head _ _ _ (by rfl) _
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals (
    intro x
    have hx := (x 0).isLt
    change (x 0).val < 64 at hx
    refine Eq.trans ?_ (stepState_block _ _ _ _ _ _ ?_ x ?_).symm
    rotate_left
    · decide
    · decide
    unfold_payloads
    pointwise [e26, e28]
    try simp (disch := omega) only [dif_pos, dif_neg, half_lo, half_hi, Nat.sub_add_comm, ← Nat.add_assoc, Nat.reduceAdd, Nat.reduceSub]
    done)

end Cert.SsdDecIdeal.Alg

end
-- ==== Proof.DecFn.lean ====
module

public import proofs.«01_k».proof.Proof.SsdConv

@[expose] public section

set_option maxRecDepth 16384

noncomputable section

open Idealize.ShloMosaic Idealize.ShloMosaic.TcCoe Idealize.SL.Sem

namespace Cert.SsdMath

open Cert.SsdIdeal.Alg (win soft act4)

/-- A running sum over more rows than there are entries up to the row is the sum over the entries. -/
theorem win_short (d : ℕ → EReal) (l : ℕ) (hl : l < 8) : win d 128 l = win d 8 l := by
  unfold win
  rw [show (128 : ℕ) = 8 + 120 from rfl, Finset.sum_range_add]
  rw [Finset.sum_eq_zero fun i _ => if_neg (show ¬8 + i ≤ l by omega), add_zero]

/-- The running sum at the last row of a sequence that is zero from row 8 on is its sum at row 7. -/
theorem win_last (d : ℕ → EReal) (hd : ∀ u, 8 ≤ u → d u = 0) : win d 128 127 = win d 8 7 := by
  have full : ∀ n, win d (n + 1) n = ∑ i ∈ Finset.range (n + 1), d i := by
    intro n
    rw [← Finset.sum_range_reflect]
    unfold win
    refine Finset.sum_congr rfl fun i hi => ?_
    have := Finset.mem_range.mp hi
    rw [if_pos (by omega)]
    exact congrArg d (by omega)
  rw [full 127, full 7, show (127 + 1 : ℕ) = (7 + 1) + 120 from rfl, Finset.sum_range_add,
    Finset.sum_eq_zero (fun i _ => hd _ (by omega) : ∀ i ∈ Finset.range 120, d (7 + 1 + i) = 0), add_zero]

namespace Dec

variable (P : (⟨2, ![8256, 10752]⟩ : Shape).Idx → EReal) (C : (⟨3, ![8, 3, 6144]⟩ : Shape).Idx → EReal)
  (S : (⟨4, ![8, 64, 64, 128]⟩ : Shape).Idx → EReal) (w : (⟨2, ![4, 6144]⟩ : Shape).Idx → EReal)
  (cb : (⟨1, ![6144]⟩ : Shape).Idx → EReal) (dtb al : (⟨1, ![64]⟩ : Shape).Idx → EReal)

/-- One column of a sample sequence: five zeros, the three rows kept from before, its eight rows, zeros. -/
def ext (b : Fin 8) (j : Fin 6144) (u : ℕ) : EReal :=
  if u < 5 then 0 else if u < 8 then C (ix3 b ⟨(u - 5) % 3, Nat.mod_lt _ (by decide)⟩ j)
  else if u < 16 then P (ix2 ⟨(8192 + 8 * b.val + (u - 8)) % 8256, Nat.mod_lt _ (by decide)⟩ ⟨4096 + j.val, by omega⟩) else 0

/-- The activated convolution of a column at row `u`. -/
def act (b : Fin 8) (j : Fin 6144) (u : ℕ) : EReal :=
  act4 (cb (ix1 j)) (w (ix2 3 j)) (w (ix2 2 j)) (w (ix2 1 j)) (w (ix2 0 j)) (ext P C b j) u

/-- The step size of head `h` at row `u`, zero after the eight rows. -/
def stp (b : Fin 8) (h : Fin 64) (u : ℕ) : EReal :=
  if u < 8 then soft (P (ix2 ⟨(8192 + 8 * b.val + u) % 8256, Nat.mod_lt _ (by decide)⟩ ⟨10240 + h.val, by omega⟩) + dtb (ix1 h)) else 0

/-- The running sum of the decay exponents of head `h` up to row `l`. -/
def cum (b : Fin 8) (h : Fin 64) (l : ℕ) : EReal :=
  win (fun u => stp P dtb b h u * (0 - Ideal.exp (al (ix1 h)))) 8 l

/-- The state after a sample sequence. -/
def state (b : Fin 8) (i : Fin 4096) (k : Fin 128) : EReal :=
  S (ix4 b ⟨i.val / 64, by omega⟩ ⟨i.val % 64, by omega⟩ k) * Ideal.exp (cum P dtb al b ⟨i.val / 64, by omega⟩ 7)
    + ∑ l : Fin 8, (act P C w cb b ⟨i.val, by omega⟩ l.val * stp P dtb b ⟨i.val / 64, by omega⟩ l.val
        * Ideal.exp (cum P dtb al b ⟨i.val / 64, by omega⟩ 7 - cum P dtb al b ⟨i.val / 64, by omega⟩ l.val))
      * act P C w cb b ⟨4096 + (i.val / 512 * 128 + k.val), by omega⟩ l.val

end Dec

end Cert.SsdMath

end
-- ==== Proof.DecVal.lean ====
module

public import proofs.«01_k».proof.Proof.DecState
public import proofs.«01_k».proof.Proof.DecFn

@[expose] public section

set_option maxRecDepth 16384

noncomputable section

open Idealize.ShloMosaic Idealize.ShloMosaic.TcCoe Idealize.SL.Sem

namespace Cert.SsdDecIdeal.Alg

open Cert.SsdDecIdeal Cert.SsdDecIdeal.Gen Cert.SsdMath
open StableHlo
open Cert.SsdIdeal.Alg (stepState dbl win ge_sel dbl_win soft tap act4)

variable (m : (ℓ : Loc nD τ sig) → Buf (Elt Ideal) ℓ) (c : Dev nD)

/-- The kernel's doubling step is the doubling step written out. -/
theorem dbl_eq (k : ℕ) (hk : 0 < k ∧ k < 128) (V : FVec Ideal S128x128 .f32) :
    addf V (select (cmpi .sge (iota .tc S128x128 32 [0] iota_S128x128_d0_w32) (broadcast S128x128 (BitVec.ofNat 32 k)))
      (dynamicRotate 0 (BitVec.ofNat 32 k) none V rotates_S128x128_d0) (broadcast S128x128 (FloatOps.ofBits .f32 0x00000000#32))) = dbl k V := by
  funext j
  obtain ⟨l, h, rfl⟩ : ∃ (l h : Fin 128), j = ix2 l h := ⟨j 0, j 1, by idx_vars j⟩
  have hb : (BitVec.ofNat 32 k).toNat = k := by simp only [BitVec.toNat_ofNat]; omega
  pointwise [hb]
  rw [ge_sel k hk.2]
  unfold dbl
  congr 1
  by_cases hl : k ≤ l.val
  · have hl' : k ≤ ((ix2 l h : S128x128.Idx) 0).val := hl
    rw [if_pos hl, if_pos hl']
    refine congrArg V (congrArg (fun a => ix2 a h) (Fin.ext ?_))
    have := l.isLt
    show (l.val + 128 - k % 128) % 128 = l.val - k
    omega
  · have hl' : ¬k ≤ ((ix2 l h : S128x128.Idx) 0).val := hl
    rw [if_neg hl, if_neg hl']

/-- The running sums are seven doubling steps on the products of step size and decay rate. -/
theorem kA_dbl (t : Fin cfg0.N) : kA m c t = dbl 64 (dbl 32 (dbl 16 (dbl 8 (dbl 4 (dbl 2 (dbl 1
    (mulf (kD m c t) (broadcastTo S128x128 (subf (broadcast S1x128 (FloatOps.ofBits .f32 0#32))
      (exp (F := Ideal) (shapeCast S1x128 (iblk m c 10 t) shapeCasts_S1x128_S1x128))) broadcasts_S1x128_S128x128)))))))) := by
  rw [← dbl_eq 64 (by decide), ← dbl_eq 32 (by decide), ← dbl_eq 16 (by decide), ← dbl_eq 8 (by decide), ← dbl_eq 4 (by decide),
    ← dbl_eq 2 (by decide), ← dbl_eq 1 (by decide)]
  unfold kA kD k0_pay28 k0_pay27 k0_pay26
  rfl

/-- The running sums of one sequence: the sum of the decay exponents up to the row. -/
theorem kA_at (t : Fin cfg0.N) (l h : Fin 128) (d : ℕ → EReal)
    (hd : ∀ l : Fin 128, kD m c t (ix2 l h) * (0 - Ideal.exp (iblk m c 10 t (ix2 0 h))) = d l.val) :
    kA m c t (ix2 l h) = win d 128 l.val := by
  rw [kA_dbl]
  refine dbl_win d 64 128 rfl _ h (dbl_win d 32 64 rfl _ h (dbl_win d 16 32 rfl _ h (dbl_win d 8 16 rfl _ h (dbl_win d 4 8 rfl _ h
    (dbl_win d 2 4 rfl _ h (dbl_win d 1 2 rfl _ h fun l => ?_)))))) l
  pointwise []
  unfold win
  rw [Finset.sum_range_one, if_pos (Nat.zero_le _), Nat.sub_zero, hd]

/-- The mask of the first eight rows picks its first argument on them. -/
theorem lt_sel8 {α : Type} (l : Fin 128) (a b : α) :
    Scalar.select (IntOp.cmpi CmpIPredicate.slt (BitVec.ofNat 32 l.val) 8#32) a b = if l.val < 8 then a else b := by
  have hh : ∀ l : Fin 128, IntOp.cmpi CmpIPredicate.slt (BitVec.ofNat 32 l.val) 8#32 = if l.val < 8 then 1#1 else 0#1 := by decide +kernel
  rw [hh]
  split_ifs <;> rfl

/-- The step sizes of one sequence, zero from row 8 on. -/
theorem kD_at (t : Fin cfg0.N) (l h : Fin 128) (d : ℕ → EReal) (x : Fin 8 → EReal) (b : EReal) (hx : ∀ r : Fin 8, iblk m c 4 t (ix2 r h) = x r)
    (hb : iblk m c 9 t (ix2 0 h) = b) (hd : ∀ r : Fin 8, soft (x r + b) = d r.val) (hz : ∀ u, 8 ≤ u → d u = 0) :
    kD m c t (ix2 l h) = d l.val := by
  unfold kD
  unfold_payloads
  pointwise [hx, hb]
  rw [lt_sel8]
  by_cases hl : l.val < 8
  · rw [if_pos hl, ← hd ⟨l.val, hl⟩]
    simp only [dif_pos hl]
    rfl
  · rw [if_neg hl, hz _ (by omega)]

/-- The activated columns from 0 on of one sequence, from the rows they are taken over. -/
theorem kX_at (t : Fin cfg0.N) (l : Fin 128) (j : Fin 4096) (e : ℕ → EReal) (hz : ∀ u, 16 ≤ u → e u = 0)
    (hZ : ∀ r : Fin 8, k0_pay1 (F := Ideal) (iblk m c 5 t) (ix2 r ⟨j.val, by omega⟩) = e r.val)
    (hX : ∀ r : Fin 8, X0_1 m c t (ix2 r j) = e (8 + r.val)) :
    kX m c t (ix2 l j) = act4 (iblk m c 8 t (ix2 0 ⟨j.val, by omega⟩)) (iblk m c 7 t (ix2 3 ⟨j.val, by omega⟩)) (iblk m c 7 t (ix2 2 ⟨j.val, by omega⟩))
      (iblk m c 7 t (ix2 1 ⟨j.val, by omega⟩)) (iblk m c 7 t (ix2 0 ⟨j.val, by omega⟩)) e l.val := by
  have hp : ∀ n : ℕ, (dite (n < 8) (fun h => e (8 + n)) fun _ => (0 : EReal)) = e (8 + n) := by
    intro n
    split_ifs with h
    · rfl
    · exact (hz _ (by omega)).symm
  have hp' : ∀ n : ℕ, (if n < 8 then e (8 + n) else 0) = e (8 + n) := hp
  unfold kX
  generalize k0_pay1 (F := Ideal) (iblk m c 5 t) = Z at hZ ⊢
  unfold_payloads
  pointwise [hZ, hX]
  simp only [hp, hp']
  have htap := fun k hk => tap e 0 l k hk
  simp only [Nat.zero_add] at htap
  simp (disch := decide) only [htap, Nat.reduceSub]
  unfold act4
  rw [Nat.add_comm 8, Nat.add_comm 7, Nat.add_comm 6, Nat.add_comm 5]

/-- The activated columns from 4096 on of one sequence, from the rows they are taken over. -/
theorem kB_at (t : Fin cfg0.N) (l : Fin 128) (j : Fin 1024) (e : ℕ → EReal) (hz : ∀ u, 16 ≤ u → e u = 0)
    (hZ : ∀ r : Fin 8, k0_pay1 (F := Ideal) (iblk m c 5 t) (ix2 r ⟨4096 + j.val, by omega⟩) = e r.val)
    (hX : ∀ r : Fin 8, X0_2 m c t (ix2 r j) = e (8 + r.val)) :
    kB m c t (ix2 l j) = act4 (iblk m c 8 t (ix2 0 ⟨4096 + j.val, by omega⟩)) (iblk m c 7 t (ix2 3 ⟨4096 + j.val, by omega⟩)) (iblk m c 7 t (ix2 2 ⟨4096 + j.val, by omega⟩))
      (iblk m c 7 t (ix2 1 ⟨4096 + j.val, by omega⟩)) (iblk m c 7 t (ix2 0 ⟨4096 + j.val, by omega⟩)) e l.val := by
  have hp : ∀ n : ℕ, (dite (n < 8) (fun h => e (8 + n)) fun _ => (0 : EReal)) = e (8 + n) := by
    intro n
    split_ifs with h
    · rfl
    · exact (hz _ (by omega)).symm
  have hp' : ∀ n : ℕ, (if n < 8 then e (8 + n) else 0) = e (8 + n) := hp
  unfold kB
  generalize k0_pay1 (F := Ideal) (iblk m c 5 t) = Z at hZ ⊢
  unfold_payloads
  pointwise [hZ, hX]
  simp only [hp, hp']
  have htap := fun k hk => tap e 0 l k hk
  simp only [Nat.zero_add] at htap
  simp (disch := decide) only [htap, Nat.reduceSub]
  unfold act4
  rw [Nat.add_comm 8, Nat.add_comm 7, Nat.add_comm 6, Nat.add_comm 5]

/-- The convolution's kept rows at launch. -/
abbrev aC : Vec Ideal S8x3x6144 .f32 := m ((c : Thread nD τ).loc main_arg1)
/-- The state at launch. -/
abbrev aS : Vec Ideal S8x64x64x128 .f32 := m ((c : Thread nD τ).loc main_arg2)
/-- The convolution's weight at launch. -/
abbrev aW : Vec Ideal S4x6144 .f32 := m ((c : Thread nD τ).loc main_arg3)
/-- The convolution's bias at launch. -/
abbrev aCb : Vec Ideal S6144 .f32 := m ((c : Thread nD τ).loc main_arg4)
/-- The step sizes' bias at launch. -/
abbrev aDt : Vec Ideal S64 .f32 := m ((c : Thread nD τ).loc main_arg5)
/-- The logarithms of the decay rates at launch. -/
abbrev aAl : Vec Ideal S64 .f32 := m ((c : Thread nD τ).loc main_arg6)

/-- The block indices of the windows the state is computed from, and of the state's own window, at every grid point. -/
theorem idxRest : ∀ t : Fin cfg0.N, win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_4.index t (0 : Fin 2) = 1024 + t.val ∧ win0_4.index t (1 : Fin 2) = 80 :=
  (by decide +kernel : ∀ t : Fin grid0.N, _)

/-- The state's window at every grid point, and that every point writes it back. -/
theorem idxState : ∀ t : Fin cfg0.N, win0_15.index t (0 : Fin 3) = t.val ∧ win0_15.index t (1 : Fin 3) = 0 ∧ win0_15.index t (2 : Fin 3) = 0
    ∧ win0_15.flush t = true :=
  (by decide +kernel : ∀ t : Fin grid0.N, _)

/-- The convolution's bias as it enters the call. -/
theorem entryCb : (V m c main_v2 : Vec Ideal S1x6144 .f32) = shapeCast S1x6144 (aCb m c) shapeCasts_S6144_S1x6144 := by
  show after [hostOps0, hostOps0_1, hostOps0_2, hostOps0_3, hostOps0_4, hostOps0_5, hostOps0_6].flatten (fun b => m (c, b)) (Proc.tc.devRef main_v2) = _
  simp only [List.flatten_cons, List.flatten_nil, List.append_nil, List.cons_append, List.nil_append, hostOps0, hostOps0_1, hostOps0_2, hostOps0_3, hostOps0_4, hostOps0_5, hostOps0_6, TRef.binary, TRef.nullary, TRef.unary, TRef.toBuf, TRef.ofBuf, cast_eq]
  after_results_simp
  rfl

/-- The step sizes' bias as it enters the call, with sixty-four more lanes. -/
theorem entryDt : (V m c main_v4 : Vec Ideal S1x128 .f32) = shapeCast S1x128 (pad S128 ![0] ![64] ![0] (aDt m c) (sitofp (F := Ideal) .f32 (constantI S_ 32 0#32)) pads_S64_S128_0640 h_S_) shapeCasts_S128_S1x128 := by
  show after [hostOps0, hostOps0_1, hostOps0_2, hostOps0_3, hostOps0_4, hostOps0_5, hostOps0_6].flatten (fun b => m (c, b)) (Proc.tc.devRef main_v4) = _
  simp only [List.flatten_cons, List.flatten_nil, List.append_nil, List.cons_append, List.nil_append, hostOps0, hostOps0_1, hostOps0_2, hostOps0_3, hostOps0_4, hostOps0_5, hostOps0_6, TRef.binary, TRef.nullary, TRef.unary, TRef.toBuf, TRef.ofBuf, cast_eq]
  after_results_simp
  rfl

/-- The logarithms of the decay rates as they enter the call, with sixty-four more lanes. -/
theorem entryAl : (V m c main_v6 : Vec Ideal S1x128 .f32) = shapeCast S1x128 (pad S128 ![0] ![64] ![0] (aAl m c) (sitofp (F := Ideal) .f32 (constantI S_ 32 0#32)) pads_S64_S128_0640 h_S_) shapeCasts_S128_S1x128 := by
  show after [hostOps0, hostOps0_1, hostOps0_2, hostOps0_3, hostOps0_4, hostOps0_5, hostOps0_6].flatten (fun b => m (c, b)) (Proc.tc.devRef main_v6) = _
  simp only [List.flatten_cons, List.flatten_nil, List.append_nil, List.cons_append, List.nil_append, hostOps0, hostOps0_1, hostOps0_2, hostOps0_3, hostOps0_4, hostOps0_5, hostOps0_6, TRef.binary, TRef.nullary, TRef.unary, TRef.toBuf, TRef.ofBuf, cast_eq]
  after_results_simp
  rfl

/-- The kept rows as they enter the call, under five rows of zeros. -/
theorem entryPrev : (V m c main_v0 : Vec Ideal S8x8x6144 .f32) = pad S8x8x6144 ![0, 5, 0] ![0, 0, 0] ![0, 0, 0] (aC m c) (sitofp (F := Ideal) .f32 (constantI S_ 32 0#32)) pads_S8x3x6144_S8x8x6144_000_500_000 h_S_ := by
  show after [hostOps0, hostOps0_1, hostOps0_2, hostOps0_3, hostOps0_4, hostOps0_5, hostOps0_6].flatten (fun b => m (c, b)) (Proc.tc.devRef main_v0) = _
  simp only [List.flatten_cons, List.flatten_nil, List.append_nil, List.cons_append, List.nil_append, hostOps0, hostOps0_1, hostOps0_2, hostOps0_3, hostOps0_4, hostOps0_5, hostOps0_6, TRef.binary, TRef.nullary, TRef.unary, TRef.toBuf, TRef.ofBuf, cast_eq]
  after_results_simp
  try rfl

/-- The state as it enters the call. -/
theorem entryS0 : (V m c main_v1 : Vec Ideal S8x4096x128 .f32) = shapeCast S8x4096x128 (aS m c) shapeCasts_S8x64x64x128_S8x4096x128 := by
  show after [hostOps0, hostOps0_1, hostOps0_2, hostOps0_3, hostOps0_4, hostOps0_5, hostOps0_6].flatten (fun b => m (c, b)) (Proc.tc.devRef main_v1) = _
  simp only [List.flatten_cons, List.flatten_nil, List.append_nil, List.cons_append, List.nil_append, hostOps0, hostOps0_1, hostOps0_2, hostOps0_3, hostOps0_4, hostOps0_5, hostOps0_6, TRef.binary, TRef.nullary, TRef.unary, TRef.toBuf, TRef.ofBuf, cast_eq]
  after_results_simp
  try rfl

/-- The taps read at a point. -/
theorem blkW (t : Fin cfg0.N) (k : Fin 4) (j : Fin 6144) : iblk m c 7 t (ix2 k j) = aW m c (ix2 k j) := by
  obtain ⟨-, -, -, -, -, -, e0, e1, -⟩ := idxRest t
  blk_ext! [iblk, V, e0, e1]

/-- The convolution's bias read at a point. -/
theorem blkCb (t : Fin cfg0.N) (j : Fin 6144) : iblk m c 8 t (ix2 0 j) = aCb m c (ix1 j) := by
  obtain ⟨-, -, -, -, -, -, -, -, e0, e1, -⟩ := idxRest t
  blk_simp [iblk]
  rw [entryCb]
  pointwise
  exact congrArg (fun a => aCb m c (ix1 a)) (Fin.ext (by blk_simp [e0, e1]))

/-- The step sizes' bias read at one of the sixty-four heads. -/
theorem blkDt (t : Fin cfg0.N) (h : Fin 128) (hh : h.val < 64) : iblk m c 9 t (ix2 0 h) = aDt m c (ix1 ⟨h.val, hh⟩) := by
  obtain ⟨-, -, -, -, -, -, -, -, -, -, e0, e1, -⟩ := idxRest t
  have he : (win0_9.blk t).view.emb (ix2 0 h) = ix2 0 h := by
    refine funext fun a => Fin.ext ?_
    match a with
    | ⟨0, _⟩ => blk_simp [e0, e1]
    | ⟨1, _⟩ => blk_simp [e0, e1]
  blk_simp [iblk]
  rw [entryDt, he]
  pointwise [hh]

/-- The logarithms of the decay rates read at one of the sixty-four heads. -/
theorem blkAl (t : Fin cfg0.N) (h : Fin 128) (hh : h.val < 64) : iblk m c 10 t (ix2 0 h) = aAl m c (ix1 ⟨h.val, hh⟩) := by
  obtain ⟨-, -, -, -, -, -, -, -, -, -, -, -, e0, e1, -⟩ := idxRest t
  have he : (win0_10.blk t).view.emb (ix2 0 h) = ix2 0 h := by
    refine funext fun a => Fin.ext ?_
    match a with
    | ⟨0, _⟩ => blk_simp [e0, e1]
    | ⟨1, _⟩ => blk_simp [e0, e1]
  blk_simp [iblk]
  rw [entryAl, he]
  pointwise [hh]

/-- The step sizes' rows read at a point. -/
theorem blkD (t : Fin cfg0.N) (l : Fin 8) (j : Fin 128) : iblk m c 4 t (ix2 l j) = aP m c (ix2 ⟨8192 + 8 * t.val + l.val, by have := lt_of_lt_of_eq t.isLt N_0; omega⟩ ⟨10240 + j.val, by omega⟩) := by
  have ht : t.val < 8 := lt_of_lt_of_eq t.isLt N_0
  obtain ⟨-, -, -, -, -, -, -, -, -, -, -, -, -, -, e0, e1⟩ := idxRest t
  blk_ext! [iblk, V, e0, e1]

/-- The eight rows before a sequence: five of zeros and the three kept ones. -/
theorem blkPrev (t : Fin cfg0.N) (r : Fin 8) (j : Fin 6144) : k0_pay1 (F := Ideal) (iblk m c 5 t) (ix2 r j) =
    if h : r.val < 5 then 0 else aC m c (ix3 ⟨t.val, lt_of_lt_of_eq t.isLt N_0⟩ ⟨r.val - 5, by omega⟩ j) := by
  have ht : t.val < 8 := lt_of_lt_of_eq t.isLt N_0
  obtain ⟨e0, e1, e2, -⟩ := idxRest t
  have he : (win0_5.blk t).view.emb (ix3 0 r j) = ix3 ⟨t.val, ht⟩ r j := by
    refine funext fun a => Fin.ext ?_
    match a with
    | ⟨0, _⟩ => blk_simp [e0, e1, e2]; rfl
    | ⟨1, _⟩ => blk_simp [e0, e1, e2]
    | ⟨2, _⟩ => blk_simp [e0, e1, e2]
  unfold_payloads
  pointwise
  blk_simp [iblk]
  rw [entryPrev, he]
  pointwise []
  have hr := r.isLt
  by_cases h5 : r.val < 5
  · rw [dif_pos h5, dif_neg (by omega)]
    simp [FloatOps.sitofp]
  · rw [dif_neg h5, dif_pos ⟨by omega, by omega⟩]

/-- The state before a sequence. -/
theorem blkState (t : Fin cfg0.N) (i : Fin 4096) (k : Fin 128) : k0_pay2 (F := Ideal) (iblk m c 6 t) (ix2 i k) =
    aS m c (ix4 ⟨t.val, lt_of_lt_of_eq t.isLt N_0⟩ ⟨i.val / 64, by omega⟩ ⟨i.val % 64, by omega⟩ k) := by
  have ht : t.val < 8 := lt_of_lt_of_eq t.isLt N_0
  obtain ⟨-, -, -, e0, e1, e2, -⟩ := idxRest t
  have he : (win0_6.blk t).view.emb (ix3 0 i k) = ix3 ⟨t.val, ht⟩ i k := by
    refine funext fun a => Fin.ext ?_
    match a with
    | ⟨0, _⟩ => blk_simp [e0, e1, e2]; rfl
    | ⟨1, _⟩ => blk_simp [e0, e1, e2]
    | ⟨2, _⟩ => blk_simp [e0, e1, e2]
  unfold_payloads
  pointwise
  blk_simp [iblk]
  rw [entryS0, he]
  pointwise []

/-- The step sizes of a head. -/
theorem kD_head (t : Fin cfg0.N) (l : Fin 128) (h : Fin 64) :
    kD m c t (ix2 l ⟨h.val, by omega⟩) = Dec.stp (aP m c) (aDt m c) ⟨t.val, lt_of_lt_of_eq t.isLt N_0⟩ h l.val := by
  have ht : t.val < 8 := lt_of_lt_of_eq t.isLt N_0
  refine kD_at m c t l _ (fun u => Dec.stp (aP m c) (aDt m c) ⟨t.val, ht⟩ h u) _ _ (fun r => blkD m c t r ⟨h.val, by omega⟩) (blkDt m c t ⟨h.val, by omega⟩ h.isLt) (fun r => ?_) fun u hu => ?_
  · show _ = Dec.stp _ _ _ _ _
    unfold Dec.stp
    rw [if_pos r.isLt]
    refine congrArg (fun R => soft (aP m c (ix2 R _) + aDt m c (ix1 h))) (Fin.ext ?_)
    show 8192 + 8 * t.val + r.val = (8192 + 8 * t.val + r.val) % 8256
    omega
  · show Dec.stp _ _ _ _ _ = 0
    unfold Dec.stp
    exact if_neg (by omega)

/-- The rows before a sequence are the start of its extended column. -/
theorem prev_ext (t : Fin cfg0.N) (r : Fin 8) (j : Fin 6144) : k0_pay1 (F := Ideal) (iblk m c 5 t) (ix2 r j)
    = Dec.ext (aP m c) (aC m c) ⟨t.val, lt_of_lt_of_eq t.isLt N_0⟩ j r.val := by
  rw [blkPrev]
  unfold Dec.ext
  by_cases h5 : r.val < 5
  · rw [dif_pos h5, if_pos h5]
  · rw [dif_neg h5, if_neg h5, if_pos r.isLt]
    refine congrArg (fun q => aC m c (ix3 _ q j)) (Fin.ext ?_)
    show r.val - 5 = (r.val - 5) % 3
    omega

/-- The rows of a sequence are the rest of its extended column. -/
theorem rows_ext (t : Fin cfg0.N) (r : Fin 8) (j : Fin 6144) (R : Fin 8256) (J : Fin 10752) (hR : R.val = 8192 + 8 * t.val + r.val) (hJ : J.val = 4096 + j.val) :
    aP m c (ix2 R J) = Dec.ext (aP m c) (aC m c) ⟨t.val, lt_of_lt_of_eq t.isLt N_0⟩ j (8 + r.val) := by
  have ht : t.val < 8 := lt_of_lt_of_eq t.isLt N_0
  unfold Dec.ext
  rw [if_neg (by omega), if_neg (by omega), if_pos (by omega)]
  refine congrArg (aP m c) (congrArg₂ ix2 (Fin.ext ?_) (Fin.ext hJ))
  show R.val = (8192 + 8 * t.val + (8 + r.val - 8)) % 8256
  omega

/-- An extended column ends with zeros. -/
theorem ext_end (t : Fin cfg0.N) (j : Fin 6144) (u : ℕ) (hu : 16 ≤ u) : Dec.ext (aP m c) (aC m c) ⟨t.val, lt_of_lt_of_eq t.isLt N_0⟩ j u = 0 := by
  unfold Dec.ext
  rw [if_neg (by omega), if_neg (by omega), if_neg (by omega)]

/-- The activated inner columns of a sequence. -/
theorem kX_head (t : Fin cfg0.N) (l : Fin 128) (j : Fin 4096) :
    kX m c t (ix2 l j) = Dec.act (aP m c) (aC m c) (aW m c) (aCb m c) ⟨t.val, lt_of_lt_of_eq t.isLt N_0⟩ ⟨j.val, by omega⟩ l.val := by
  rw [kX_at m c t l j _ (ext_end m c t ⟨j.val, by omega⟩) (fun r => prev_ext m c t r _)
    (fun r => (blkX m c t r j).trans (rows_ext m c t r ⟨j.val, by omega⟩ _ _ rfl rfl))]
  unfold Dec.act
  simp only [blkW, blkCb]

/-- The activated input columns of a sequence. -/
theorem kB_head (t : Fin cfg0.N) (l : Fin 128) (j : Fin 1024) :
    kB m c t (ix2 l j) = Dec.act (aP m c) (aC m c) (aW m c) (aCb m c) ⟨t.val, lt_of_lt_of_eq t.isLt N_0⟩ ⟨4096 + j.val, by omega⟩ l.val := by
  rw [kB_at m c t l j _ (ext_end m c t ⟨4096 + j.val, by omega⟩) (fun r => prev_ext m c t r _)
    (fun r => (blkB m c t r j).trans (rows_ext m c t r ⟨4096 + j.val, by omega⟩ _ _ rfl (by show 8192 + j.val = 4096 + (4096 + j.val); omega)))]
  unfold Dec.act
  simp only [blkW, blkCb]

/-- The running sums of a head. -/
theorem kA_head (t : Fin cfg0.N) (l : Fin 128) (h : Fin 64) :
    kA m c t (ix2 l ⟨h.val, by omega⟩) = win (fun u => Dec.stp (aP m c) (aDt m c) ⟨t.val, lt_of_lt_of_eq t.isLt N_0⟩ h u * (0 - Ideal.exp (aAl m c (ix1 h)))) 128 l.val := by
  refine kA_at m c t l _ _ fun l => ?_
  rw [kD_head, blkAl m c t ⟨h.val, by omega⟩ h.isLt]

/-- The state the kernel keeps for the next call of one sequence. -/
theorem stateB (t : Fin cfg0.N) (i : Fin 4096) (k : Fin 128) :
    (outsAt0 m c t).2.2 (ix3 0 i k)
      = Dec.state (aP m c) (aC m c) (aS m c) (aW m c) (aCb m c) (aDt m c) (aAl m c) ⟨t.val, lt_of_lt_of_eq t.isLt N_0⟩ i k := by
  have ht : t.val < 8 := lt_of_lt_of_eq t.isLt N_0
  refine (stateA m c t i k).trans ?_
  unfold stepState Dec.state
  have hD := kD_head m c t
  have hA := kA_head m c t
  have hX := kX_head m c t
  have hB := kB_head m c t
  generalize kD m c t = D at hD ⊢
  generalize kA m c t = A at hA ⊢
  generalize kX m c t = X at hX ⊢
  generalize kB m c t = B at hB ⊢
  rw [blkState]
  let h : Fin 64 := ⟨i.val / 64, by omega⟩
  have hA' : ∀ l : Fin 128, A (ix2 l ⟨i.val / 64, by omega⟩) = _ := fun l => hA l h
  have hD' : ∀ l : Fin 128, D (ix2 l ⟨i.val / 64, by omega⟩) = _ := fun l => hD l h
  have hB' : ∀ l : Fin 128, B (ix2 l ⟨i.val / 512 * 128 + k.val, by omega⟩) = _ := fun l => hB l ⟨i.val / 512 * 128 + k.val, by omega⟩
  have h7 : win (fun u => Dec.stp (aP m c) (aDt m c) ⟨t.val, ht⟩ h u * (0 - Ideal.exp (aAl m c (ix1 h)))) 128 127
      = Dec.cum (aP m c) (aDt m c) (aAl m c) ⟨t.val, ht⟩ h 7 :=
    win_last _ fun u hu => by
      unfold Dec.stp
      rw [if_neg (by omega), zero_mul]
  have hA7 : A (ix2 127 ⟨i.val / 64, by omega⟩) = Dec.cum (aP m c) (aDt m c) (aAl m c) ⟨t.val, ht⟩ h 7 := (hA' 127).trans h7
  simp only [hA7, hA', hD', hB', hX]
  refine congrArg₂ (· + ·) rfl ?_
  let g : ℕ → EReal := fun u => (Dec.act (aP m c) (aC m c) (aW m c) (aCb m c) ⟨t.val, ht⟩ ⟨i.val, by omega⟩ u * Dec.stp (aP m c) (aDt m c) ⟨t.val, ht⟩ h u
      * Ideal.exp (Dec.cum (aP m c) (aDt m c) (aAl m c) ⟨t.val, ht⟩ h 7
        - win (fun u => Dec.stp (aP m c) (aDt m c) ⟨t.val, ht⟩ h u * (0 - Ideal.exp (aAl m c (ix1 h)))) 128 u))
    * Dec.act (aP m c) (aC m c) (aW m c) (aCb m c) ⟨t.val, ht⟩ ⟨4096 + (i.val / 512 * 128 + k.val), by omega⟩ u
  refine (Fin.sum_univ_eq_sum_range g 128).trans ?_
  have hs : ∑ u ∈ Finset.range (8 + 120), g u = ∑ u ∈ Finset.range 8, g u := by
    rw [Finset.sum_range_add, Finset.sum_eq_zero (s := Finset.range 120), add_zero]
    intro u _
    unfold g Dec.stp
    rw [if_neg (by omega), mul_zero, zero_mul, zero_mul]
  refine hs.trans ((Fin.sum_univ_eq_sum_range g 8).symm.trans (Finset.sum_congr rfl fun l _ => ?_))
  show g l.val = _
  unfold g Dec.cum
  rw [win_short _ _ l.isLt]

/-- The state the kernel keeps for the next call. -/
theorem resultS (b : Fin 8) (i : Fin 4096) (k : Fin 128) : ((dats m 0 c).arrAt 15 cfg0.N : Vec Ideal S8x4096x128 .f32) (ix3 b i k)
    = Dec.state (aP m c) (aC m c) (aS m c) (aW m c) (aCb m c) (aDt m c) (aAl m c) b i k := by
  have hN : b.val < cfg0.N := lt_of_lt_of_eq b.isLt N_0.symm
  obtain ⟨i0, i1, i2, hf⟩ := idxState ⟨b.val, hN⟩
  have e := congrFun ((Value.blocks15 m c ⟨b.val, hN⟩ hf).trans (Value.flushed15 m c ⟨b.val, hN⟩)) (ix3 (0 : Fin 1) i k)
  refine Eq.trans (congrArg ((dats m 0 c).arrAt 15 cfg0.N) ?_) (e.trans (stateB m c ⟨b.val, hN⟩ i k))
  funext a
  refine Fin.ext ?_
  match a with
  | ⟨0, _⟩ => show b.val = win0_15.index ⟨b.val, hN⟩ (0 : Fin 3) * 1 + 1 * 0; rw [i0]; simp
  | ⟨1, _⟩ => show i.val = win0_15.index ⟨b.val, hN⟩ (1 : Fin 3) * 4096 + 1 * i.val; rw [i1]; omega
  | ⟨2, _⟩ => show k.val = win0_15.index ⟨b.val, hN⟩ (2 : Fin 3) * 128 + 1 * k.val; rw [i2]; omega

end Cert.SsdDecIdeal.Alg

end
-- ==== Proof.DecRefS.lean ====
module

public import proofs.«01_k».proof.Proof.Gen.SsdDecRefIdeal.Run
public import Idealize.ShloMosaic.Lib.Pointwise
public import proofs.«01_k».proof.Proof.DecFn

@[expose] public section

set_option maxRecDepth 16384

noncomputable section

open Idealize.ShloMosaic Idealize.ShloMosaic.TcCoe Idealize.SL.Sem

namespace Cert.SsdDecRefIdeal.Alg

open Cert.SsdDecRefIdeal Cert.SsdDecRefIdeal.Gen Cert.SsdMath
open Cert.SsdIdeal.Alg (win soft act4)

variable (m : (ℓ : Loc nD τ sig) → Buf (Elt Ideal) ℓ) (c : Dev nD)

/-- The projected array at launch. -/
abbrev rP : S8256x10752.Idx → EReal := m ((c.tc : Thread nD τ).loc main_arg0)
/-- The convolution's kept rows at launch. -/
abbrev rC : S8x3x6144.Idx → EReal := m ((c.tc : Thread nD τ).loc main_arg1)
/-- The state at launch. -/
abbrev rS : S8x64x64x128.Idx → EReal := m ((c.tc : Thread nD τ).loc main_arg2)
/-- The convolution's weight at launch. -/
abbrev rW : S4x6144.Idx → EReal := m ((c.tc : Thread nD τ).loc main_arg3)
/-- The convolution's bias at launch. -/
abbrev rCb : S6144.Idx → EReal := m ((c.tc : Thread nD τ).loc main_arg4)
/-- The step sizes' bias at launch. -/
abbrev rDt : S64.Idx → EReal := m ((c.tc : Thread nD τ).loc main_arg5)
/-- The logarithms of the decay rates at launch. -/
abbrev rAl : S64.Idx → EReal := m ((c.tc : Thread nD τ).loc main_arg6)

/-- A left fold of additions is the starting value plus the sum. -/
theorem fold_sum {α : Type} (g : α → EReal) : ∀ (L : List α) (v : EReal), L.foldl (fun r n => r + g n) v = v + (L.map g).sum
  | [], v => by simp
  | a :: L, v => by
    rw [List.foldl_cons, fold_sum g L, List.map_cons, List.sum_cons, add_assoc]

/-- A running sum along the second axis, as a window of the whole extent padded low by one less. -/
theorem cums8 (x : S8x8x8x8.Idx → EReal) (init : S_.Idx → EReal) (hi : ∀ y, init y = 0)
    (h : S8x8x8x8.ReduceWindows (![1, 8, 1, 1] : Fin 4 → ℕ) ![1, 1, 1, 1] ![0, 7, 0, 0] ![0, 0, 0, 0] S8x8x8x8) (hu : 0 < S_.numel)
    (b : Fin 8) (l : Fin 8) (g r : Fin 8) (d : ℕ → EReal) (hd : ∀ i : Fin 8, x (ix4 b i g r) = d i.val) :
    Host.reduceWindow (· + ·) ![1, 8, 1, 1] ![1, 1, 1, 1] ![0, 7, 0, 0] ![0, 0, 0, 0] x init h hu (ix4 b l g r) = win d 8 l.val := by
  unfold Host.reduceWindow
  dsimp only
  rw [fold_sum, hi, zero_add, ← Fin.sum_univ_def]
  let W : Shape := ⟨4, ![1, 8, 1, 1]⟩
  let G : W.Idx → EReal := fun w => if hin : ∀ a, (![0, 7, 0, 0] : Fin 4 → ℕ) a ≤ ((ix4 b l g r : S8x8x8x8.Idx) (a.cast h.1.symm)).val * (![1, 1, 1, 1] : Fin 4 → ℕ) a + (w a).val
      ∧ ((ix4 b l g r : S8x8x8x8.Idx) (a.cast h.1.symm)).val * (![1, 1, 1, 1] : Fin 4 → ℕ) a + (w a).val - (![0, 7, 0, 0] : Fin 4 → ℕ) a < S8x8x8x8.size a
    then x (fun a => ⟨((ix4 b l g r : S8x8x8x8.Idx) (a.cast h.1.symm)).val * (![1, 1, 1, 1] : Fin 4 → ℕ) a + (w a).val - (![0, 7, 0, 0] : Fin 4 → ℕ) a, (hin a).2⟩) else 0
  refine Eq.trans (b := ∑ n, G (W.rowMajor.symm n)) (Finset.sum_congr rfl fun n _ => ?_) ((W.rowMajor.symm.sum_comp G).trans ?_)
  · show _ = dite _ _ _
    split_ifs <;> rfl
  have hb : Function.Bijective (fun i : Fin 8 => (ix4 0 i 0 0 : W.Idx)) := by
    refine ⟨fun i j e => congrFun e 1, fun y => ⟨y 1, funext fun a => ?_⟩⟩
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  rw [← hb.sum_comp G]
  unfold win
  rw [← Finset.sum_range_reflect, ← Fin.sum_univ_eq_sum_range (fun i => if 8 - 1 - i ≤ l.val then d (l.val - (8 - 1 - i)) else 0)]
  refine Finset.sum_congr rfl fun i _ => ?_
  have hl := l.isLt
  have hii := i.isLt
  have hbb := b.isLt
  have hgg := g.isLt
  have hrr := r.isLt
  by_cases hc : 7 - i.val ≤ l.val
  · have hin : ∀ a, (![0, 7, 0, 0] : Fin 4 → ℕ) a ≤ ((ix4 b l g r : S8x8x8x8.Idx) (a.cast h.1.symm)).val * (![1, 1, 1, 1] : Fin 4 → ℕ) a + ((ix4 0 i 0 0 : W.Idx) a).val
        ∧ ((ix4 b l g r : S8x8x8x8.Idx) (a.cast h.1.symm)).val * (![1, 1, 1, 1] : Fin 4 → ℕ) a + ((ix4 0 i 0 0 : W.Idx) a).val - (![0, 7, 0, 0] : Fin 4 → ℕ) a < S8x8x8x8.size a := by
      intro a
      match a with
      | ⟨0, _⟩ => show 0 ≤ b.val * 1 + 0 ∧ b.val * 1 + 0 - 0 < 8; omega
      | ⟨1, _⟩ => show 7 ≤ l.val * 1 + i.val ∧ l.val * 1 + i.val - 7 < 8; omega
      | ⟨2, _⟩ => show 0 ≤ g.val * 1 + 0 ∧ g.val * 1 + 0 - 0 < 8; omega
      | ⟨3, _⟩ => show 0 ≤ r.val * 1 + 0 ∧ r.val * 1 + 0 - 0 < 8; omega
    show G _ = _
    rw [show G (ix4 0 i 0 0) = _ from dif_pos hin, if_pos (show 8 - 1 - i.val ≤ l.val by omega)]
    refine Eq.trans (congrArg x ?_) ((hd ⟨l.val + i.val - 7, by omega⟩).trans (congrArg d (show l.val + i.val - 7 = _ by omega)))
    funext a
    apply Fin.ext
    match a with
    | ⟨0, _⟩ => show b.val * 1 + 0 - 0 = b.val; omega
    | ⟨1, _⟩ => show l.val * 1 + i.val - 7 = l.val + i.val - 7; omega
    | ⟨2, _⟩ => show g.val * 1 + 0 - 0 = g.val; omega
    | ⟨3, _⟩ => show r.val * 1 + 0 - 0 = r.val; omega
  · show G _ = _
    rw [show G (ix4 0 i 0 0) = _ from dif_neg fun hin => hc (by
      have h1 := (hin 1).1
      change 7 ≤ l.val * 1 + i.val at h1
      omega), if_neg (show ¬8 - 1 - i.val ≤ l.val by omega)]

/-- What the reference leaves as the state. -/
abbrev rOut : S8x4096x128.Idx → EReal := Value.res_main_v74 m c

/-- A step size from the entry it is taken of. -/
theorem stp_of (P : S8256x10752.Idx → EReal) (dtb : S64.Idx → EReal) (b : Fin 8) (h : Fin 64) (u : ℕ) (hu : u < 8) (R : Fin 8256) (J : Fin 10752)
    (h' : Fin 64) (e : R.val = 8192 + 8 * b.val + u) (eJ : J.val = 10240 + h.val) (eh : h' = h) :
    max (P (ix2 R J) + dtb (ix1 h')) 0 + Ideal.log1p (Ideal.exp (-FloatOps.absf (F := Ideal) (φ := .f32) (P (ix2 R J) + dtb (ix1 h')))) = Dec.stp P dtb b h u := by
  rw [show J = ⟨10240 + h.val, by omega⟩ from Fin.ext eJ,
    show R = ⟨(8192 + 8 * b.val + u) % 8256, Nat.mod_lt _ (by decide)⟩ from Fin.ext (by show R.val = (8192 + 8 * b.val + u) % 8256; omega)]
  subst eh
  unfold Dec.stp soft
  rw [if_pos hu, zero_sub]

/-- A row of the joined columns, the kept rows first, is a row of the extended column. -/
theorem ext_of (P : S8256x10752.Idx → EReal) (C : S8x3x6144.Idx → EReal) (b : Fin 8) (j : Fin 6144) (n u : ℕ) (hu : u = n + 5) (hn : n < 11)
    (q : n < 3 → Fin 3) (hq : ∀ h, (q h).val = n) (R : ¬n < 3 → Fin 8256) (J : ¬n < 3 → Fin 10752)
    (hR : ∀ h, (R h).val = 8192 + 8 * b.val + (n - 3)) (hJ : ∀ h, (J h).val = 4096 + j.val) :
    (if h : n < 3 then C (ix3 b (q h) j) else P (ix2 (R h) (J h))) = Dec.ext P C b j u := by
  subst hu
  have hb := b.isLt
  unfold Dec.ext
  rw [if_neg (by omega)]
  by_cases h : n < 3
  · rw [dif_pos h, if_pos (by omega)]
    refine congrArg (fun x => C (ix3 b x j)) (Fin.ext ?_)
    show (q h).val = (n + 5 - 5) % 3
    rw [hq]
    omega
  · rw [dif_neg h, if_neg (by omega), if_pos (by omega)]
    refine congrArg P (congrArg₂ ix2 (Fin.ext ?_) (Fin.ext (hJ h)))
    show (R h).val = (8192 + 8 * b.val + (n + 5 - 8)) % 8256
    rw [hR]
    omega

/-- The activated convolution from its four rows, in the reference's order of the sum. -/
theorem act_of (b w0 w1 w2 w3 a0 a1 a2 a3 : EReal) (e : ℕ → EReal) (u : ℕ) (h0 : a0 = e (u + 5)) (h1 : a1 = e (u + 6)) (h2 : a2 = e (u + 7)) (h3 : a3 = e (u + 8)) :
    (b + (a0 * w0 + a1 * w1 + a2 * w2 + a3 * w3)) * Ideal.div 1 (1 + Ideal.exp (-(b + (a0 * w0 + a1 * w1 + a2 * w2 + a3 * w3)))) = act4 b w3 w2 w1 w0 e u := by
  have hs : b + (a0 * w0 + a1 * w1 + a2 * w2 + a3 * w3) = b + w3 * e (u + 8) + w2 * e (u + 7) + w1 * e (u + 6) + w0 * e (u + 5) := by
    rw [h0, h1, h2, h3, mul_comm (e (u + 5)), mul_comm (e (u + 6)), mul_comm (e (u + 7)), mul_comm (e (u + 8))]
    abel
  rw [hs]
  rfl

/-- The last row of the joined columns under a tap is a projected row. -/
theorem ext_top (P : S8256x10752.Idx → EReal) (C : S8x3x6144.Idx → EReal) (b : Fin 8) (j : Fin 6144) (l : Fin 8)
    (R : Fin 8256) (J : Fin 10752) (hR : R.val = 8192 + 8 * b.val + l.val) (hJ : J.val = 4096 + j.val) :
    P (ix2 R J) = Dec.ext P C b j (l.val + 8) := by
  have hb := b.isLt
  have hl := l.isLt
  unfold Dec.ext
  rw [if_neg (by omega), if_neg (by omega), if_pos (by omega)]
  refine congrArg P (congrArg₂ ix2 (Fin.ext ?_) (Fin.ext hJ))
  show R.val = (8192 + 8 * b.val + (l.val + 8 - 8)) % 8256
  omega

set_option maxHeartbeats 4000000 in
/-- The reference's state. -/
theorem outS (b : Fin 8) (i : Fin 4096) (k : Fin 128) : rOut m c (ix3 b i k)
    = Dec.state (rP m c) (rC m c) (rS m c) (rW m c) (rCb m c) (rDt m c) (rAl m c) b i k := by
  unfold rOut Value.res_main_v74
  generalize hA : Host.reduceWindowAdd (F := Ideal) _ _ _ _ _ _ _ _ = A
  have eA : ∀ (b l g r : Fin 8), A (ix4 b l g r) = Dec.cum (rP m c) (rDt m c) (rAl m c) b ⟨g.val * 8 + r.val, by omega⟩ l.val := by
    intro b l g r
    rw [← hA]
    unfold Host.reduceWindowAdd
    rw [Ideal.hostReduceWindowAdd_def]
    unfold Ideal.hostReduceWindowAdd
    refine cums8 _ _ ?_ _ _ b l g r _ fun i => ?_
    · intro y
      pointwise
    · pointwise []
      simp only [ne_eq, not_true_eq_false, ↓reduceIte]
      rw [zero_sub]
      refine congrArg₂ (· * ·) (stp_of (rP m c) (rDt m c) b ⟨g.val * 8 + r.val, by omega⟩ i.val i.isLt _ _ _ ?_ ?_ rfl) rfl
      · show 8192 + (b.val * 8 + i.val) = 8192 + 8 * b.val + i.val
        omega
      · rfl
  clear hA
  generalize hX : extractStridedSlice (s := S8x8x6144) S8x8x4096 ![0, 0, 0] _ _ = X
  generalize hB : extractStridedSlice (s := S8x8x6144) S8x8x1024 ![0, 0, 4096] _ _ = B
  generalize hD : select _ _ _ = D
  have eD : ∀ (b l : Fin 8) (h : Fin 64), D (ix3 b l h) = Dec.stp (rP m c) (rDt m c) b h l.val := by
    intro b l h
    rw [← hD]
    pointwise []
    simp only [ne_eq, not_true_eq_false, ↓reduceIte]
    refine stp_of (rP m c) (rDt m c) b h l.val l.isLt _ _ _ ?_ ?_ rfl
    · show 8192 + (b.val * 8 + l.val) = 8192 + 8 * b.val + l.val
      omega
    · rfl
  have eX : ∀ (b l : Fin 8) (j : Fin 4096), X (ix3 b l j) = Dec.act (rP m c) (rC m c) (rW m c) (rCb m c) b ⟨j.val, by omega⟩ l.val := by
    intro b l j
    rw [← hX]
    pointwise []
    have hl := l.isLt
    have hb := b.isLt
    unfold Dec.act
    refine act_of _ _ _ _ _ _ _ _ _ _ _ (ext_of _ _ b ⟨j.val, by omega⟩ l.val _ rfl (by omega) _ (fun _ => rfl) _ _ (fun _ => ?_) fun _ => ?_)
      (ext_of _ _ b ⟨j.val, by omega⟩ (1 + l.val) _ (by omega) (by omega) _ (fun _ => rfl) _ _ (fun _ => ?_) fun _ => ?_)
      (ext_of _ _ b ⟨j.val, by omega⟩ (2 + l.val) _ (by omega) (by omega) _ (fun _ => rfl) _ _ (fun _ => ?_) fun _ => ?_)
      (ext_top _ _ b ⟨j.val, by omega⟩ l _ _ ?_ ?_)
    · show 8192 + (b.val * 8 + (l.val - 3)) = _; omega
    · rfl
    · show 8192 + (b.val * 8 + (1 + l.val - 3)) = _; omega
    · rfl
    · show 8192 + (b.val * 8 + (2 + l.val - 3)) = _; omega
    · rfl
    · show 8192 + (b.val * 8 + l.val) = _; omega
    · rfl
  have eB : ∀ (b l : Fin 8) (j : Fin 1024), B (ix3 b l j) = Dec.act (rP m c) (rC m c) (rW m c) (rCb m c) b ⟨4096 + j.val, by omega⟩ l.val := by
    intro b l j
    rw [← hB]
    pointwise []
    have hl := l.isLt
    have hb := b.isLt
    unfold Dec.act
    refine act_of _ _ _ _ _ _ _ _ _ _ _ (ext_of _ _ b ⟨4096 + j.val, by omega⟩ l.val _ rfl (by omega) _ (fun _ => rfl) _ _ (fun _ => ?_) fun _ => ?_)
      (ext_of _ _ b ⟨4096 + j.val, by omega⟩ (1 + l.val) _ (by omega) (by omega) _ (fun _ => rfl) _ _ (fun _ => ?_) fun _ => ?_)
      (ext_of _ _ b ⟨4096 + j.val, by omega⟩ (2 + l.val) _ (by omega) (by omega) _ (fun _ => rfl) _ _ (fun _ => ?_) fun _ => ?_)
      (ext_top _ _ b ⟨4096 + j.val, by omega⟩ l _ _ ?_ ?_)
    · show 8192 + (b.val * 8 + (l.val - 3)) = _; omega
    · rfl
    · show 8192 + (b.val * 8 + (1 + l.val - 3)) = _; omega
    · rfl
    · show 8192 + (b.val * 8 + (2 + l.val - 3)) = _; omega
    · rfl
    · show 8192 + (b.val * 8 + l.val) = _; omega
    · rfl
  clear hX hB hD
  generalize hV : addf (F := Ideal) (mulf _ _) (Host.dotGeneral _ _ _ _) = V
  have eV : ∀ (b g r : Fin 8) (p : Fin 64) (n : Fin 128), V (ix5 b g r p n)
      = rS m c (ix4 b ⟨g.val * 8 + r.val, by omega⟩ p n) * Ideal.exp (A (ix4 b 7 g r))
        + ∑ x : Fin 8, Ideal.exp (A (ix4 b 7 g r) - A (ix4 b x g r))
          * (X (ix3 b x ⟨g.val * 512 + r.val * 64 + p.val, by omega⟩) * D (ix3 b x ⟨g.val * 8 + r.val, by omega⟩))
          * B (ix3 b x ⟨g.val * 128 + n.val, by omega⟩) := by
    intro b g r p n
    rw [← hV]
    clear hV
    generalize hL : mulf (F := Ideal) (s := S8x8x8x8x64) _ (mulf _ _) = L
    have eL : ∀ (b x g r : Fin 8) (p : Fin 64), L (ix5 b x g r p) = Ideal.exp (A (ix4 b 7 g r) - A (ix4 b x g r))
          * (X (ix3 b x ⟨g.val * 512 + r.val * 64 + p.val, by omega⟩) * D (ix3 b x ⟨g.val * 8 + r.val, by omega⟩)) := by
      intro b x g r p
      rw [← hL]
      pointwise []
    clear hL
    generalize hQ : shapeCast S8x8x8x64x128 (m (c.tc.loc main_arg2)) _ = Q
    have eQ : Q (ix5 b g r p n) = rS m c (ix4 b ⟨g.val * 8 + r.val, by omega⟩ p n) := by
      rw [← hQ]
      refine shapeCast_apply _ _ _ _ ?_
      refine (rowMajor_val4 _ (64 * (64 * 128)) (64 * 128) 128 rfl rfl rfl).trans (Eq.trans ?_ (rowMajor_val5 _ (8 * (8 * (64 * 128))) (8 * (64 * 128)) (64 * 128) 128 rfl rfl rfl rfl).symm)
      show b.val * (64 * (64 * 128)) + (g.val * 8 + r.val) * (64 * 128) + p.val * 128 + n.val
        = b.val * (8 * (8 * (64 * 128))) + g.val * (8 * (64 * 128)) + r.val * (64 * 128) + p.val * 128 + n.val
      omega
    clear hQ
    generalize hU : mulf (F := Ideal) (s := S8x8x8x64x128) _ _ = U
    have eU : U (ix5 b g r p n) = rS m c (ix4 b ⟨g.val * 8 + r.val, by omega⟩ p n) * Ideal.exp (A (ix4 b 7 g r)) := by
      rw [← hU, ← eQ]
      pointwise []
    clear hU
    generalize hW : shapeCast S8x8x8x128 B _ = W
    have eW : ∀ (b x g : Fin 8) (n : Fin 128), W (ix4 b x g n) = B (ix3 b x ⟨g.val * 128 + n.val, by omega⟩) := by
      intro b x g n
      rw [← hW]
      pointwise []
    clear hW
    refine congrArg₂ (· + ·) eU ?_
    simp only [← eL, ← eW]
    pointwise []
  clear hV
  pointwise []
  have hi := i.isLt
  rw [eV]
  unfold Dec.state
  simp only [eA, eD, eX, eB]
  have hh : (⟨i.val / 512 * 8 + i.val / 64 % 8, by omega⟩ : Fin 64) = ⟨i.val / 64, by omega⟩ := Fin.ext (by show i.val / 512 * 8 + i.val / 64 % 8 = i.val / 64; omega)
  have hk : (⟨i.val / 512 * 512 + i.val / 64 % 8 * 64 + i.val % 64, by omega⟩ : Fin 6144) = ⟨i.val, by omega⟩ :=
    Fin.ext (by show i.val / 512 * 512 + i.val / 64 % 8 * 64 + i.val % 64 = i.val; omega)
  rw [hh, hk]
  refine congrArg₂ (· + ·) rfl (Finset.sum_congr rfl fun x _ => ?_)
  rw [mul_comm (Ideal.exp _) (_ * _)]
  rfl

end Cert.SsdDecRefIdeal.Alg

end
-- ==== Proof.Rms.lean ====
/- The normed row shared by the calls: `x / sqrt (mean x² + ε) * g` in the order of operations the programs write. -/
module

public import Idealize.ShloMosaic.Lib.Pointwise

@[expose] public section

noncomputable section

open Idealize.ShloMosaic

namespace Cert.Dense

/-- Row `i`, lane `k` of the normed array: the mean is the sum over the 2048 lanes divided by the word of 2048, `ε` the word
    of 1e-6. -/
def normed {M : ℕ} (h : Vec Ideal ⟨2, ![M, 2048]⟩ .f32) (g : Vec Ideal ⟨1, ![2048]⟩ .f32) (i : Fin M) (k : Fin 2048) : EReal :=
  h (ix2 i k) * Ideal.rsqrt (Ideal.div (∑ x, h (ix2 i x) * h (ix2 i x)) (Ideal.ofBits FTy.f32 1157627904#32)
    + Ideal.ofBits FTy.f32 897988541#32) * g (ix1 k)

/-- A matrix with zero columns put on its right, at an index. -/
def widened {K N : ℕ} (N' : ℕ) (w : Vec Ideal ⟨2, ![K, N]⟩ .f32) (k : Fin K) (j : Fin N') : EReal :=
  if h : j.val < N then w (ix2 k ⟨j.val, h⟩) else 0

end Cert.Dense

end
-- ==== Proof.Ffn.lean ====
/- The half feed-forward call: what its carried blocks and its result hold at an index, and that this is the formula
   `h + 0.5 * ((silu (x @ w_gate) * (x @ w_up)) @ w_down)`, `x` the normed row, over the extended reals. -/
module

public import proofs.«01_k».proof.Proof.Rms
public import proofs.«01_k».proof.Proof.Gen.FfnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.FfnIdeal.Alg

open Cert.FfnIdeal Cert.FfnIdeal.Gen Cert.Dense

variable (m : (ℓ : Loc nD τ sig) → Buf (Elt Ideal) ℓ)

/-- The block indices of every window at every grid point. -/
theorem idx : ∀ t : Fin cfg0.N, win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 11
    ∧ win0_3.index t (0 : Fin 2) = 0 ∧ win0_3.index t (1 : Fin 2) = t.val % 11
    ∧ win0_4.index t (0 : Fin 2) = t.val % 11 ∧ win0_4.index t (1 : Fin 2) = 0 :=
  (by decide +kernel : ∀ t : Fin grid0.N, _)

/-- Array row of row `r` of the row tile of point `n` (the remainder changes nothing on the grid). -/
abbrev row (n : ℕ) (r : Fin 688) : Fin 8256 := ⟨(688 * (n / 11) + r.val) % 8256, Nat.mod_lt _ (by decide)⟩

/-- Hidden unit of lane `f` of the hidden tile `s`. -/
abbrev unit (s : ℕ) (f : Fin 512) : Fin 5632 := ⟨(512 * s + f.val) % 5632, Nat.mod_lt _ (by decide)⟩

/-- The hidden activation: `silu` of the gate times the up product. -/
def hidden (h : Vec Ideal S8256x2048 .f32) (g : Vec Ideal S2048 .f32) (wg wu : Vec Ideal S2048x5632 .f32)
    (i : Fin 8256) (j : Fin 5632) : EReal :=
  (∑ k, normed h g i k * wg (ix2 k j)) * Ideal.logistic (∑ k, normed h g i k * wg (ix2 k j))
    * ∑ k, normed h g i k * wu (ix2 k j)

variable (c : Dev nD)

/-- The activations' array at launch. -/
abbrev aH : Vec Ideal S8256x2048 .f32 := m ((c : Thread nD τ).loc main_arg0)
/-- The norm's weight at launch. -/
abbrev aG : Vec Ideal S2048 .f32 := m ((c : Thread nD τ).loc main_arg1)
/-- The gate weight at launch. -/
abbrev aWg : Vec Ideal S2048x5632 .f32 := m ((c : Thread nD τ).loc main_arg2)
/-- The up weight at launch. -/
abbrev aWu : Vec Ideal S2048x5632 .f32 := m ((c : Thread nD τ).loc main_arg3)
/-- The down weight at launch. -/
abbrev aWd : Vec Ideal S5632x2048 .f32 := m ((c : Thread nD τ).loc main_arg4)

/-- The row block read at a point. -/
theorem blkH (t : Fin cfg0.N) (r : Fin 688) (k : Fin 2048) : iblk m c 0 t (ix2 r k) = aH m c (ix2 (row t.val r) k) := by
  have ht : t.val < 132 := lt_of_lt_of_eq t.isLt N_0
  obtain ⟨e0, e1, -⟩ := idx t
  blk_ext! [iblk, V, e0, e1]

/-- The norm weight read at a point. -/
theorem blkG (t : Fin cfg0.N) (k : Fin 2048) : iblk m c 1 t (ix2 0 k) = aG m c (ix1 k) := by
  obtain ⟨-, -, e0, e1, -⟩ := idx t
  blk_ext! [iblk, V, e0, e1]

/-- The gate weight's block read at a point. -/
theorem blkWg (t : Fin cfg0.N) (k : Fin 2048) (f : Fin 512) :
    iblk m c 2 t (ix2 k f) = aWg m c (ix2 k (unit (t.val % 11) f)) := by
  obtain ⟨-, -, -, -, e0, e1, -⟩ := idx t
  blk_ext! [iblk, V, e0, e1]

/-- The up weight's block read at a point. -/
theorem blkWu (t : Fin cfg0.N) (k : Fin 2048) (f : Fin 512) :
    iblk m c 3 t (ix2 k f) = aWu m c (ix2 k (unit (t.val % 11) f)) := by
  obtain ⟨-, -, -, -, -, -, e0, e1, -⟩ := idx t
  blk_ext! [iblk, V, e0, e1]

/-- The down weight's block read at a point. -/
theorem blkWd (t : Fin cfg0.N) (f : Fin 512) (k : Fin 2048) :
    iblk m c 4 t (ix2 f k) = aWd m c (ix2 (unit (t.val % 11) f) k) := by
  obtain ⟨-, -, -, -, -, -, -, -, e0, e1⟩ := idx t
  blk_ext! [iblk, V, e0, e1]

/-- What one hidden tile adds to the result's row `i` and lane `k`. -/
def part (n s : ℕ) (r : Fin 688) (k : Fin 2048) : EReal :=
  ∑ f : Fin 512, hidden (aH m c) (aG m c) (aWg m c) (aWu m c) (row n r) (unit s f) * aWd m c (ix2 (unit s f) k)

/-- The payload that adds one hidden tile, over a normed block. -/
theorem pay3 (t : Fin cfg0.N) (xn : Vec Ideal S688x2048 .bf16) (acc : Vec Ideal S688x2048 .f32)
    (hx : ∀ r k, xn (ix2 r k) = normed (aH m c) (aG m c) (row t.val r) k) (r : Fin 688) (k : Fin 2048) :
    k0_pay3 xn (iblk m c 2 t) (iblk m c 3 t) acc (iblk m c 4 t) (ix2 r k)
      = acc (ix2 r k) + part m c t.val (t.val % 11) r k := by
  pointwise [k0_pay3, part, hidden]
  simp only [hx, blkWg, blkWu, blkWd]

/-- Points of one row tile name the same rows. -/
theorem row_congr {n n' : ℕ} (h : n / 11 = n' / 11) (r : Fin 688) : row n r = row n' r :=
  Fin.ext (congrArg (fun q => (688 * q + r.val) % 8256) h)

/-- A part depends on the point through its row tile alone. -/
theorem part_congr {n n' : ℕ} (h : n / 11 = n' / 11) (s : ℕ) (r : Fin 688) (k : Fin 2048) :
    part m c n s r k = part m c n' s r k := by
  unfold part; rw [row_congr h]

/-- After every point the first scratch holds the normed rows of the point's row tile, and the second the sum of the
    hidden tiles so far. -/
theorem carried : ∀ (n : ℕ) (hn : n < cfg0.N),
    (∀ r k, (outsAt0 m c n hn).2.1 (ix2 r k) = normed (aH m c) (aG m c) (row n r) k)
    ∧ ∀ r k, (outsAt0 m c n hn).2.2 (ix2 r k) = ∑ s ∈ Finset.range (n % 11 + 1), part m c n s r k := by
  intro n
  induction n using Nat.strong_induction_on with
  | _ n ih =>
  intro hn
  by_cases h0 : n % 11 = 0
  · have hx : ∀ r k, k0_pay1 (iblk m c 0 ⟨n, hn⟩) (iblk m c 1 ⟨n, hn⟩) (ix2 r k)
        = normed (aH m c) (aG m c) (row n r) k := fun r k => by
      pointwise [k0_pay1, normed]
      simp only [blkH, blkG]
    have e := outsAt0_A m c ⟨n, hn⟩ h0 (by dsimp only; omega)
    dsimp only at e
    rw [e]
    constructor
    · intro r k
      frame_out
      exact hx r k
    · intro r k
      frame_out
      rw [pay3 m c ⟨n, hn⟩ _ _ hx r k]
      dsimp only
      rw [h0, Finset.sum_range_one]
      pointwise [k0_pay2]
  · have hp : n - 1 < n := by omega
    obtain ⟨i1, i2⟩ := ih (n - 1) hp (lt_trans hp hn)
    have hd : (n - 1) / 11 = n / 11 := by omega
    have hm : (n - 1) % 11 + 1 = n % 11 := by omega
    have hx : ∀ r k, (outsAt0 m c (n - 1) (lt_trans hp hn)).2.1 (ix2 r k) = normed (aH m c) (aG m c) (row n r) k :=
      fun r k => by rw [i1 r k, row_congr hd]
    have hs : ∀ r k, (outsAt0 m c (n - 1) (lt_trans hp hn)).2.2 (ix2 r k) + part m c n (n % 11) r k
        = ∑ s ∈ Finset.range (n % 11 + 1), part m c n s r k := fun r k => by
      rw [i2 r k, hm, Finset.sum_range_succ]
      congr 1
      exact Finset.sum_congr rfl fun s _ => part_congr m c hd s r k
    by_cases h1 : n % 11 = 10
    · have e := outsAt0_C m c ⟨n, hn⟩ h0 h1
      dsimp only at e
      rw [e]
      constructor
      · exact hx
      · intro r k
        frame_out
        simp only [read_unread_whole]
        rw [pay3 m c ⟨n, hn⟩ _ _ hx r k]
        exact hs r k
    · have e := outsAt0_B m c ⟨n, hn⟩ h0 h1
      dsimp only at e
      rw [e]
      constructor
      · exact hx
      · intro r k
        frame_out
        simp only [read_unread_whole]
        rw [pay3 m c ⟨n, hn⟩ _ _ hx r k]
        exact hs r k

/-- At the last hidden tile of a row tile the output block is the row block plus half the whole sum. -/
theorem written (t : Fin cfg0.N) (h1 : t.val % 11 = 10) (r : Fin 688) (k : Fin 2048) :
    (outsAt0 m c t.val t.isLt).1 (ix2 r k) = aH m c (ix2 (row t.val r) k)
      + Ideal.ofBits FTy.f32 1056964608#32 * ∑ s ∈ Finset.range 11, part m c t.val s r k := by
  have h2 := (carried m c t.val t.isLt).2 r k
  have h0 : ¬ t.val % 11 = 0 := by omega
  rw [h1] at h2
  rw [← h2, outsAt0_C m c t h0 h1]
  frame_out
  pointwise [k0_pay4]
  rw [blkH]

/-- The hidden tiles' parts are the contraction over all hidden units. -/
theorem parts (n : ℕ) (r : Fin 688) (k : Fin 2048) : ∑ s ∈ Finset.range 11, part m c n s r k
    = ∑ j : Fin 5632, hidden (aH m c) (aG m c) (aWg m c) (aWu m c) (row n r) j * aWd m c (ix2 j k) := by
  rw [Finset.sum_range]
  unfold part
  refine Fin.sum_mul_add_congr (fun s f hl => ?_)
  have e : unit s.val f = ⟨s.val * 512 + f.val, hl⟩ := Fin.ext (by show (512 * s.val + f.val) % 5632 = s.val * 512 + f.val; omega)
  rw [e]

/-- The kernel's result array is the reference's. -/
theorem result (i : Fin 8256) (k : Fin 2048) : Value.G5 m c (ix2 i k) = aH m c (ix2 i k)
    + Ideal.ofBits FTy.f32 1056964608#32 * ∑ j : Fin 5632, hidden (aH m c) (aG m c) (aWg m c) (aWu m c) i j * aWd m c (ix2 j k) := by
  have hN : cfg0.N = 132 := N_0
  have hi := i.isLt
  have hk := k.isLt
  have hlt : Value.pt5Of (ix2 i k) < cfg0.N := by
    show 11 * (1 * (i.val / 688 - 0) + 1 * (k.val / 2048 - 0)) + 10 < cfg0.N
    omega
  have hpt : Value.pt5Of (ix2 i k) = 11 * (i.val / 688) + 10 := by
    show 11 * (1 * (i.val / 688 - 0) + 1 * (k.val / 2048 - 0)) + 10 = _
    omega
  have hloc : Value.loc5Of (ix2 i k) = ix2 ⟨i.val % 688, Nat.mod_lt _ (by decide)⟩ k := by
    funext a
    match a with
    | ⟨0, _⟩ => rfl
    | ⟨1, _⟩ => exact Fin.ext (Nat.mod_eq_of_lt hk)
  unfold Value.G5
  rw [dif_pos hlt, ← Value.outsAt0_sweep m c _ hlt, hloc,
    written m c ⟨_, hlt⟩ (by dsimp only; omega), parts]
  have hrow : row (Value.pt5Of (ix2 i k)) ⟨i.val % 688, Nat.mod_lt _ (by decide)⟩ = i := by
    apply Fin.ext
    show (688 * (Value.pt5Of (ix2 i k) / 11) + i.val % 688) % 8256 = i.val
    omega
  dsimp only
  rw [hrow]

end Cert.FfnIdeal.Alg

end
-- ==== Proof.SsdIn.lean ====
module

public import proofs.«01_k».proof.Proof.Rms
public import proofs.«01_k».proof.Proof.Gen.SsdInIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SsdInIdeal.Alg

open Cert.SsdInIdeal Cert.SsdInIdeal.Gen Cert.Dense

variable (m : (ℓ : Loc nD τ sig) → Buf (Elt Ideal) ℓ)

/-- The block indices of every input window at every grid point. -/
theorem idx : ∀ t : Fin cfg0.N, win0_0.index t (0 : Fin 2) = t.val / 7 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 7 :=
  (by decide +kernel : ∀ t : Fin grid0.N, _)

/-- Array row of row `r` of the row tile of point `n` (the remainder changes nothing on the grid). -/
abbrev row (n : ℕ) (r : Fin 688) : Fin 8256 := ⟨(688 * (n / 7) + r.val) % 8256, Nat.mod_lt _ (by decide)⟩

/-- Array column of lane `f` of the column tile of point `n`. -/
abbrev col (n : ℕ) (f : Fin 1536) : Fin 10752 := ⟨(1536 * (n % 7) + f.val) % 10752, Nat.mod_lt _ (by decide)⟩

/-- Points of one row tile name the same rows. -/
theorem row_congr {n n' : ℕ} (h : n / 7 = n' / 7) (r : Fin 688) : row n r = row n' r :=
  Fin.ext (congrArg (fun q => (688 * q + r.val) % 8256) h)

variable (c : Dev nD)

/-- The activations' array at launch. -/
abbrev aH : Vec Ideal S8256x2048 .f32 := m ((c : Thread nD τ).loc main_arg0)
/-- The norm's weight at launch. -/
abbrev aG : Vec Ideal S2048 .f32 := m ((c : Thread nD τ).loc main_arg1)
/-- The projection's weight at launch. -/
abbrev aW : Vec Ideal S2048x10304 .f32 := m ((c : Thread nD τ).loc main_arg2)

open StableHlo in
/-- The widened weight the host hands the kernel. -/
theorem entryW : (V m c main_v1 : Vec Ideal S2048x10752 .bf16) = truncf (F := Ideal) .bf16 (pad S2048x10752 ![0, 0] ![0, 448] ![0, 0] (aW m c)
    (sitofp (F := Ideal) .f32 (constantI S_ 32 0#32)) pads_S2048x10304_S2048x10752_000_04480 h_S_) bitsLt_bf16_f32 := by
  show after [hostOps0, hostOps0_1, hostOps0_2].flatten (fun b => m (c, b)) (Proc.tc.devRef main_v1) = _
  simp only [List.flatten_cons, List.flatten_nil, List.append_nil, List.cons_append, List.nil_append, hostOps0, hostOps0_1, hostOps0_2, TRef.binary, TRef.nullary, TRef.unary, TRef.toBuf, TRef.ofBuf, cast_eq]
  after_results_simp

open StableHlo in
/-- The norm's weight as the host hands it to the kernel. -/
theorem entryG : (V m c main_v2 : Vec Ideal S1x2048 .f32) = shapeCast S1x2048 (aG m c) shapeCasts_S2048_S1x2048 := by
  show after [hostOps0, hostOps0_1, hostOps0_2].flatten (fun b => m (c, b)) (Proc.tc.devRef main_v2) = _
  simp only [List.flatten_cons, List.flatten_nil, List.append_nil, List.cons_append, List.nil_append, hostOps0, hostOps0_1, hostOps0_2, TRef.binary, TRef.nullary, TRef.unary, TRef.toBuf, TRef.ofBuf, cast_eq]
  after_results_simp
  rfl

/-- The row block read at a point. -/
theorem blkH (t : Fin cfg0.N) (r : Fin 688) (k : Fin 2048) : iblk m c 0 t (ix2 r k) = aH m c (ix2 (row t.val r) k) := by
  have ht : t.val < 84 := lt_of_lt_of_eq t.isLt N_0
  obtain ⟨e0, e1, -⟩ := idx t
  blk_ext! [iblk, V, e0, e1]

/-- The norm weight read at a point. -/
theorem blkG (t : Fin cfg0.N) (k : Fin 2048) : iblk m c 1 t (ix2 0 k) = aG m c (ix1 k) := by
  obtain ⟨-, -, e0, e1, -⟩ := idx t
  blk_simp [iblk]
  rw [entryG]
  pointwise
  exact congrArg (fun a => aG m c (ix1 a)) (Fin.ext (by blk_simp [e0, e1]))

/-- The widened weight's block read at a point. -/
theorem blkW (t : Fin cfg0.N) (k : Fin 2048) (f : Fin 1536) :
    iblk m c 2 t (ix2 k f) = widened 10752 (aW m c) k (col t.val f) := by
  obtain ⟨-, -, -, -, e0, e1⟩ := idx t
  have hf := f.isLt
  unfold widened
  blk_simp [iblk]
  have he : (win0_2.blk t).view.emb (ix2 k f) = ix2 k (col t.val f) := by
    refine funext fun a => Fin.ext ?_
    match a with
    | ⟨0, _⟩ => blk_simp [e0, e1]
    | ⟨1, _⟩ =>
      blk_simp [e0, e1]
      show _ = (1536 * (t.val % 7) + f.val) % 10752
      omega
  rw [entryW, he]
  pointwise
  rw [show (FloatOps.sitofp FTy.f32 0#32 : Ideal FTy.f32) = 0 from by simp [FloatOps.sitofp]]

/-- The first payload leaves the normed rows of the point's row tile. -/
theorem pay1 (t : Fin cfg0.N) (r : Fin 688) (k : Fin 2048) :
    k0_pay1 (iblk m c 0 t) (iblk m c 1 t) (ix2 r k) = normed (aH m c) (aG m c) (row t.val r) k := by
  pointwise [k0_pay1, normed]
  simp only [blkH, blkG]

/-- After every point the scratch holds the normed rows of the point's row tile. -/
theorem carried : ∀ (n : ℕ) (hn : n < cfg0.N) (r : Fin 688) (k : Fin 2048),
    (outsAt0 m c n hn).2 (ix2 r k) = normed (aH m c) (aG m c) (row n r) k := by
  intro n
  induction n using Nat.strong_induction_on with
  | _ n ih =>
  intro hn r k
  by_cases h0 : n % 7 = 0
  · have e := outsAt0_A m c ⟨n, hn⟩ h0
    dsimp only at e
    rw [e]
    frame_out
    exact pay1 m c ⟨n, hn⟩ r k
  · have e := outsAt0_B m c ⟨n, hn⟩ h0
    have hp : n - 1 < n := by omega
    dsimp only at e
    rw [e]
    exact (ih (n - 1) hp (lt_trans hp hn) r k).trans (by rw [row_congr (show (n - 1) / 7 = n / 7 by omega)])

/-- The output block at every point: the projected normed rows at the point's columns. -/
theorem written (t : Fin cfg0.N) (r : Fin 688) (f : Fin 1536) : (outsAt0 m c t.val t.isLt).1 (ix2 r f)
    = ∑ k : Fin 2048, normed (aH m c) (aG m c) (row t.val r) k * widened 10752 (aW m c) k (col t.val f) := by
  by_cases h0 : t.val % 7 = 0
  · rw [outsAt0_A m c t h0]
    frame_out
    try simp only [read_unread_whole]
    pointwise [k0_pay2]
    simp only [pay1, blkW]
  · have hc := carried m c (t.val - 1) (lt_of_le_of_lt (Nat.sub_le _ _) t.isLt)
    rw [outsAt0_B m c t h0]
    frame_out
    try simp only [read_unread_whole]
    pointwise [k0_pay2]
    simp only [hc, blkW, row_congr (show (t.val - 1) / 7 = t.val / 7 by omega)]

/-- The kernel's result array: the normed rows times the weight. -/
theorem result (i : Fin 8256) (j : Fin 10752) : Value.G3 m c (ix2 i j)
    = ∑ k : Fin 2048, normed (aH m c) (aG m c) i k * widened 10752 (aW m c) k j := by
  have hN : cfg0.N = 84 := N_0
  have hi := i.isLt
  have hj := j.isLt
  have hpt : Value.pt3Of (ix2 i j) = 7 * (i.val / 688) + j.val / 1536 := by
    show 7 * (i.val / 688 - 0) + 1 * (j.val / 1536 - 0) = _
    omega
  have hlt : Value.pt3Of (ix2 i j) < cfg0.N := by rw [hpt, hN]; omega
  have hloc : Value.loc3Of (ix2 i j) = ix2 ⟨i.val % 688, Nat.mod_lt _ (by decide)⟩ ⟨j.val % 1536, Nat.mod_lt _ (by decide)⟩ := by
    funext a
    match a with
    | ⟨0, _⟩ => rfl
    | ⟨1, _⟩ => rfl
  have hrow : row (Value.pt3Of (ix2 i j)) ⟨i.val % 688, Nat.mod_lt _ (by decide)⟩ = i := by
    apply Fin.ext
    show (688 * (Value.pt3Of (ix2 i j) / 7) + i.val % 688) % 8256 = i.val
    omega
  have hcol : col (Value.pt3Of (ix2 i j)) ⟨j.val % 1536, Nat.mod_lt _ (by decide)⟩ = j := by
    apply Fin.ext
    show (1536 * (Value.pt3Of (ix2 i j) % 7) + j.val % 1536) % 10752 = j.val
    omega
  unfold Value.G3
  rw [dif_pos hlt, ← Value.outsAt0_sweep m c _ hlt, hloc, written m c ⟨_, hlt⟩]
  simp only [hrow, hcol]

end Cert.SsdInIdeal.Alg

end
-- ==== Proof.NsaIn.lean ====
module

public import proofs.«01_k».proof.Proof.Rms
public import proofs.«01_k».proof.Proof.Gen.NsaInIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.NsaInIdeal.Alg

open Cert.NsaInIdeal Cert.NsaInIdeal.Gen Cert.Dense

variable (m : (ℓ : Loc nD τ sig) → Buf (Elt Ideal) ℓ)

/-- The block indices of every input window at every grid point. -/
theorem idx : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4 :=
  (by decide +kernel : ∀ t : Fin grid0.N, _)

/-- Array row of row `r` of the row tile of point `n` (the remainder changes nothing on the grid). -/
abbrev row (n : ℕ) (r : Fin 688) : Fin 8256 := ⟨(688 * (n / 4) + r.val) % 8256, Nat.mod_lt _ (by decide)⟩

/-- Array column of lane `f` of the column tile of point `n`. -/
abbrev col (n : ℕ) (f : Fin 1408) : Fin 5632 := ⟨(1408 * (n % 4) + f.val) % 5632, Nat.mod_lt _ (by decide)⟩

/-- Points of one row tile name the same rows. -/
theorem row_congr {n n' : ℕ} (h : n / 4 = n' / 4) (r : Fin 688) : row n r = row n' r :=
  Fin.ext (congrArg (fun q => (688 * q + r.val) % 8256) h)

variable (c : Dev nD)

/-- The activations' array at launch. -/
abbrev aH : Vec Ideal S8256x2048 .f32 := m ((c : Thread nD τ).loc main_arg0)
/-- The norm's weight at launch. -/
abbrev aG : Vec Ideal S2048 .f32 := m ((c : Thread nD τ).loc main_arg1)
/-- The projection's weight at launch. -/
abbrev aW : Vec Ideal S2048x5168 .f32 := m ((c : Thread nD τ).loc main_arg2)

open StableHlo in
/-- The widened weight the host hands the kernel. -/
theorem entryW : (V m c main_v1 : Vec Ideal S2048x5632 .bf16) = truncf (F := Ideal) .bf16 (pad S2048x5632 ![0, 0] ![0, 464] ![0, 0] (aW m c)
    (sitofp (F := Ideal) .f32 (constantI S_ 32 0#32)) pads_S2048x5168_S2048x5632_000_04640 h_S_) bitsLt_bf16_f32 := by
  show after [hostOps0, hostOps0_1, hostOps0_2].flatten (fun b => m (c, b)) (Proc.tc.devRef main_v1) = _
  simp only [List.flatten_cons, List.flatten_nil, List.append_nil, List.cons_append, List.nil_append, hostOps0, hostOps0_1, hostOps0_2, TRef.binary, TRef.nullary, TRef.unary, TRef.toBuf, TRef.ofBuf, cast_eq]
  after_results_simp

open StableHlo in
/-- The norm's weight as the host hands it to the kernel. -/
theorem entryG : (V m c main_v2 : Vec Ideal S1x2048 .f32) = shapeCast S1x2048 (aG m c) shapeCasts_S2048_S1x2048 := by
  show after [hostOps0, hostOps0_1, hostOps0_2].flatten (fun b => m (c, b)) (Proc.tc.devRef main_v2) = _
  simp only [List.flatten_cons, List.flatten_nil, List.append_nil, List.cons_append, List.nil_append, hostOps0, hostOps0_1, hostOps0_2, TRef.binary, TRef.nullary, TRef.unary, TRef.toBuf, TRef.ofBuf, cast_eq]
  after_results_simp
  rfl

/-- The row block read at a point. -/
theorem blkH (t : Fin cfg0.N) (r : Fin 688) (k : Fin 2048) : iblk m c 0 t (ix2 r k) = aH m c (ix2 (row t.val r) k) := by
  have ht : t.val < 48 := lt_of_lt_of_eq t.isLt N_0
  obtain ⟨e0, e1, -⟩ := idx t
  blk_ext! [iblk, V, e0, e1]

/-- The norm weight read at a point. -/
theorem blkG (t : Fin cfg0.N) (k : Fin 2048) : iblk m c 1 t (ix2 0 k) = aG m c (ix1 k) := by
  obtain ⟨-, -, e0, e1, -⟩ := idx t
  blk_simp [iblk]
  rw [entryG]
  pointwise
  exact congrArg (fun a => aG m c (ix1 a)) (Fin.ext (by blk_simp [e0, e1]))

/-- The widened weight's block read at a point. -/
theorem blkW (t : Fin cfg0.N) (k : Fin 2048) (f : Fin 1408) :
    iblk m c 2 t (ix2 k f) = widened 5632 (aW m c) k (col t.val f) := by
  obtain ⟨-, -, -, -, e0, e1⟩ := idx t
  have hf := f.isLt
  unfold widened
  blk_simp [iblk]
  have he : (win0_2.blk t).view.emb (ix2 k f) = ix2 k (col t.val f) := by
    refine funext fun a => Fin.ext ?_
    match a with
    | ⟨0, _⟩ => blk_simp [e0, e1]
    | ⟨1, _⟩ =>
      blk_simp [e0, e1]
      show _ = (1408 * (t.val % 4) + f.val) % 5632
      omega
  rw [entryW, he]
  pointwise
  rw [show (FloatOps.sitofp FTy.f32 0#32 : Ideal FTy.f32) = 0 from by simp [FloatOps.sitofp]]

/-- The first payload leaves the normed rows of the point's row tile. -/
theorem pay1 (t : Fin cfg0.N) (r : Fin 688) (k : Fin 2048) :
    k0_pay1 (iblk m c 0 t) (iblk m c 1 t) (ix2 r k) = normed (aH m c) (aG m c) (row t.val r) k := by
  pointwise [k0_pay1, normed]
  simp only [blkH, blkG]

/-- After every point the scratch holds the normed rows of the point's row tile. -/
theorem carried : ∀ (n : ℕ) (hn : n < cfg0.N) (r : Fin 688) (k : Fin 2048),
    (outsAt0 m c n hn).2 (ix2 r k) = normed (aH m c) (aG m c) (row n r) k := by
  intro n
  induction n using Nat.strong_induction_on with
  | _ n ih =>
  intro hn r k
  by_cases h0 : n % 4 = 0
  · have e := outsAt0_A m c ⟨n, hn⟩ h0
    dsimp only at e
    rw [e]
    frame_out
    exact pay1 m c ⟨n, hn⟩ r k
  · have e := outsAt0_B m c ⟨n, hn⟩ h0
    have hp : n - 1 < n := by omega
    dsimp only at e
    rw [e]
    exact (ih (n - 1) hp (lt_trans hp hn) r k).trans (by rw [row_congr (show (n - 1) / 4 = n / 4 by omega)])

/-- The output block at every point: the projected normed rows at the point's columns. -/
theorem written (t : Fin cfg0.N) (r : Fin 688) (f : Fin 1408) : (outsAt0 m c t.val t.isLt).1 (ix2 r f)
    = ∑ k : Fin 2048, normed (aH m c) (aG m c) (row t.val r) k * widened 5632 (aW m c) k (col t.val f) := by
  by_cases h0 : t.val % 4 = 0
  · rw [outsAt0_A m c t h0]
    frame_out
    try simp only [read_unread_whole]
    pointwise [k0_pay2]
    simp only [pay1, blkW]
  · have hc := carried m c (t.val - 1) (lt_of_le_of_lt (Nat.sub_le _ _) t.isLt)
    rw [outsAt0_B m c t h0]
    frame_out
    try simp only [read_unread_whole]
    pointwise [k0_pay2]
    simp only [hc, blkW, row_congr (show (t.val - 1) / 4 = t.val / 4 by omega)]

/-- The kernel's result array: the normed rows times the weight. -/
theorem result (i : Fin 8256) (j : Fin 5632) : Value.G3 m c (ix2 i j)
    = ∑ k : Fin 2048, normed (aH m c) (aG m c) i k * widened 5632 (aW m c) k j := by
  have hN : cfg0.N = 48 := N_0
  have hi := i.isLt
  have hj := j.isLt
  have hpt : Value.pt3Of (ix2 i j) = 4 * (i.val / 688) + j.val / 1408 := by
    show 4 * (i.val / 688 - 0) + 1 * (j.val / 1408 - 0) = _
    omega
  have hlt : Value.pt3Of (ix2 i j) < cfg0.N := by rw [hpt, hN]; omega
  have hloc : Value.loc3Of (ix2 i j) = ix2 ⟨i.val % 688, Nat.mod_lt _ (by decide)⟩ ⟨j.val % 1408, Nat.mod_lt _ (by decide)⟩ := by
    funext a
    match a with
    | ⟨0, _⟩ => rfl
    | ⟨1, _⟩ => rfl
  have hrow : row (Value.pt3Of (ix2 i j)) ⟨i.val % 688, Nat.mod_lt _ (by decide)⟩ = i := by
    apply Fin.ext
    show (688 * (Value.pt3Of (ix2 i j) / 4) + i.val % 688) % 8256 = i.val
    omega
  have hcol : col (Value.pt3Of (ix2 i j)) ⟨j.val % 1408, Nat.mod_lt _ (by decide)⟩ = j := by
    apply Fin.ext
    show (1408 * (Value.pt3Of (ix2 i j) % 4) + j.val % 1408) % 5632 = j.val
    omega
  unfold Value.G3
  rw [dif_pos hlt, ← Value.outsAt0_sweep m c _ hlt, hloc, written m c ⟨_, hlt⟩]
  simp only [hrow, hcol]

end Cert.NsaInIdeal.Alg

end
-- ==== Proof.MobaIn.lean ====
module

public import proofs.«01_k».proof.Proof.Rms
public import proofs.«01_k».proof.Proof.Gen.MobaInIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.MobaInIdeal.Alg

open Cert.MobaInIdeal Cert.MobaInIdeal.Gen Cert.Dense

variable (m : (ℓ : Loc nD τ sig) → Buf (Elt Ideal) ℓ)

/-- The block indices of every input window at every grid point. -/
theorem idx : ∀ t : Fin cfg0.N, win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 2 :=
  (by decide +kernel : ∀ t : Fin grid0.N, _)

/-- Array row of row `r` of the row tile of point `n` (the remainder changes nothing on the grid). -/
abbrev row (n : ℕ) (r : Fin 688) : Fin 8256 := ⟨(688 * (n / 2) + r.val) % 8256, Nat.mod_lt _ (by decide)⟩

/-- Array column of lane `f` of the column tile of point `n`. -/
abbrev col (n : ℕ) (f : Fin 1536) : Fin 3072 := ⟨(1536 * (n % 2) + f.val) % 3072, Nat.mod_lt _ (by decide)⟩

/-- Points of one row tile name the same rows. -/
theorem row_congr {n n' : ℕ} (h : n / 2 = n' / 2) (r : Fin 688) : row n r = row n' r :=
  Fin.ext (congrArg (fun q => (688 * q + r.val) % 8256) h)

variable (c : Dev nD)

/-- The activations' array at launch. -/
abbrev aH : Vec Ideal S8256x2048 .f32 := m ((c : Thread nD τ).loc main_arg0)
/-- The norm's weight at launch. -/
abbrev aG : Vec Ideal S2048 .f32 := m ((c : Thread nD τ).loc main_arg1)
/-- The projection's weight at launch. -/
abbrev aW : Vec Ideal S2048x3072 .f32 := m ((c : Thread nD τ).loc main_arg2)

/-- The row block read at a point. -/
theorem blkH (t : Fin cfg0.N) (r : Fin 688) (k : Fin 2048) : iblk m c 0 t (ix2 r k) = aH m c (ix2 (row t.val r) k) := by
  have ht : t.val < 24 := lt_of_lt_of_eq t.isLt N_0
  obtain ⟨e0, e1, -⟩ := idx t
  blk_ext! [iblk, V, e0, e1]

/-- The norm weight read at a point. -/
theorem blkG (t : Fin cfg0.N) (k : Fin 2048) : iblk m c 1 t (ix2 0 k) = aG m c (ix1 k) := by
  obtain ⟨-, -, e0, e1, -⟩ := idx t
  blk_ext! [iblk, V, e0, e1]

/-- The weight's block read at a point. -/
theorem blkW (t : Fin cfg0.N) (k : Fin 2048) (f : Fin 1536) : iblk m c 2 t (ix2 k f) = aW m c (ix2 k (col t.val f)) := by
  obtain ⟨-, -, -, -, e0, e1⟩ := idx t
  blk_ext! [iblk, V, e0, e1]

/-- The first payload leaves the normed rows of the point's row tile. -/
theorem pay1 (t : Fin cfg0.N) (r : Fin 688) (k : Fin 2048) :
    k0_pay1 (iblk m c 0 t) (iblk m c 1 t) (ix2 r k) = normed (aH m c) (aG m c) (row t.val r) k := by
  pointwise [k0_pay1, normed]
  simp only [blkH, blkG]

/-- After every point the scratch holds the normed rows of the point's row tile. -/
theorem carried : ∀ (n : ℕ) (hn : n < cfg0.N) (r : Fin 688) (k : Fin 2048),
    (outsAt0 m c n hn).2 (ix2 r k) = normed (aH m c) (aG m c) (row n r) k := by
  intro n
  induction n using Nat.strong_induction_on with
  | _ n ih =>
  intro hn r k
  by_cases h0 : n % 2 = 0
  · have e := outsAt0_A m c ⟨n, hn⟩ h0
    dsimp only at e
    rw [e]
    frame_out
    exact pay1 m c ⟨n, hn⟩ r k
  · have e := outsAt0_B m c ⟨n, hn⟩ h0
    have hp : n - 1 < n := by omega
    dsimp only at e
    rw [e]
    exact (ih (n - 1) hp (lt_trans hp hn) r k).trans (by rw [row_congr (show (n - 1) / 2 = n / 2 by omega)])

/-- The output block at every point: the projected normed rows at the point's columns. -/
theorem written (t : Fin cfg0.N) (r : Fin 688) (f : Fin 1536) : (outsAt0 m c t.val t.isLt).1 (ix2 r f)
    = ∑ k : Fin 2048, normed (aH m c) (aG m c) (row t.val r) k * aW m c (ix2 k (col t.val f)) := by
  by_cases h0 : t.val % 2 = 0
  · rw [outsAt0_A m c t h0]
    frame_out
    try simp only [read_unread_whole]
    pointwise [k0_pay2]
    simp only [pay1, blkW]
  · have hc := carried m c (t.val - 1) (lt_of_le_of_lt (Nat.sub_le _ _) t.isLt)
    rw [outsAt0_B m c t h0]
    frame_out
    try simp only [read_unread_whole]
    pointwise [k0_pay2]
    simp only [hc, blkW, row_congr (show (t.val - 1) / 2 = t.val / 2 by omega)]

/-- The kernel's result array: the normed rows times the weight. -/
theorem result (i : Fin 8256) (j : Fin 3072) : Value.G3 m c (ix2 i j)
    = ∑ k : Fin 2048, normed (aH m c) (aG m c) i k * aW m c (ix2 k j) := by
  have hN : cfg0.N = 24 := N_0
  have hi := i.isLt
  have hj := j.isLt
  have hpt : Value.pt3Of (ix2 i j) = 2 * (i.val / 688) + j.val / 1536 := by
    show 2 * (i.val / 688 - 0) + 1 * (j.val / 1536 - 0) = _
    omega
  have hlt : Value.pt3Of (ix2 i j) < cfg0.N := by rw [hpt, hN]; omega
  have hloc : Value.loc3Of (ix2 i j) = ix2 ⟨i.val % 688, Nat.mod_lt _ (by decide)⟩ ⟨j.val % 1536, Nat.mod_lt _ (by decide)⟩ := by
    funext a
    match a with
    | ⟨0, _⟩ => rfl
    | ⟨1, _⟩ => rfl
  have hrow : row (Value.pt3Of (ix2 i j)) ⟨i.val % 688, Nat.mod_lt _ (by decide)⟩ = i := by
    apply Fin.ext
    show (688 * (Value.pt3Of (ix2 i j) / 2) + i.val % 688) % 8256 = i.val
    omega
  have hcol : col (Value.pt3Of (ix2 i j)) ⟨j.val % 1536, Nat.mod_lt _ (by decide)⟩ = j := by
    apply Fin.ext
    show (1536 * (Value.pt3Of (ix2 i j) % 2) + j.val % 1536) % 3072 = j.val
    omega
  unfold Value.G3
  rw [dif_pos hlt, ← Value.outsAt0_sweep m c _ hlt, hloc, written m c ⟨_, hlt⟩]
  simp only [hrow, hcol]

end Cert.MobaInIdeal.Alg

end
-- ==== Proof.SsdOut.lean ====
module

public import proofs.«01_k».proof.Proof.Gen.SsdOutIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.SsdOutIdeal.Alg

open Cert.SsdOutIdeal Cert.SsdOutIdeal.Gen

variable (m : (ℓ : Loc nD τ sig) → Buf (Elt Ideal) ℓ) (c : Dev nD)

/-- The block indices of the windows at every grid point: the row tile runs slow, the column tile fast. -/
theorem idx : ∀ t : Fin cfg0.N, win0_0.index t (0 : Fin 2) = t.val / 4
    ∧ win0_0.index t (1 : Fin 2) = 0
    ∧ win0_1.index t (0 : Fin 2) = 0
    ∧ win0_1.index t (1 : Fin 2) = t.val % 4
    ∧ win0_2.index t (0 : Fin 2) = t.val / 4
    ∧ win0_2.index t (1 : Fin 2) = t.val % 4
    ∧ win0_3.index t (0 : Fin 2) = t.val / 4
    ∧ win0_3.index t (1 : Fin 2) = t.val % 4 :=
  (by decide +kernel : ∀ t : Fin grid0.N, _)

/-- The mixer's output rows at launch. -/
abbrev aY : Vec Ideal S8256x4096 .f32 := m ((c : Thread nD τ).loc main_arg0)
/-- The out-projection's weight at launch. -/
abbrev aW : Vec Ideal S4096x2048 .f32 := m ((c : Thread nD τ).loc main_arg1)
/-- The residual rows at launch. -/
abbrev aH : Vec Ideal S8256x2048 .f32 := m ((c : Thread nD τ).loc main_arg2)

/-- The kernel's result array: the residual plus the projected rows. -/
def out : Vec Ideal S8256x2048 .f32 := fun y =>
  aH m c y + ∑ k : Fin 4096, aY m c (ix2 (y 0) k) * aW m c (ix2 k (y 1))

/-- The blocks the grid writes make up that array. -/
theorem result : (dats m 0 c).arrAt 3 cfg0.N = out m c := by
  refine (dats m 0 c).arrAt_eq_of_covers 3 _ (by decide +kernel) fun t hf y => ?_
  obtain ⟨e0, e1, e2, e3, e4, e5, e6, e7⟩ := idx t
  blk_simp
  rw [after0_3]
  frame_out
  idx_vars y
  pointwise [k0_pay1, out]
  blk_point [iblk, V, e0, e1, e2, e3, e4, e5, e6, e7]

end Cert.SsdOutIdeal.Alg

end
-- ==== Proof.AttOut.lean ====
module

public import proofs.«01_k».proof.Proof.Gen.AttOutIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttOutIdeal.Alg

open Cert.AttOutIdeal Cert.AttOutIdeal.Gen

variable (m : (ℓ : Loc nD τ sig) → Buf (Elt Ideal) ℓ) (c : Dev nD)

/-- The block indices of the windows at every grid point: the row tile runs slow, the column tile fast. -/
theorem idx : ∀ t : Fin cfg0.N, win0_0.index t (0 : Fin 2) = t.val / 4
    ∧ win0_0.index t (1 : Fin 2) = 0
    ∧ win0_1.index t (0 : Fin 2) = 0
    ∧ win0_1.index t (1 : Fin 2) = t.val % 4
    ∧ win0_2.index t (0 : Fin 2) = t.val / 4
    ∧ win0_2.index t (1 : Fin 2) = t.val % 4
    ∧ win0_3.index t (0 : Fin 2) = t.val / 4
    ∧ win0_3.index t (1 : Fin 2) = t.val % 4 :=
  (by decide +kernel : ∀ t : Fin grid0.N, _)

/-- The mixer's output rows at launch. -/
abbrev aY : Vec Ideal S8256x2048 .f32 := m ((c : Thread nD τ).loc main_arg0)
/-- The out-projection's weight at launch. -/
abbrev aW : Vec Ideal S2048x2048 .f32 := m ((c : Thread nD τ).loc main_arg1)
/-- The residual rows at launch. -/
abbrev aH : Vec Ideal S8256x2048 .f32 := m ((c : Thread nD τ).loc main_arg2)

/-- The kernel's result array: the residual plus the projected rows. -/
def out : Vec Ideal S8256x2048 .f32 := fun y =>
  aH m c y + ∑ k : Fin 2048, aY m c (ix2 (y 0) k) * aW m c (ix2 k (y 1))

/-- The blocks the grid writes make up that array. -/
theorem result : (dats m 0 c).arrAt 3 cfg0.N = out m c := by
  refine (dats m 0 c).arrAt_eq_of_covers 3 _ (by decide +kernel) fun t hf y => ?_
  obtain ⟨e0, e1, e2, e3, e4, e5, e6, e7⟩ := idx t
  blk_simp
  rw [after0_3]
  frame_out
  idx_vars y
  pointwise [k0_pay1, out]
  blk_point [iblk, V, e0, e1, e2, e3, e4, e5, e6, e7]

end Cert.AttOutIdeal.Alg

end
-- ==== Proof.FinalNorm.lean ====
module

public import proofs.«01_k».proof.Proof.Rms
public import proofs.«01_k».proof.Proof.Gen.FinalNormIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FinalNormIdeal.Alg

open Cert.FinalNormIdeal Cert.FinalNormIdeal.Gen

variable (m : (ℓ : Loc nD τ sig) → Buf (Elt Ideal) ℓ) (c : Dev nD)

/-- The block indices of the windows at every grid point: the row tile runs slow, the column tile fast. -/
theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The rows at launch. -/
abbrev aH : Vec Ideal S8256x2048 .f32 := m ((c : Thread nD τ).loc main_arg0)
/-- The norm's weight at launch. -/
abbrev aG : Vec Ideal S2048 .f32 := m ((c : Thread nD τ).loc main_arg1)

/-- The kernel's result array: the normed rows. -/
def out : Vec Ideal S8256x2048 .f32 := fun y => Cert.Dense.normed (aH m c) (aG m c) (y 0) (y 1)

/-- The blocks the grid writes make up that array. -/
theorem result : (dats m 0 c).arrAt 2 cfg0.N = out m c := by
  refine (dats m 0 c).arrAt_eq_of_covers 2 _ (by decide +kernel) fun t hf y => ?_
  obtain ⟨e0, e1, e2, e3, e4, e5⟩ := idx t
  blk_simp
  rw [after0_2]
  frame_out
  idx_vars y
  pointwise [k0_pay1, out, Cert.Dense.normed]
  blk_point [iblk, V, e0, e1, e2, e3, e4, e5]

end Cert.FinalNormIdeal.Alg

end
-- ==== Proof.lean ====
/- The claims about the two mixing calls and the dense calls: each terminates with its arguments kept, and over the extended reals each leaves in
   its result array what the formula of reference.py leaves in its own. -/
module

public import proofs.«01_k».proof.Defs
public import proofs.«01_k».proof.Proof.Gen.Ssd.Frame
public import proofs.«01_k».proof.Proof.Gen.SsdIdeal.Value
public import proofs.«01_k».proof.Proof.Gen.SsdRefIdeal.Run
public import proofs.«01_k».proof.Proof.SsdKerB
public import proofs.«01_k».proof.Proof.SsdRefD
public import proofs.«01_k».proof.Proof.Gen.SsdDec.Frame
public import proofs.«01_k».proof.Proof.Gen.SsdDecIdeal.Value
public import proofs.«01_k».proof.Proof.Gen.SsdDecRefIdeal.Run
public import proofs.«01_k».proof.Proof.DecKer
public import proofs.«01_k».proof.Proof.DecRef
public import proofs.«01_k».proof.Proof.DecVal
public import proofs.«01_k».proof.Proof.DecRefS
public import proofs.«01_k».proof.Proof.Gen.Ffn.Frame
public import proofs.«01_k».proof.Proof.Gen.FfnIdeal.Value
public import proofs.«01_k».proof.Proof.Gen.FfnRefIdeal.Run
public import proofs.«01_k».proof.Proof.Ffn
public import proofs.«01_k».proof.Proof.Gen.SsdIn.Frame
public import proofs.«01_k».proof.Proof.Gen.SsdInIdeal.Value
public import proofs.«01_k».proof.Proof.Gen.SsdInRefIdeal.Run
public import proofs.«01_k».proof.Proof.SsdIn
public import proofs.«01_k».proof.Proof.Gen.NsaIn.Frame
public import proofs.«01_k».proof.Proof.Gen.NsaInIdeal.Value
public import proofs.«01_k».proof.Proof.Gen.NsaInRefIdeal.Run
public import proofs.«01_k».proof.Proof.NsaIn
public import proofs.«01_k».proof.Proof.Gen.MobaIn.Frame
public import proofs.«01_k».proof.Proof.Gen.MobaInIdeal.Value
public import proofs.«01_k».proof.Proof.Gen.MobaInRefIdeal.Run
public import proofs.«01_k».proof.Proof.MobaIn
public import proofs.«01_k».proof.Proof.Gen.SsdOut.Frame
public import proofs.«01_k».proof.Proof.Gen.SsdOutIdeal.Value
public import proofs.«01_k».proof.Proof.Gen.SsdOutRefIdeal.Run
public import proofs.«01_k».proof.Proof.SsdOut
public import proofs.«01_k».proof.Proof.Gen.AttOut.Frame
public import proofs.«01_k».proof.Proof.Gen.AttOutIdeal.Value
public import proofs.«01_k».proof.Proof.Gen.AttOutRefIdeal.Run
public import proofs.«01_k».proof.Proof.AttOut
public import proofs.«01_k».proof.Proof.Gen.FinalNorm.Frame
public import proofs.«01_k».proof.Proof.Gen.FinalNormIdeal.Value
public import proofs.«01_k».proof.Proof.Gen.FinalNormRefIdeal.Run
public import proofs.«01_k».proof.Proof.FinalNorm
public import Idealize.ShloMosaic.Adequacy
public import Idealize.ShloMosaic.Init
public import Idealize.ShloMosaic.Lib.Quiescent
public import Idealize.ShloMosaic.Lib.Pointwise

@[expose] public section

noncomputable section

namespace Cert.Proof

open Idealize.ShloMosaic Idealize.SL.Sem

/-- The reference of `Ssd` terminates with its arguments kept. -/
theorem quiescent_SsdRefIdeal : quiescent_SsdRefIdeal := fun m ρ _ =>
  (θ_run Cert.SsdRefIdeal.defs _ _).mono (fun r h => ⟨fun c => (h c).2.2.2, sem_eq_zero_of_no_sems (by decide) r.2⟩)
    (Cert.SsdRefIdeal.Value.run (F := Ideal) m ρ)

/-- `Ssd` and its reference, launched on the same arguments, end with the same three result arrays over the extended
    reals: the gated and normed rows, the rows kept for the next call and the state kept for the next call. -/
theorem algebraic_SsdIdeal_SsdRefIdeal : algebraic_SsdIdeal_SsdRefIdeal := by
  intro m ρ m' ρ' _ hagree
  refine ⟨_, _, _, Cert.SsdIdeal.Value.run (F := Ideal) m ρ, ?_⟩
  refine (θ_run Cert.SsdRefIdeal.defs _ _).mono (fun _ h c => ⟨?_, ?_, ?_, (h c).2.2.2⟩) (Cert.SsdRefIdeal.Value.run (F := Ideal) m' ρ')
  all_goals
    obtain ⟨a0, a1, a2, a3, a4, a5, a6⟩ := hagree c
    have e0 : Cert.SsdRefIdeal.Alg.rP m' c = Cert.SsdIdeal.Alg.aP m c := a0
    have e1 : Cert.SsdRefIdeal.Alg.rW m' c = Cert.SsdIdeal.Alg.aW m c := a1
    have e2 : Cert.SsdRefIdeal.Alg.rCb m' c = Cert.SsdIdeal.Alg.aCb m c := a2
    have e3 : Cert.SsdRefIdeal.Alg.rDt m' c = Cert.SsdIdeal.Alg.aDt m c := a3
    have e4 : Cert.SsdRefIdeal.Alg.rAl m' c = Cert.SsdIdeal.Alg.aAl m c := a4
    have e5 : Cert.SsdRefIdeal.Alg.rDk m' c = Cert.SsdIdeal.Alg.aDk m c := a5
    have e6 : Cert.SsdRefIdeal.Alg.rNw m' c = Cert.SsdIdeal.Alg.aNw m c := a6
  · rw [(h c).1]
    funext y
    obtain ⟨R, r, rfl⟩ : ∃ (R : Fin 8192) (r : Fin 4096), y = ix2 R r := ⟨y 0, y 1, eq_ix2 y⟩
    refine (Cert.SsdRefIdeal.Alg.outY m' c R r).trans (Eq.trans ?_ (Cert.SsdIdeal.Alg.resultY m c R r).symm)
    rw [e0, e1, e2, e3, e4, e5, e6]
  · rw [(h c).2.1]
    funext y
    obtain ⟨b, r, j, rfl⟩ : ∃ (b : Fin 2) (r : Fin 3) (j : Fin 6144), y = ix3 b r j := ⟨y 0, y 1, y 2, eq_ix3 y⟩
    refine (Cert.SsdRefIdeal.Alg.outC m' c b r j).trans (Eq.trans ?_ (Cert.SsdIdeal.Alg.resultC m c b r j).symm)
    rw [e0]
  · rw [(h c).2.2.1]
    funext y
    obtain ⟨b, i, k, rfl⟩ : ∃ (b : Fin 2) (i : Fin 4096) (k : Fin 128), y = ix3 b i k := ⟨y 0, y 1, y 2, eq_ix3 y⟩
    refine (Cert.SsdRefIdeal.Alg.outS m' c b i k).trans (Eq.trans ?_ (Cert.SsdIdeal.Alg.resultS m c b i k).symm)
    rw [e0, e1, e2, e3, e4]

/-- The reference of `SsdDec` terminates with its arguments kept. -/
theorem quiescent_SsdDecRefIdeal : quiescent_SsdDecRefIdeal := fun m ρ _ =>
  (θ_run Cert.SsdDecRefIdeal.defs _ _).mono (fun r h => ⟨fun c => (h c).2.2, sem_eq_zero_of_no_sems (by decide) r.2⟩)
    (Cert.SsdDecRefIdeal.Value.run (F := Ideal) m ρ)

/-- `SsdDec` and its reference, launched on the same arguments, end with the same two result arrays over the extended
    reals: the convolution rows kept for the next call and the state kept for the next call. -/
theorem algebraic_SsdDecIdeal_SsdDecRefIdeal : algebraic_SsdDecIdeal_SsdDecRefIdeal := by
  intro m ρ m' ρ' _ hagree
  refine ⟨_, _, (θ_run Cert.SsdDecIdeal.defs _ _).mono (fun r h c => ⟨(h c).2.1, (h c).2.2.1, (h c).2.2.2⟩)
    (Cert.SsdDecIdeal.Value.run_blocks (F := Ideal) m ρ), ?_⟩
  refine (θ_run Cert.SsdDecRefIdeal.defs _ _).mono (fun _ h c => ⟨?_, ?_, (h c).2.2⟩) (Cert.SsdDecRefIdeal.Value.run (F := Ideal) m' ρ')
  · rw [(h c).1]
    funext y
    obtain ⟨b, r, j, rfl⟩ : ∃ (b : Fin 8) (r : Fin 3) (j : Fin 6144), y = ix3 b r j := ⟨y 0, y 1, y 2, eq_ix3 y⟩
    refine (Cert.SsdDecRefIdeal.Alg.outC _ _ b r j).trans (Eq.trans ?_ (Cert.SsdDecIdeal.Alg.resultC m c b r j).symm)
    exact congrFun (hagree c).1 _
  · rw [(h c).2.1]
    funext y
    obtain ⟨b, i, k, rfl⟩ : ∃ (b : Fin 8) (i : Fin 4096) (k : Fin 128), y = ix3 b i k := ⟨y 0, y 1, y 2, eq_ix3 y⟩
    refine (Cert.SsdDecRefIdeal.Alg.outS m' c b i k).trans (Eq.trans ?_ (Cert.SsdDecIdeal.Alg.resultS m c b i k).symm)
    have a := hagree c
    have e0 : Cert.SsdDecRefIdeal.Alg.rP m' c = Cert.SsdDecIdeal.Alg.aP m c := a.1
    have e1 : Cert.SsdDecRefIdeal.Alg.rC m' c = Cert.SsdDecIdeal.Alg.aC m c := a.2.1
    have e2 : Cert.SsdDecRefIdeal.Alg.rS m' c = Cert.SsdDecIdeal.Alg.aS m c := a.2.2.1
    have e3 : Cert.SsdDecRefIdeal.Alg.rW m' c = Cert.SsdDecIdeal.Alg.aW m c := a.2.2.2.1
    have e4 : Cert.SsdDecRefIdeal.Alg.rCb m' c = Cert.SsdDecIdeal.Alg.aCb m c := a.2.2.2.2.1
    have e5 : Cert.SsdDecRefIdeal.Alg.rDt m' c = Cert.SsdDecIdeal.Alg.aDt m c := a.2.2.2.2.2.1
    have e6 : Cert.SsdDecRefIdeal.Alg.rAl m' c = Cert.SsdDecIdeal.Alg.aAl m c := a.2.2.2.2.2.2.1
    rw [e0, e1, e2, e3, e4, e5, e6]

/-- The reference of `Ffn` terminates with its arguments kept. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- `Ffn` and its reference, launched on the same arguments, end with the same result array over the extended reals. -/
theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  simp only [hagree c]
  funext y
  idx_vars y
  refine Eq.trans ?_ (Cert.FfnIdeal.Alg.result m c _ _).symm
  pointwise [Cert.FfnIdeal.Alg.hidden, Cert.Dense.normed, Ideal.logistic]

/-- The reference of `SsdIn` terminates with its arguments kept. -/
theorem quiescent_SsdInRefIdeal : quiescent_SsdInRefIdeal := fun m ρ _ =>
  (θ_run Cert.SsdInRefIdeal.defs _ _).mono (fun r h => ⟨fun c => (h c).2, sem_eq_zero_of_no_sems (by decide) r.2⟩)
    (Cert.SsdInRefIdeal.Value.run (F := Ideal) m ρ)

/-- `SsdIn` and its reference, launched on the same arguments, end with the same result array over the extended reals. -/
theorem algebraic_SsdInIdeal_SsdInRefIdeal : algebraic_SsdInIdeal_SsdInRefIdeal := by
  intro m ρ m' ρ' _ hagree
  refine ⟨_, Cert.SsdInIdeal.Value.run (F := Ideal) m ρ, ?_⟩
  refine (θ_run Cert.SsdInRefIdeal.defs _ _).mono (fun _ h c => ⟨?_, (h c).2⟩) (Cert.SsdInRefIdeal.Value.run (F := Ideal) m' ρ')
  rw [(h c).1]
  simp only [hagree c]
  funext y
  idx_vars y
  refine Eq.trans ?_ (Cert.SsdInIdeal.Alg.result m c _ _).symm
  pointwise [Cert.Dense.normed, Cert.Dense.widened]
  by_cases hj : y1.val < 10304
  · simp only [dif_pos hj]
  · simp only [dif_neg hj, mul_zero, Finset.sum_const_zero]
    simp [FloatOps.sitofp]

/-- The reference of `NsaIn` terminates with its arguments kept. -/
theorem quiescent_NsaInRefIdeal : quiescent_NsaInRefIdeal := fun m ρ _ =>
  (θ_run Cert.NsaInRefIdeal.defs _ _).mono (fun r h => ⟨fun c => (h c).2, sem_eq_zero_of_no_sems (by decide) r.2⟩)
    (Cert.NsaInRefIdeal.Value.run (F := Ideal) m ρ)

/-- `NsaIn` and its reference, launched on the same arguments, end with the same result array over the extended reals. -/
theorem algebraic_NsaInIdeal_NsaInRefIdeal : algebraic_NsaInIdeal_NsaInRefIdeal := by
  intro m ρ m' ρ' _ hagree
  refine ⟨_, Cert.NsaInIdeal.Value.run (F := Ideal) m ρ, ?_⟩
  refine (θ_run Cert.NsaInRefIdeal.defs _ _).mono (fun _ h c => ⟨?_, (h c).2⟩) (Cert.NsaInRefIdeal.Value.run (F := Ideal) m' ρ')
  rw [(h c).1]
  simp only [hagree c]
  funext y
  idx_vars y
  refine Eq.trans ?_ (Cert.NsaInIdeal.Alg.result m c _ _).symm
  pointwise [Cert.Dense.normed, Cert.Dense.widened]
  by_cases hj : y1.val < 5168
  · simp only [dif_pos hj]
  · simp only [dif_neg hj, mul_zero, Finset.sum_const_zero]
    simp [FloatOps.sitofp]

/-- The reference of `MobaIn` terminates with its arguments kept. -/
theorem quiescent_MobaInRefIdeal : quiescent_MobaInRefIdeal := fun m ρ _ =>
  (θ_run Cert.MobaInRefIdeal.defs _ _).mono (fun r h => ⟨fun c => (h c).2, sem_eq_zero_of_no_sems (by decide) r.2⟩)
    (Cert.MobaInRefIdeal.Value.run (F := Ideal) m ρ)

/-- `MobaIn` and its reference, launched on the same arguments, end with the same result array over the extended reals. -/
theorem algebraic_MobaInIdeal_MobaInRefIdeal : algebraic_MobaInIdeal_MobaInRefIdeal := by
  intro m ρ m' ρ' _ hagree
  refine ⟨_, Cert.MobaInIdeal.Value.run (F := Ideal) m ρ, ?_⟩
  refine (θ_run Cert.MobaInRefIdeal.defs _ _).mono (fun _ h c => ⟨?_, (h c).2⟩) (Cert.MobaInRefIdeal.Value.run (F := Ideal) m' ρ')
  rw [(h c).1]
  simp only [hagree c]
  funext y
  idx_vars y
  refine Eq.trans ?_ (Cert.MobaInIdeal.Alg.result m c _ _).symm
  pointwise [Cert.Dense.normed, Cert.Dense.widened]

/-- The reference of `SsdOut` terminates with its arguments kept. -/
theorem quiescent_SsdOutRefIdeal : quiescent_SsdOutRefIdeal := fun m ρ _ =>
  (θ_run Cert.SsdOutRefIdeal.defs _ _).mono (fun r h => ⟨fun c => (h c).2, sem_eq_zero_of_no_sems (by decide) r.2⟩)
    (Cert.SsdOutRefIdeal.Value.run (F := Ideal) m ρ)

/-- `SsdOut` and its reference, launched on the same arguments, end with the same result array over the extended reals. -/
theorem algebraic_SsdOutIdeal_SsdOutRefIdeal : algebraic_SsdOutIdeal_SsdOutRefIdeal := by
  intro m ρ m' ρ' _ hagree
  refine ⟨_, Cert.SsdOutIdeal.Value.run_blocks (F := Ideal) m ρ, ?_⟩
  refine (θ_run Cert.SsdOutRefIdeal.defs _ _).mono (fun _ h c => ⟨?_, (h c).2⟩) (Cert.SsdOutRefIdeal.Value.run (F := Ideal) m' ρ')
  rw [(h c).1]
  simp only [hagree c]
  refine Eq.trans ?_ (Cert.SsdOutIdeal.Alg.result m c).symm
  funext y
  idx_vars y
  pointwise [Cert.SsdOutIdeal.Alg.out, Cert.Dense.normed]

/-- The reference of `AttOut` terminates with its arguments kept. -/
theorem quiescent_AttOutRefIdeal : quiescent_AttOutRefIdeal := fun m ρ _ =>
  (θ_run Cert.AttOutRefIdeal.defs _ _).mono (fun r h => ⟨fun c => (h c).2, sem_eq_zero_of_no_sems (by decide) r.2⟩)
    (Cert.AttOutRefIdeal.Value.run (F := Ideal) m ρ)

/-- `AttOut` and its reference, launched on the same arguments, end with the same result array over the extended reals. -/
theorem algebraic_AttOutIdeal_AttOutRefIdeal : algebraic_AttOutIdeal_AttOutRefIdeal := by
  intro m ρ m' ρ' _ hagree
  refine ⟨_, Cert.AttOutIdeal.Value.run_blocks (F := Ideal) m ρ, ?_⟩
  refine (θ_run Cert.AttOutRefIdeal.defs _ _).mono (fun _ h c => ⟨?_, (h c).2⟩) (Cert.AttOutRefIdeal.Value.run (F := Ideal) m' ρ')
  rw [(h c).1]
  simp only [hagree c]
  refine Eq.trans ?_ (Cert.AttOutIdeal.Alg.result m c).symm
  funext y
  idx_vars y
  pointwise [Cert.AttOutIdeal.Alg.out, Cert.Dense.normed]

/-- The reference of `FinalNorm` terminates with its arguments kept. -/
theorem quiescent_FinalNormRefIdeal : quiescent_FinalNormRefIdeal := fun m ρ _ =>
  (θ_run Cert.FinalNormRefIdeal.defs _ _).mono (fun r h => ⟨fun c => (h c).2, sem_eq_zero_of_no_sems (by decide) r.2⟩)
    (Cert.FinalNormRefIdeal.Value.run (F := Ideal) m ρ)

/-- `FinalNorm` and its reference, launched on the same arguments, end with the same result array over the extended reals. -/
theorem algebraic_FinalNormIdeal_FinalNormRefIdeal : algebraic_FinalNormIdeal_FinalNormRefIdeal := by
  intro m ρ m' ρ' _ hagree
  refine ⟨_, Cert.FinalNormIdeal.Value.run_blocks (F := Ideal) m ρ, ?_⟩
  refine (θ_run Cert.FinalNormRefIdeal.defs _ _).mono (fun _ h c => ⟨?_, (h c).2⟩) (Cert.FinalNormRefIdeal.Value.run (F := Ideal) m' ρ')
  rw [(h c).1]
  simp only [hagree c]
  refine Eq.trans ?_ (Cert.FinalNormIdeal.Alg.result m c).symm
  funext y
  idx_vars y
  pointwise [Cert.FinalNormIdeal.Alg.out, Cert.Dense.normed]

/-- All the claims. -/
theorem claim : Cert.Claim := ⟨Cert.Ssd.Gen.facts, Cert.SsdIdeal.Gen.facts, Cert.SsdRefIdeal.Gen.facts, Cert.SsdDec.Gen.facts, Cert.SsdDecIdeal.Gen.facts, Cert.SsdDecRefIdeal.Gen.facts, Cert.Ffn.Gen.facts, Cert.FfnIdeal.Gen.facts, Cert.FfnRefIdeal.Gen.facts, Cert.SsdIn.Gen.facts, Cert.SsdInIdeal.Gen.facts, Cert.SsdInRefIdeal.Gen.facts, Cert.NsaIn.Gen.facts, Cert.NsaInIdeal.Gen.facts, Cert.NsaInRefIdeal.Gen.facts, Cert.MobaIn.Gen.facts, Cert.MobaInIdeal.Gen.facts, Cert.MobaInRefIdeal.Gen.facts, Cert.SsdOut.Gen.facts, Cert.SsdOutIdeal.Gen.facts, Cert.SsdOutRefIdeal.Gen.facts, Cert.AttOut.Gen.facts, Cert.AttOutIdeal.Gen.facts, Cert.AttOutRefIdeal.Gen.facts, Cert.FinalNorm.Gen.facts, Cert.FinalNormIdeal.Gen.facts, Cert.FinalNormRefIdeal.Gen.facts,
  fun m ρ _ => Cert.Ssd.Gen.frame m ρ, fun m ρ _ => Cert.SsdIdeal.Gen.frame m ρ, quiescent_SsdRefIdeal,
  fun m ρ _ => Cert.SsdDec.Gen.frame m ρ, fun m ρ _ => Cert.SsdDecIdeal.Gen.frame m ρ, quiescent_SsdDecRefIdeal,
  fun m ρ _ => Cert.Ffn.Gen.frame m ρ, fun m ρ _ => Cert.FfnIdeal.Gen.frame m ρ, quiescent_FfnRefIdeal,
  fun m ρ _ => Cert.SsdIn.Gen.frame m ρ, fun m ρ _ => Cert.SsdInIdeal.Gen.frame m ρ, quiescent_SsdInRefIdeal,
  fun m ρ _ => Cert.NsaIn.Gen.frame m ρ, fun m ρ _ => Cert.NsaInIdeal.Gen.frame m ρ, quiescent_NsaInRefIdeal,
  fun m ρ _ => Cert.MobaIn.Gen.frame m ρ, fun m ρ _ => Cert.MobaInIdeal.Gen.frame m ρ, quiescent_MobaInRefIdeal,
  fun m ρ _ => Cert.SsdOut.Gen.frame m ρ, fun m ρ _ => Cert.SsdOutIdeal.Gen.frame m ρ, quiescent_SsdOutRefIdeal,
  fun m ρ _ => Cert.AttOut.Gen.frame m ρ, fun m ρ _ => Cert.AttOutIdeal.Gen.frame m ρ, quiescent_AttOutRefIdeal,
  fun m ρ _ => Cert.FinalNorm.Gen.frame m ρ, fun m ρ _ => Cert.FinalNormIdeal.Gen.frame m ρ, quiescent_FinalNormRefIdeal,
  (trivial : preserves_Ssd_SsdIdeal), algebraic_SsdIdeal_SsdRefIdeal,
  (trivial : preserves_SsdDec_SsdDecIdeal), algebraic_SsdDecIdeal_SsdDecRefIdeal,
  (trivial : preserves_Ffn_FfnIdeal), algebraic_FfnIdeal_FfnRefIdeal,
  (trivial : preserves_SsdIn_SsdInIdeal), algebraic_SsdInIdeal_SsdInRefIdeal,
  (trivial : preserves_NsaIn_NsaInIdeal), algebraic_NsaInIdeal_NsaInRefIdeal,
  (trivial : preserves_MobaIn_MobaInIdeal), algebraic_MobaInIdeal_MobaInRefIdeal,
  (trivial : preserves_SsdOut_SsdOutIdeal), algebraic_SsdOutIdeal_SsdOutRefIdeal,
  (trivial : preserves_AttOut_AttOutIdeal), algebraic_AttOutIdeal_AttOutRefIdeal,
  (trivial : preserves_FinalNorm_FinalNormIdeal), algebraic_FinalNormIdeal_FinalNormRefIdeal⟩

end Cert.Proof

end
